-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_routed [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_routed [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_routed : Cert.Pre_routed.Facts),
    quiescent_Kernel (hKernel := hKernel)
    ∧ quiescent_KernelIdeal (hKernelIdeal := hKernelIdeal)
    ∧ quiescent_KernelIdeal_pre_routed (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ preserves_Kernel_KernelIdeal
    ∧ algebraic_KernelIdeal_ReferenceIdeal_pre_routed (hKernelIdeal := hKernelIdeal) (hReferenceIdeal := hReferenceIdeal) (hPre_routed := hPre_routed)
-- ==== Pre_routed.lean ====
abbrev S4x16384x4096 : Shape := ⟨3, ![4, 16384, 4096]⟩
abbrev S4x16384 : Shape := ⟨2, ![4, 16384]⟩
abbrev S4096x128 : Shape := ⟨2, ![4096, 128]⟩
abbrev S4x16384x8 : Shape := ⟨3, ![4, 16384, 8]⟩
abbrev S_ : Shape := ⟨0, ![]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S4x16384x8x1 : Shape := ⟨4, ![4, 16384, 8, 1]⟩
abbrev S4x16384x1x8 : Shape := ⟨4, ![4, 16384, 1, 8]⟩
abbrev S4x16384x8x8 : Shape := ⟨4, ![4, 16384, 8, 8]⟩
abbrev S1x1x8x8 : Shape := ⟨4, ![1, 1, 8, 8]⟩

class Facts : Prop where
  bcast_S_S4x16384x8 : S_.BroadcastsInDim S4x16384x8 (![] : Fin 0 → Fin S4x16384x8.rank)
  reducesTo_S4x16384x8_S_d0_1_2 : S4x16384x8.ReducesTo [0, 1, 2] S_
  h_S_ : 0 < S_.numel
  bcast_S8_S8x1_0 : S8.BroadcastsInDim S8x1 (![0] : Fin 1 → Fin S8x1.rank)
  bcast_S8_S1x8_1 : S8.BroadcastsInDim S1x8 (![1] : Fin 1 → Fin S1x8.rank)
  bcast_S8x1_S8x8_0_1 : S8x1.BroadcastsInDim S8x8 (![0, 1] : Fin 2 → Fin S8x8.rank)
  bcast_S1x8_S8x8_0_1 : S1x8.BroadcastsInDim S8x8 (![0, 1] : Fin 2 → Fin S8x8.rank)
  bcast_S4x16384x8_S4x16384x8x1_0_1_2 : S4x16384x8.BroadcastsInDim S4x16384x8x1 (![0, 1, 2] : Fin 3 → Fin S4x16384x8x1.rank)
  bcast_S4x16384x8_S4x16384x1x8_0_1_3 : S4x16384x8.BroadcastsInDim S4x16384x1x8 (![0, 1, 3] : Fin 3 → Fin S4x16384x1x8.rank)
  bcast_S4x16384x8x1_S4x16384x8x8_0_1_2_3 : S4x16384x8x1.BroadcastsInDim S4x16384x8x8 (![0, 1, 2, 3] : Fin 4 → Fin S4x16384x8x8.rank)
  bcast_S4x16384x1x8_S4x16384x8x8_0_1_2_3 : S4x16384x1x8.BroadcastsInDim S4x16384x8x8 (![0, 1, 2, 3] : Fin 4 → Fin S4x16384x8x8.rank)
  bcast_S8x8_S1x1x8x8_2_3 : S8x8.BroadcastsInDim S1x1x8x8 (![2, 3] : Fin 2 → Fin S1x1x8x8.rank)
  bcast_S1x1x8x8_S4x16384x8x8_0_1_2_3 : S1x1x8x8.BroadcastsInDim S4x16384x8x8 (![0, 1, 2, 3] : Fin 4 → Fin S4x16384x8x8.rank)
  reducesTo_S4x16384x8x8_S_d0_1_2_3 : S4x16384x8x8.ReducesTo [0, 1, 2, 3] S_
  bitsLt_bf16_f32 : FTy.bits .bf16 < FTy.bits .f32

variable [Facts]

def fn_part1 {F : FTy → Type} [FloatOps F] (main_arg4 : FVec F S4x16384x8 .bf16) (main_v5 : IVec S_ 1) (main_v20 : IVec S4x16384x8x8 1) : IVec S_ 1 :=
  let main_v21 : IVec S4x16384x8x8 1 := noti main_v20
  let main_c_2 : IVec S_ 1 := constantI S_ 1 1#1
  let main_v22 : IVec S_ 1 := (fun x v => Host.reduce IntOp.andi x v reducesTo_S4x16384x8x8_S_d0_1_2_3 h_S_) main_v21 main_c_2
  let main_v23 : FVec F S4x16384x8 .f32 := (extf .f32 · bitsLt_bf16_f32) main_arg4
  let main_cst : FVec F S_ .f32 := constant S_ .f32 0x3F800008#32
  let main_v24 : FVec F S4x16384x8 .f32 := broadcastInDim S4x16384x8 ![] bcast_S_S4x16384x8 main_cst
  let main_v25 : IVec S4x16384x8 1 := cmpf .une main_v23 main_v24
  let main_c_3 : IVec S_ 1 := constantI S_ 1 1#1
  let main_v26 : IVec S_ 1 := (fun x v => Host.reduce IntOp.andi x v reducesTo_S4x16384x8_S_d0_1_2 h_S_) main_v25 main_c_3
  let main_v27 : IVec S_ 1 := andi main_v5 main_v22
  let main_v28 : IVec S_ 1 := andi main_v27 main_v26
  main_v28

def fn {F : FTy → Type} [FloatOps F] (main_arg0 : FVec F S4x16384x4096 .fp8e4m3) (main_arg1 : FVec F S4x16384 .f32) (main_arg2 : FVec F S4096x128 .bf16) (main_arg3 : IVec S4x16384x8 32) (main_arg4 : FVec F S4x16384x8 .bf16) : IVec S_ 1 :=
  let main_c : IVec S_ 32 := constantI S_ 32 0#32
  let main_v0 : IVec S4x16384x8 32 := broadcastInDim S4x16384x8 ![] bcast_S_S4x16384x8 main_c
  let main_v1 : IVec S4x16384x8 1 := cmpi .sge main_arg3 main_v0
  let main_c_0 : IVec S_ 32 := constantI S_ 32 128#32
  let main_v2 : IVec S4x16384x8 32 := broadcastInDim S4x16384x8 ![] bcast_S_S4x16384x8 main_c_0
  let main_v3 : IVec S4x16384x8 1 := cmpi .slt main_arg3 main_v2
  let main_v4 : IVec S4x16384x8 1 := andi main_v1 main_v3
  let main_c_1 : IVec S_ 1 := constantI S_ 1 1#1
  let main_v5 : IVec S_ 1 := (fun x v => Host.reduce IntOp.andi x v reducesTo_S4x16384x8_S_d0_1_2 h_S_) main_v4 main_c_1
  let main_v6 : IVec S8 32 := iotaInDim S8 32 0
  let main_v7 : IVec S8x1 32 := broadcastInDim S8x1 ![0] bcast_S8_S8x1_0 main_v6
  let main_v8 : IVec S8 32 := iotaInDim S8 32 0
  let main_v9 : IVec S1x8 32 := broadcastInDim S1x8 ![1] bcast_S8_S1x8_1 main_v8
  let main_v10 : IVec S8x8 32 := broadcastInDim S8x8 ![0, 1] bcast_S8x1_S8x8_0_1 main_v7
  let main_v11 : IVec S8x8 32 := broadcastInDim S8x8 ![0, 1] bcast_S1x8_S8x8_0_1 main_v9
  let main_v12 : IVec S8x8 1 := cmpi .slt main_v10 main_v11
  let main_v13 : IVec S4x16384x8x1 32 := broadcastInDim S4x16384x8x1 ![0, 1, 2] bcast_S4x16384x8_S4x16384x8x1_0_1_2 main_arg3
  let main_v14 : IVec S4x16384x1x8 32 := broadcastInDim S4x16384x1x8 ![0, 1, 3] bcast_S4x16384x8_S4x16384x1x8_0_1_3 main_arg3
  let main_v15 : IVec S4x16384x8x8 32 := broadcastInDim S4x16384x8x8 ![0, 1, 2, 3] bcast_S4x16384x8x1_S4x16384x8x8_0_1_2_3 main_v13
  let main_v16 : IVec S4x16384x8x8 32 := broadcastInDim S4x16384x8x8 ![0, 1, 2, 3] bcast_S4x16384x1x8_S4x16384x8x8_0_1_2_3 main_v14
  let main_v17 : IVec S4x16384x8x8 1 := cmpi .eq main_v15 main_v16
  let main_v18 : IVec S1x1x8x8 1 := broadcastInDim S1x1x8x8 ![2, 3] bcast_S8x8_S1x1x8x8_2_3 main_v12
  let main_v19 : IVec S4x16384x8x8 1 := broadcastInDim S4x16384x8x8 ![0, 1, 2, 3] bcast_S1x1x8x8_S4x16384x8x8_0_1_2_3 main_v18
  let main_v20 : IVec S4x16384x8x8 1 := andi main_v17 main_v19
  fn_part1 (F := F) main_arg4 main_v5 main_v20
-- ==== Kernel.lean ====
abbrev S4x16384x4096 : Shape := ⟨3, ![4, 16384, 4096]⟩
abbrev S4x16384 : Shape := ⟨2, ![4, 16384]⟩
abbrev S4096x128 : Shape := ⟨2, ![4096, 128]⟩
abbrev S4x16384x8 : Shape := ⟨3, ![4, 16384, 8]⟩
abbrev S4x8x16384 : Shape := ⟨3, ![4, 8, 16384]⟩
abbrev S4x16384x128 : Shape := ⟨3, ![4, 16384, 128]⟩
abbrev S1x1024x4096 : Shape := ⟨3, ![1, 1024, 4096]⟩
abbrev S4x1024 : Shape := ⟨2, ![4, 1024]⟩
abbrev S1x8x1024 : Shape := ⟨3, ![1, 8, 1024]⟩
abbrev S1x1024x128 : Shape := ⟨3, ![1, 1024, 128]⟩
abbrev S128x4096 : Shape := ⟨2, ![128, 4096]⟩
abbrev S1024x128 : Shape := ⟨2, ![1024, 128]⟩
abbrev S128x1024 : Shape := ⟨2, ![128, 1024]⟩
abbrev S256x128 : Shape := ⟨2, ![256, 128]⟩
abbrev S128x256 : Shape := ⟨2, ![128, 256]⟩
abbrev S1x1024 : Shape := ⟨2, ![1, 1024]⟩
abbrev S1x256x256 : Shape := ⟨3, ![1, 256, 256]⟩
abbrev S256x256 : Shape := ⟨2, ![256, 256]⟩
abbrev S1x256 : Shape := ⟨2, ![1, 256]⟩
abbrev S1x1x256 : Shape := ⟨3, ![1, 1, 256]⟩
abbrev S256 : Shape := ⟨1, ![256]⟩
abbrev S1x256x128 : Shape := ⟨3, ![1, 256, 128]⟩

abbrev nBuf : Space → Nat
  | .hbm => 10
  | .vmem => 18
  | .smem => 0
  | _ => 0

abbrev bufTy : (tb : Table) → Fin (tcTables nBuf tb) → BufTy
  | .hbm, ⟨0, _⟩ => ⟨S4x16384x4096, .fp8e4m3⟩
  | .hbm, ⟨1, _⟩ => ⟨S4x16384, .f32⟩
  | .hbm, ⟨2, _⟩ => ⟨S4096x128, .bf16⟩
  | .hbm, ⟨3, _⟩ => ⟨S4x16384x8, .i32⟩
  | .hbm, ⟨4, _⟩ => ⟨S4x16384x8, .bf16⟩
  | .hbm, ⟨5, _⟩ => ⟨S4x8x16384, .i32⟩
  | .hbm, ⟨6, _⟩ => ⟨S4x8x16384, .bf16⟩
  | .hbm, ⟨7, _⟩ => ⟨S4x16384x4096, .bf16⟩
  | .hbm, ⟨8, _⟩ => ⟨S4096x128, .f32⟩
  | .hbm, ⟨9, _⟩ => ⟨S4x16384x128, .f32⟩
  | .local _ .vmem, ⟨0, _⟩ => ⟨S1x1024x4096, .fp8e4m3⟩
  | .local _ .vmem, ⟨1, _⟩ => ⟨S1x1024x4096, .fp8e4m3⟩
  | .local _ .vmem, ⟨2, _⟩ => ⟨S4x1024, .f32⟩
  | .local _ .vmem, ⟨3, _⟩ => ⟨S4x1024, .f32⟩
  | .local _ .vmem, ⟨4, _⟩ => ⟨S4096x128, .bf16⟩
  | .local _ .vmem, ⟨5, _⟩ => ⟨S1x8x1024, .i32⟩
  | .local _ .vmem, ⟨6, _⟩ => ⟨S1x8x1024, .i32⟩
  | .local _ .vmem, ⟨7, _⟩ => ⟨S1x8x1024, .bf16⟩
  | .local _ .vmem, ⟨8, _⟩ => ⟨S1x8x1024, .bf16⟩
  | .local _ .vmem, ⟨9, _⟩ => ⟨S1x1024x4096, .bf16⟩
  | .local _ .vmem, ⟨10, _⟩ => ⟨S1x1024x4096, .bf16⟩
  | .local _ .vmem, ⟨11, _⟩ => ⟨S4096x128, .f32⟩
  | .local _ .vmem, ⟨12, _⟩ => ⟨S1x1024x128, .f32⟩
  | .local _ .vmem, ⟨13, _⟩ => ⟨S1x1024x128, .f32⟩
  | .local _ .vmem, ⟨14, _⟩ => ⟨S128x4096, .bf16⟩
  | .local _ .vmem, ⟨15, _⟩ => ⟨S128x4096, .f32⟩
  | .local _ .vmem, ⟨16, _⟩ => ⟨S1024x128, .bf16⟩
  | .local _ .vmem, ⟨17, _⟩ => ⟨S128x1024, .bf16⟩
  | _, _ => ⟨S4x16384x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 16], ![false, false]⟩

def k0_off1 (i : grid0.Coords) : Fin 2 → Nat :=
  let arg0 : BitVec 32 := BitVec.ofNat 32 (i 0).val
  let v8_r0 : Index := Scalar.indexCast arg0
  let c0_r0 : Index := 0#32
  ![v8_r0.toNat, 0]
def k0_cond2 (i : grid0.Coords) : BitVec 1 :=
  let arg0 : BitVec 32 := BitVec.ofNat 32 (i 0).val
  let c3_i32_r0 : BitVec 32 := 3#32
  let v3_r0 : BitVec 1 := Scalar.cmpi .eq arg0 c3_i32_r0
  let arg1 : BitVec 32 := BitVec.ofNat 32 (i 1).val
  let c15_i32_r0 : BitVec 32 := 15#32
  let v4_r0 : BitVec 1 := Scalar.cmpi .eq arg1 c15_i32_r0
  let v5_r0 : BitVec 1 := Scalar.andi v3_r0 v4_r0
  let v1770_r0 : BitVec 32 := Scalar.extui v5_r0
  let c0_i32_1399_r0 : BitVec 32 := 0#32
  let v1771_r0 : BitVec 1 := Scalar.cmpi .ne v1770_r0 c0_i32_1399_r0
  v1771_r0

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4096x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S4x16384x4096 : Shape := ⟨3, ![4, 16384, 4096]⟩
abbrev S4x16384 : Shape := ⟨2, ![4, 16384]⟩
abbrev S4096x128 : Shape := ⟨2, ![4096, 128]⟩
abbrev S4x16384x8 : Shape := ⟨3, ![4, 16384, 8]⟩
abbrev S4x16384x128 : Shape := ⟨3, ![4, 16384, 128]⟩
abbrev S4x16384x1 : Shape := ⟨3, ![4, 16384, 1]⟩
abbrev S4x16384x8x1 : Shape := ⟨4, ![4, 16384, 8, 1]⟩
abbrev S128 : Shape := ⟨1, ![128]⟩
abbrev S1x1x1x128 : Shape := ⟨4, ![1, 1, 1, 128]⟩
abbrev S4x16384x8x128 : Shape := ⟨4, ![4, 16384, 8, 128]⟩
abbrev S4x16384x1x128 : Shape := ⟨4, ![4, 16384, 1, 128]⟩
abbrev S_ : Shape := ⟨0, ![]⟩

abbrev nBuf : Space → Nat
  | .hbm => 98
  | .vmem => 2
  | .smem => 0
  | _ => 0

abbrev bufTy : (tb : Table) → Fin (tcTables nBuf tb) → BufTy
  | .hbm, ⟨0, _⟩ => ⟨S4x16384x4096, .fp8e4m3⟩
  | .hbm, ⟨1, _⟩ => ⟨S4x16384, .f32⟩
  | .hbm, ⟨2, _⟩ => ⟨S4096x128, .bf16⟩
  | .hbm, ⟨3, _⟩ => ⟨S4x16384x8, .i32⟩
  | .hbm, ⟨4, _⟩ => ⟨S4x16384x8, .bf16⟩
  | .hbm, ⟨5, _⟩ => ⟨S4x16384x4096, .bf16⟩
  | .hbm, ⟨6, _⟩ => ⟨S4x16384x128, .f32⟩
  | .hbm, ⟨7, _⟩ => ⟨S4x16384x1, .f32⟩
  | .hbm, ⟨8, _⟩ => ⟨S4x16384x128, .f32⟩
  | .hbm, ⟨9, _⟩ => ⟨S4x16384x128, .f32⟩
  | .hbm, ⟨10, _⟩ => ⟨S4x16384x8x1, .i32⟩
  | .hbm, ⟨11, _⟩ => ⟨S128, .i32⟩
  | .hbm, ⟨12, _⟩ => ⟨S1x1x1x128, .i32⟩
  | .hbm, ⟨13, _⟩ => ⟨S4x16384x8x128, .i32⟩
  | .hbm, ⟨14, _⟩ => ⟨S4x16384x8x128, .i32⟩
  | .hbm, ⟨15, _⟩ => ⟨S4x16384x8x128, .i1⟩
  | .hbm, ⟨16, _⟩ => ⟨S4x16384x1x128, .f32⟩
  | .hbm, ⟨17, _⟩ => ⟨S_, .f32⟩
  | .hbm, ⟨18, _⟩ => ⟨S_, .f32⟩
  | .hbm, ⟨19, _⟩ => ⟨S4x16384x8x128, .f32⟩
  | .hbm, ⟨20, _⟩ => ⟨S4x16384x8x128, .f32⟩
  | .hbm, ⟨21, _⟩ => ⟨S4x16384x8x128, .f32⟩
  | .hbm, ⟨22, _⟩ => ⟨S_, .f32⟩
  | .hbm, ⟨23, _⟩ => ⟨S4x16384x8, .f32⟩
  | .hbm, ⟨24, _⟩ => ⟨S_, .f32⟩
  | .hbm, ⟨25, _⟩ => ⟨S4x16384, .f32⟩
  | .hbm, ⟨26, _⟩ => ⟨S4x16384x1, .f32⟩
  | .hbm, ⟨27, _⟩ => ⟨S4x16384x1, .f32⟩
  | .hbm, ⟨28, _⟩ => ⟨S_, .f32⟩
  | .hbm, ⟨29, _⟩ => ⟨S4x16384x1, .f32⟩
  | .hbm, ⟨30, _⟩ => ⟨S4x16384x1, .i1⟩
  | .hbm, ⟨31, _⟩ => ⟨S_, .f32⟩
  | .hbm, ⟨32, _⟩ => ⟨S_, .f32⟩
  | .hbm, ⟨33, _⟩ => ⟨S4x16384x1, .f32⟩
  | .hbm, ⟨34, _⟩ => ⟨S4x16384x1, .f32⟩
  | .hbm, ⟨35, _⟩ => ⟨S4x16384x8, .f32⟩
  | .hbm, ⟨36, _⟩ => ⟨S4x16384x8, .f32⟩
  | .hbm, ⟨37, _⟩ => ⟨S4x16384x8, .f32⟩
  | .hbm, ⟨38, _⟩ => ⟨S_, .f32⟩
  | .hbm, ⟨39, _⟩ => ⟨S4x16384, .f32⟩
  | .hbm, ⟨40, _⟩ => ⟨S4x16384x1, .f32⟩
  | .hbm, ⟨41, _⟩ => ⟨S4x16384x1, .f32⟩
  | .hbm, ⟨42, _⟩ => ⟨S4x16384x1, .f32⟩
  | .hbm, ⟨43, _⟩ => ⟨S4x16384x8, .f32⟩
  | .hbm, ⟨44, _⟩ => ⟨S4x16384x8, .f32⟩
  | .hbm, ⟨45, _⟩ => ⟨S4x16384x8, .f32⟩
  | .hbm, ⟨46, _⟩ => ⟨S4x16384x8, .f32⟩
  | .hbm, ⟨47, _⟩ => ⟨S4x16384x8, .f32⟩
  | .hbm, ⟨48, _⟩ => ⟨S_, .f32⟩
  | .hbm, ⟨49, _⟩ => ⟨S4x16384, .f32⟩
  | .hbm, ⟨50, _⟩ => ⟨S4x16384x1, .f32⟩
  | .hbm, ⟨51, _⟩ => ⟨S4x16384x8, .f32⟩
  | .hbm, ⟨52, _⟩ => ⟨S4x16384x8, .f32⟩
  | .hbm, ⟨53, _⟩ => ⟨S4x16384x8, .f32⟩
  | .hbm, ⟨54, _⟩ => ⟨S_, .f32⟩
  | .hbm, ⟨55, _⟩ => ⟨S4x16384, .f32⟩
  | .hbm, ⟨56, _⟩ => ⟨S4x16384x1, .f32⟩
  | .hbm, ⟨57, _⟩ => ⟨S4x16384x1, .f32⟩
  | .hbm, ⟨58, _⟩ => ⟨S_, .f32⟩
  | .hbm, ⟨59, _⟩ => ⟨S4x16384x1, .f32⟩
  | .hbm, ⟨60, _⟩ => ⟨S4x16384x1, .i1⟩
  | .hbm, ⟨61, _⟩ => ⟨S_, .f32⟩
  | .hbm, ⟨62, _⟩ => ⟨S_, .f32⟩
  | .hbm, ⟨63, _⟩ => ⟨S4x16384x1, .f32⟩
  | .hbm, ⟨64, _⟩ => ⟨S4x16384x1, .f32⟩
  | .hbm, ⟨65, _⟩ => ⟨S4x16384x128, .f32⟩
  | .hbm, ⟨66, _⟩ => ⟨S4x16384x128, .f32⟩
  | .hbm, ⟨67, _⟩ => ⟨S4x16384x128, .f32⟩
  | .hbm, ⟨68, _⟩ => ⟨S_, .f32⟩
  | .hbm, ⟨69, _⟩ => ⟨S4x16384, .f32⟩
  | .hbm, ⟨70, _⟩ => ⟨S4x16384x1, .f32⟩
  | .hbm, ⟨71, _⟩ => ⟨S4x16384x1, .f32⟩
  | .hbm, ⟨72, _⟩ => ⟨S4x16384x1, .f32⟩
  | .hbm, ⟨73, _⟩ => ⟨S_, .f32⟩
  | .hbm, ⟨74, _⟩ => ⟨S4x16384x1, .f32⟩
  | .hbm, ⟨75, _⟩ => ⟨S4x16384x1, .f32⟩
  | .hbm, ⟨76, _⟩ => ⟨S4x16384x128, .f32⟩
  | .hbm, ⟨77, _⟩ => ⟨S4x16384x128, .f32⟩
  | .hbm, ⟨78, _⟩ => ⟨S4x16384x128, .f32⟩
  | .hbm, ⟨79, _⟩ => ⟨S4x16384x128, .f32⟩
  | .hbm, ⟨80, _⟩ => ⟨S4x16384x128, .f32⟩
  | .hbm, ⟨81, _⟩ => ⟨S4x16384x8x1, .f32⟩
  | .hbm, ⟨82, _⟩ => ⟨S_, .f32⟩
  | .hbm, ⟨83, _⟩ => ⟨S_, .f32⟩
  | .hbm, ⟨84, _⟩ => ⟨S4x16384x8x128, .f32⟩
  | .hbm, ⟨85, _⟩ => ⟨S4x16384x8x128, .f32⟩
  | .hbm, ⟨86, _⟩ => ⟨S4x16384x8x128, .f32⟩
  | .hbm, ⟨87, _⟩ => ⟨S_, .f32⟩
  | .hbm, ⟨88, _⟩ => ⟨S4x16384x128, .f32⟩
  | .hbm, ⟨89, _⟩ => ⟨S4x16384x128, .f32⟩
  | .hbm, ⟨90, _⟩ => ⟨S4x16384x128, .bf16⟩
  | .hbm, ⟨91, _⟩ => ⟨S4x16384x4096, .f32⟩
  | .hbm, ⟨92, _⟩ => ⟨S4x16384x4096, .bf16⟩
  | .hbm, ⟨93, _⟩ => ⟨S4x16384x1, .f32⟩
  | .hbm, ⟨94, _⟩ => ⟨S4x16384x1, .bf16⟩
  | .hbm, ⟨95, _⟩ => ⟨S4x16384x128, .bf16⟩
  | .hbm, ⟨96, _⟩ => ⟨S4x16384x128, .bf16⟩
  | .hbm, ⟨97, _⟩ => ⟨S4096x128, .f32⟩
  | .local _ .vmem, ⟨0, _⟩ => ⟨S4x16384x4096, .fp8e4m3⟩
  | .local _ .vmem, ⟨1, _⟩ => ⟨S4x16384x4096, .bf16⟩
  | _, _ => ⟨S4x16384x4096, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_call2_v0 : Ref sig .tc := ⟨.hbm, 62, rfl⟩
abbrev main_call2_v1 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_v58 : Ref sig .tc := ⟨.hbm, 86, rfl⟩
abbrev main_cst_12 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x16384x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x16384x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.RunKernel.Runs.lean ====
/- What the runs of the kernel body are stated over: its branch conditions over the grid points, where its
   windows are idle, and the staging and scratch memrefs. -/

module

public import proofs.«01_k».proof.Proof.Gen.Kernel.Frame
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 16 % 4 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 64 = 63 :=
  (fun t => by
    have ht : t.val < 64 := Nat.lt_of_lt_of_eq t.isLt N_0
    have e0 : (grid0.coords t 0).val = t.val / 16 % 4 := Pipeline.Grid.coords_val t 0 (by decide) rfl
    have e1 : (grid0.coords t 1).val = t.val / 1 % 16 := Pipeline.Grid.coords_val t 1 (by decide) rfl
    simp only [cond0_1, k0_cond2, e0, e1]
    word_cmp
   : ∀ t : Fin grid0.N, cond0_1 (grid0.coords t) ↔ t.val % 64 = 63)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an output stored at every point, under no condition). -/
theorem liveAt0_5 : ∀ t : Fin cfg0.N, cfg0.idle 5 (grid0.coords t) = false := fun _ => rfl
/-- Window 7 is never idle (an output stored at every point, under no condition). -/
theorem liveAt0_7 : ∀ t : Fin cfg0.N, cfg0.idle 7 (grid0.coords t) = false := fun _ => rfl
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cfg0.idle 6 (grid0.coords t) = false := by decide +kernel

/-! ## The kernel body on any staging memrefs: a subtype the run finds -/

/-- One staging buffer of output window 5, through which its contents are stated (`View.read_writes_of_cover`: the
    choice does not matter). -/
abbrev VO0_5 : View sig .tc .vmem S1x1024x4096 .bf16 := (Memref.whole cc0_stg5_0 : Memref sig .tc .vmem S1x1024x4096 .bf16).view
/-- One staging buffer of output window 6, through which its contents are stated (`View.read_writes_of_cover`: the
    choice does not matter). -/
abbrev VO0_6 : View sig .tc .vmem S4096x128 .f32 := (Memref.whole cc0_stg6_0 : Memref sig .tc .vmem S4096x128 .f32).view
/-- One staging buffer of output window 7, through which its contents are stated (`View.read_writes_of_cover`: the
    choice does not matter). -/
abbrev VO0_7 : View sig .tc .vmem S1x1024x128 .f32 := (Memref.whole cc0_stg7_0 : Memref sig .tc .vmem S1x1024x128 .f32).view
/-- Each window's current staging memref at point `t`, spelled as the pipeline passes it (`bodyAt0`), and its wholeness. -/
abbrev ms0_0 (t : Fin cfg0.N) : Memref sig .tc .vmem S1x1024x4096 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x4096 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4096x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S128x4096 .bf16 := Memref.whole cc0_scratch0
abbrev scM0_1 : Memref sig .tc .vmem S128x4096 .f32 := Memref.whole cc0_scratch1
abbrev scM0_2 : Memref sig .tc .vmem S1024x128 .bf16 := Memref.whole cc0_scratch2
abbrev scM0_3 : Memref sig .tc .vmem S128x1024 .bf16 := Memref.whole cc0_scratch3
/-- The scratch `arg10` the kernel carries between points, as a view: what it holds is stated through it. -/
abbrev VS0_0 : View sig .tc .vmem S128x4096 .bf16 := scM0_0.view
/-- The scratch `arg11` the kernel carries between points, as a view: what it holds is stated through it. -/
abbrev VS0_1 : View sig .tc .vmem S128x4096 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Gen

end
-- ==== Proof.RunKernel.RunA.lean ====
/- The run of the kernel body in case A. -/

module

public import proofs.«01_k».proof.Proof.RunKernel.Runs

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (6: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) :
    Σ' (L5 : List (View.Piece (Elt F) S1x1024x4096 .bf16)), Σ' (L6 : List (View.Piece (Elt F) S4096x128 .f32)), Σ' (L7 : List (View.Piece (Elt F) S1x1024x128 .f32)), Σ' (LS0 : List (View.Piece (Elt F) S128x4096 .bf16)), Σ' (LS1 : List (View.Piece (Elt F) S128x4096 .f32)), Σ' (LT2 : List (View.Piece (Elt F) S1024x128 .bf16)), { LT3 : List (View.Piece (Elt F) S128x1024 .bf16) //
      ∀ (xi6 : Vec F S4096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LT2) ∗ (∃ f, arg13.view.loc (c : Thread nD τ) ↦[arg13.view.set]{fullShare} arg13.view.writes (Elt F) f LT3)) -∗ K ⟨⟩))
          ⊢ wp frame (wpE (defs₀ (F := F)) Variants.none c none) E (cc0_router_backward i arg2 harg2 arg3 harg3 arg4 harg4 arg5 harg5 arg6 harg6 arg7 harg7 arg8 harg8 arg9 harg9 arg10 harg10 arg11 harg11 arg12 harg12 arg13 harg13) K } := by
  refine ⟨?_, [], ?_, ?_, ?_, ?_, ?_, fun xi6 E K => ?run⟩
  case run =>
    simp only [cc0_router_backward_eq_skeleton]; unfold cc0_router_backward_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [H7]; · iexists _; iexact H7
    isplitl [HS0]; · iexists _; iexact HS0
    isplitl [HS1]; · iexists _; iexact HS1
    isplitl [HS2]; · iexists _; iexact HS2
    iexists _; iexact HS3

end Cert.Kernel.Gen

end
-- ==== Proof.RunKernel.RunB.lean ====
/- The run of the kernel body in case B. -/

module

public import proofs.«01_k».proof.Proof.RunKernel.RunA

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 62: 62 of 64), WITH the
    proof that on whole staging memrefs — the inputs' at their contents, the outputs it leaves idle (6: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) :
    Σ' (L5 : List (View.Piece (Elt F) S1x1024x4096 .bf16)), Σ' (L6 : List (View.Piece (Elt F) S4096x128 .f32)), Σ' (L7 : List (View.Piece (Elt F) S1x1024x128 .f32)), Σ' (LS0 : List (View.Piece (Elt F) S128x4096 .bf16)), Σ' (LS1 : List (View.Piece (Elt F) S128x4096 .f32)), Σ' (LT2 : List (View.Piece (Elt F) S1024x128 .bf16)), { LT3 : List (View.Piece (Elt F) S128x1024 .bf16) //
      ∀ (xi6 : Vec F S4096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d) ∗ owns (c : Thread nD τ) arg10 fullShare xs0 ∗ owns (c : Thread nD τ) arg11 fullShare xs1 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f L7) ∗ owns (c : Thread nD τ) arg10 fullShare xs0 ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LT2) ∗ (∃ f, arg13.view.loc (c : Thread nD τ) ↦[arg13.view.set]{fullShare} arg13.view.writes (Elt F) f LT3)) -∗ K ⟨⟩))
          ⊢ wp frame (wpE (defs₀ (F := F)) Variants.none c none) E (cc0_router_backward i arg2 harg2 arg3 harg3 arg4 harg4 arg5 harg5 arg6 harg6 arg7 harg7 arg8 harg8 arg9 harg9 arg10 harg10 arg11 harg11 arg12 harg12 arg13 harg13) K } := by
  refine ⟨?_, [], ?_, [], ?_, ?_, ?_, fun xi6 E K => ?run⟩
  case run =>
    simp only [cc0_router_backward_eq_skeleton]; unfold cc0_router_backward_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%fs0, %hfs0, HS0⟩, ⟨%fs1, %hfs1, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg10.eq_unread hfs0; obtain rfl := harg11.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [H7]; · iexists _; iexact H7
    isplitl [HS0]
    · iexists _; isplitr; · ipureintro; exact harg10.read_unread _
      iexact HS0
    isplitl [HS1]; · iexists _; iexact HS1
    isplitl [HS2]; · iexists _; iexact HS2
    iexists _; iexact HS3

end Cert.Kernel.Gen

end
-- ==== Proof.RunKernel.RunC.lean ====
/- The run of the kernel body in case C. -/

module

public import proofs.«01_k».proof.Proof.RunKernel.RunB

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 63), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) :
    Σ' (L5 : List (View.Piece (Elt F) S1x1024x4096 .bf16)), Σ' (L6 : List (View.Piece (Elt F) S4096x128 .f32)), Σ' (L7 : List (View.Piece (Elt F) S1x1024x128 .f32)), Σ' (LS0 : List (View.Piece (Elt F) S128x4096 .bf16)), Σ' (LS1 : List (View.Piece (Elt F) S128x4096 .f32)), Σ' (LT2 : List (View.Piece (Elt F) S1024x128 .bf16)), { LT3 : List (View.Piece (Elt F) S128x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xs0 ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LT2) ∗ (∃ f, arg13.view.loc (c : Thread nD τ) ↦[arg13.view.set]{fullShare} arg13.view.writes (Elt F) f LT3)) -∗ K ⟨⟩))
          ⊢ wp frame (wpE (defs₀ (F := F)) Variants.none c none) E (cc0_router_backward i arg2 harg2 arg3 harg3 arg4 harg4 arg5 harg5 arg6 harg6 arg7 harg7 arg8 harg8 arg9 harg9 arg10 harg10 arg11 harg11 arg12 harg12 arg13 harg13) K } := by
  refine ⟨?_, ?_, ?_, [], ?_, ?_, ?_, fun E K => ?run⟩
  case run =>
    simp only [cc0_router_backward_eq_skeleton]; unfold cc0_router_backward_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs0; obtain rfl := harg11.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [HS0]
    · iexists _; isplitr; · ipureintro; exact harg10.read_unread _
      iexact HS0
    isplitl [HS1]; · iexists _; iexact HS1
    isplitl [HS2]; · iexists _; iexact HS2
    iexists _; iexact HS3

end Cert.Kernel.Gen

end
-- ==== Proof.RunKernel.Frame.lean ====
/- The frame of the program from the three runs of its body. -/

module

public import proofs.«01_k».proof.Proof.RunKernel.RunC
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The pieces tile the block they are stored into, so they cover it. -/
theorem cover0_A_5 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) (y : S1x1024x4096.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).1 ![1,256,256] (by sl_kernel_rfl) y

/-- What case A leaves in output 5's staging buffer: its pieces read back over junk. -/
def out0_A_5 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) : Vec F S1x1024x4096 .bf16 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).1)

/-- Case A stores nothing into output 6 (the window is idle at its points and not written back there):
    no pieces — a placeholder (junk read back) that nothing consults, since at these points the window is neither
    written back nor read at the next point (Lib/Pipeline.lean "Idle points"). -/
def out0_A_6 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) : Vec F S4096x128 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.1)

/-- The pieces tile the block they are stored into, so they cover it. -/
theorem cover0_A_7 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) (y : S1x1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.1 ![1,256,128] (by sl_kernel_rfl) y

/-- What case A leaves in output 7's staging buffer: its pieces read back over junk. -/
def out0_A_7 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) : Vec F S1x1024x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.1)

/-- Case A's pieces for scratch `arg10`, which the kernel carries between points, cover it: 1 piece of `S128x4096` tiling it (Lib/Ring.lean `Piece.tiledL`). -/
theorem scover0_A_0 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) (y : S128x4096.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.1 ![128,256] (by sl_kernel_rfl) y

/-- What case A leaves in scratch `arg10`: its pieces read back over junk. -/
def sout0_A_0 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) : Vec F S128x4096 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.1)

/-- Case A's pieces for scratch `arg11`, which the kernel carries between points, cover it: 2 pieces of `S128x4096` tiling it (Lib/Ring.lean `Piece.tiledL`). -/
theorem scover0_A_1 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) (y : S128x4096.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.2.1 ![128,256] (by sl_kernel_rfl) y

/-- What case A leaves in scratch `arg11`: its pieces read back over junk. -/
def sout0_A_1 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) : Vec F S128x4096 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.2.1)

/-- The pieces tile the block they are stored into, so they cover it. -/
theorem cover0_B_5 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) (y : S1x1024x4096.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).1 ![1,256,256] (by sl_kernel_rfl) y

/-- What case B leaves in output 5's staging buffer: its pieces read back over junk. -/
def out0_B_5 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) : Vec F S1x1024x4096 .bf16 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).1)

/-- Case B stores nothing into output 6 (the window is idle at its points and not written back there):
    no pieces — a placeholder (junk read back) that nothing consults, since at these points the window is neither
    written back nor read at the next point (Lib/Pipeline.lean "Idle points"). -/
def out0_B_6 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) : Vec F S4096x128 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.1)

/-- The pieces tile the block they are stored into, so they cover it. -/
theorem cover0_B_7 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) (y : S1x1024x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.1 ![1,256,128] (by sl_kernel_rfl) y

/-- What case B leaves in output 7's staging buffer: its pieces read back over junk. -/
def out0_B_7 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) : Vec F S1x1024x128 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.1)

/-- Case B stores nothing into scratch `arg10`: it holds what the point before left. -/
def sout0_B_0 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) : Vec F S128x4096 .bf16 := xs0

/-- Case B's pieces for scratch `arg11`, which the kernel carries between points, cover it: 1 piece of `S128x4096` tiling it (Lib/Ring.lean `Piece.tiledL`). -/
theorem scover0_B_1 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) (y : S128x4096.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.2.2.1 ![128,256] (by sl_kernel_rfl) y

/-- What case B leaves in scratch `arg11`: its pieces read back over junk. -/
def sout0_B_1 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) : Vec F S128x4096 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.2.2.1)

/-- The pieces tile the block they are stored into, so they cover it. -/
theorem cover0_C_5 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) (y : S1x1024x4096.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).1 ![1,256,256] (by sl_kernel_rfl) y

/-- What case C leaves in output 5's staging buffer: its pieces read back over junk. -/
def out0_C_5 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) : Vec F S1x1024x4096 .bf16 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).1)

/-- The pieces tile the block they are stored into, so they cover it. -/
theorem cover0_C_6 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) (y : S4096x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.1 ![256,128] (by sl_kernel_rfl) y

/-- What case C leaves in output 6's staging buffer: its pieces read back over junk. -/
def out0_C_6 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) : Vec F S4096x128 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.1)

/-- The pieces tile the block they are stored into, so they cover it. -/
theorem cover0_C_7 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) (y : S1x1024x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.1 ![1,256,128] (by sl_kernel_rfl) y

/-- What case C leaves in output 7's staging buffer: its pieces read back over junk. -/
def out0_C_7 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) : Vec F S1x1024x128 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.1)

/-- Case C stores nothing into scratch `arg10`: it holds what the point before left. -/
def sout0_C_0 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) : Vec F S128x4096 .bf16 := xs0

/-- Case C's pieces for scratch `arg11`, which the kernel carries between points, cover it: 1 piece of `S128x4096` tiling it (Lib/Ring.lean `Piece.tiledL`). -/
theorem scover0_C_1 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) (y : S128x4096.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.2.2.1 ![128,256] (by sl_kernel_rfl) y

/-- What case C leaves in scratch `arg11`: its pieces read back over junk. -/
def sout0_C_1 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) : Vec F S128x4096 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1024x4096 .bf16 × Vec F S4096x128 .f32 × Vec F S1x1024x128 .f32 × Vec F S128x4096 .bf16 × Vec F S128x4096 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 64 = 0 then
      if h1 : (n + 1) % 64 = 63 then
        False.elim (by have hN : n + 1 < 64 := lt_of_lt_of_eq hn (show cfg0.N = 64 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 64 = 63 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 64 = 0) (h1 : ¬t.val % 64 = 63) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 64 = 0) (h1 : ¬t.val % 64 = 63) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 64 = 0) (h1 : t.val % 64 = 63) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2) ∗ (∃ d, owns (c : Thread nD τ) scM0_2 fullShare d) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 64 = 0
  · by_cases h1 : t.val % 64 = 63
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      rw [show (dats m 0 c).leavesExact 7 t = owns (c : Thread nD τ) (ms0_7 t) fullShare ((dats m 0 c).after 7 t) from by
      unfold Dat.leavesExact; rw [liveAt0_7 t], after0_7]
      by_cases hz : t.val = 0
      · rw [PhiS_castSucc m c t, PhiS_zero m c _ _ hz, PhiA0_eq]
        rw [outsAt0_A m c t h0 h1]
        unfold out0_A_5 out0_A_7 sout0_A_0 sout0_A_1; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2.2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [H7]; · iexists _; iexact H7
        isplitl [HS0]; · iexact HS0
        isplitl [HS1]; · iexact HS1
        isplitl [HS2]; · iexact HS2
        isplitl [HS3]; · iexact HS3
        iintro ⟨H0, H1, H2, H3, H4, ⟨%e5, H5⟩, H6, ⟨%e7, H7⟩, ⟨%es0, HS0⟩, ⟨%es1, HS1⟩, ⟨%fT2, HS2⟩, ⟨%fT3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _)
            isplitl [HS2]
            · iexists _; unfold owns; iexists _; isplitr
              swap; · iexact HS2
              ipureintro; rfl
            iexists _; unfold owns; iexists _; isplitr
            swap; · iexact HS3
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _ _ _ _ _ _ _ _ _ _)
        isplitl [H6]; · iexists _; iexact H6
        unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _)
      · exfalso; have hN : t.val < 64 := lt_of_lt_of_eq t.isLt (show cfg0.N = 64 from N_0); omega
  · by_cases h1 : t.val % 64 = 63
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6_C t (fun h => h0 ((hcond0_0 t).mp h)) ((hcond0_1 t).mpr h1)], after0_6]
      rw [show (dats m 0 c).leavesExact 7 t = owns (c : Thread nD τ) (ms0_7 t) fullShare ((dats m 0 c).after 7 t) from by
      unfold Dat.leavesExact; rw [liveAt0_7 t], after0_7]
      by_cases hz : t.val = 0
      · exfalso; have hN : t.val < 64 := lt_of_lt_of_eq t.isLt (show cfg0.N = 64 from N_0); omega
      · rw [PhiS_castSucc m c t, PhiS_pos m c _ _ hz]
        rw [outsAt0_C m c t h0 h1]
        unfold out0_C_5 out0_C_6 out0_C_7 sout0_C_0 sout0_C_1; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _).2.2.2.2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [HS0]; · iexact HS0
        isplitl [HS1]; · iexact HS1
        isplitl [HS2]; · iexact HS2
        isplitl [HS3]; · iexact HS3
        iintro ⟨H0, H1, H2, H3, H4, ⟨%e5, H5⟩, ⟨%e6, H6⟩, ⟨%e7, H7⟩, HS0, ⟨%es1, HS1⟩, ⟨%fT2, HS2⟩, ⟨%fT3, HS3⟩⟩
        isplitl [HS0 HS1 HS2 HS3 Hg]
        · isplitl [HS0 HS1 HS2 HS3]
          · isplitl [HS0]
            · iexact HS0
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _)
            isplitl [HS2]
            · iexists _; unfold owns; iexists _; isplitr
              swap; · iexact HS2
              ipureintro; rfl
            iexists _; unfold owns; iexists _; isplitr
            swap; · iexact HS3
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _ _ _ _)
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [show (dats m 0 c).leavesExact 7 t = owns (c : Thread nD τ) (ms0_7 t) fullShare ((dats m 0 c).after 7 t) from by
      unfold Dat.leavesExact; rw [liveAt0_7 t], after0_7]
      by_cases hz : t.val = 0
      · exfalso; have hN : t.val < 64 := lt_of_lt_of_eq t.isLt (show cfg0.N = 64 from N_0); omega
      · rw [PhiS_castSucc m c t, PhiS_pos m c _ _ hz]
        rw [outsAt0_B m c t h0 h1]
        unfold out0_B_5 out0_B_7 sout0_B_0 sout0_B_1; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _).2.2.2.2.2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [H7]; · iexists _; iexact H7
        isplitl [HS0]; · iexact HS0
        isplitl [HS1]; · iexact HS1
        isplitl [HS2]; · iexact HS2
        isplitl [HS3]; · iexact HS3
        iintro ⟨H0, H1, H2, H3, H4, ⟨%e5, H5⟩, H6, ⟨%e7, H7⟩, HS0, ⟨%es1, HS1⟩, ⟨%fT2, HS2⟩, ⟨%fT3, HS3⟩⟩
        isplitl [HS0 HS1 HS2 HS3 Hg]
        · isplitl [HS0 HS1 HS2 HS3]
          · isplitl [HS0]
            · iexact HS0
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _)
            isplitl [HS2]
            · iexists _; unfold owns; iexists _; isplitr
              swap; · iexact HS2
              ipureintro; rfl
            iexists _; unfold owns; iexists _; isplitr
            swap; · iexact HS3
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_B_5 c _ _ _ _ _ _ _ _ _ _ _ _ _ _ _ _ _ _ _ _ _ _ _ _ _ _ _ _ _ _ _ _ _ _)
        isplitl [H6]; · iexists _; iexact H6
        unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Gen

end
-- ==== Proof.RunKernelIdeal.Runs.lean ====
/- What the runs of the kernel body are stated over: its branch conditions over the grid points, where its
   windows are idle, and the staging and scratch memrefs. -/

module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 16 % 4 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 64 = 63 :=
  (fun t => by
    have ht : t.val < 64 := Nat.lt_of_lt_of_eq t.isLt N_0
    have e0 : (grid0.coords t 0).val = t.val / 16 % 4 := Pipeline.Grid.coords_val t 0 (by decide) rfl
    have e1 : (grid0.coords t 1).val = t.val / 1 % 16 := Pipeline.Grid.coords_val t 1 (by decide) rfl
    simp only [cond0_1, k0_cond2, e0, e1]
    word_cmp
   : ∀ t : Fin grid0.N, cond0_1 (grid0.coords t) ↔ t.val % 64 = 63)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an output stored at every point, under no condition). -/
theorem liveAt0_5 : ∀ t : Fin cfg0.N, cfg0.idle 5 (grid0.coords t) = false := fun _ => rfl
/-- Window 7 is never idle (an output stored at every point, under no condition). -/
theorem liveAt0_7 : ∀ t : Fin cfg0.N, cfg0.idle 7 (grid0.coords t) = false := fun _ => rfl
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cfg0.idle 6 (grid0.coords t) = false := by decide +kernel

/-! ## The kernel body on any staging memrefs: a subtype the run finds -/

/-- One staging buffer of output window 5, through which its contents are stated (`View.read_writes_of_cover`: the
    choice does not matter). -/
abbrev VO0_5 : View sig .tc .vmem S1x1024x4096 .bf16 := (Memref.whole cc0_stg5_0 : Memref sig .tc .vmem S1x1024x4096 .bf16).view
/-- One staging buffer of output window 6, through which its contents are stated (`View.read_writes_of_cover`: the
    choice does not matter). -/
abbrev VO0_6 : View sig .tc .vmem S4096x128 .f32 := (Memref.whole cc0_stg6_0 : Memref sig .tc .vmem S4096x128 .f32).view
/-- One staging buffer of output window 7, through which its contents are stated (`View.read_writes_of_cover`: the
    choice does not matter). -/
abbrev VO0_7 : View sig .tc .vmem S1x1024x128 .f32 := (Memref.whole cc0_stg7_0 : Memref sig .tc .vmem S1x1024x128 .f32).view
/-- Each window's current staging memref at point `t`, spelled as the pipeline passes it (`bodyAt0`), and its wholeness. -/
abbrev ms0_0 (t : Fin cfg0.N) : Memref sig .tc .vmem S1x1024x4096 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x4096 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4096x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S128x4096 .bf16 := Memref.whole cc0_scratch0
abbrev scM0_1 : Memref sig .tc .vmem S128x4096 .f32 := Memref.whole cc0_scratch1
abbrev scM0_2 : Memref sig .tc .vmem S1024x128 .bf16 := Memref.whole cc0_scratch2
abbrev scM0_3 : Memref sig .tc .vmem S128x1024 .bf16 := Memref.whole cc0_scratch3
/-- The scratch `arg10` the kernel carries between points, as a view: what it holds is stated through it. -/
abbrev VS0_0 : View sig .tc .vmem S128x4096 .bf16 := scM0_0.view
/-- The scratch `arg11` the kernel carries between points, as a view: what it holds is stated through it. -/
abbrev VS0_1 : View sig .tc .vmem S128x4096 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.RunKernelIdeal.RunA.lean ====
/- The run of the kernel body in case A. -/

module

public import proofs.«01_k».proof.Proof.RunKernelIdeal.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (6: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) :
    Σ' (L5 : List (View.Piece (Elt F) S1x1024x4096 .bf16)), Σ' (L6 : List (View.Piece (Elt F) S4096x128 .f32)), Σ' (L7 : List (View.Piece (Elt F) S1x1024x128 .f32)), Σ' (LS0 : List (View.Piece (Elt F) S128x4096 .bf16)), Σ' (LS1 : List (View.Piece (Elt F) S128x4096 .f32)), Σ' (LT2 : List (View.Piece (Elt F) S1024x128 .bf16)), { LT3 : List (View.Piece (Elt F) S128x1024 .bf16) //
      ∀ (xi6 : Vec F S4096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LT2) ∗ (∃ f, arg13.view.loc (c : Thread nD τ) ↦[arg13.view.set]{fullShare} arg13.view.writes (Elt F) f LT3)) -∗ K ⟨⟩))
          ⊢ wp frame (wpE (defs₀ (F := F)) Variants.none c none) E (cc0_router_backward i arg2 harg2 arg3 harg3 arg4 harg4 arg5 harg5 arg6 harg6 arg7 harg7 arg8 harg8 arg9 harg9 arg10 harg10 arg11 harg11 arg12 harg12 arg13 harg13) K } := by
  refine ⟨?_, [], ?_, ?_, ?_, ?_, ?_, fun xi6 E K => ?run⟩
  case run =>
    simp only [cc0_router_backward_eq_skeleton]; unfold cc0_router_backward_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [H7]; · iexists _; iexact H7
    isplitl [HS0]; · iexists _; iexact HS0
    isplitl [HS1]; · iexists _; iexact HS1
    isplitl [HS2]; · iexists _; iexact HS2
    iexists _; iexact HS3

end Cert.KernelIdeal.Gen

end
-- ==== Proof.RunKernelIdeal.RunB.lean ====
/- The run of the kernel body in case B. -/

module

public import proofs.«01_k».proof.Proof.RunKernelIdeal.RunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 62: 62 of 64), WITH the
    proof that on whole staging memrefs — the inputs' at their contents, the outputs it leaves idle (6: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) :
    Σ' (L5 : List (View.Piece (Elt F) S1x1024x4096 .bf16)), Σ' (L6 : List (View.Piece (Elt F) S4096x128 .f32)), Σ' (L7 : List (View.Piece (Elt F) S1x1024x128 .f32)), Σ' (LS0 : List (View.Piece (Elt F) S128x4096 .bf16)), Σ' (LS1 : List (View.Piece (Elt F) S128x4096 .f32)), Σ' (LT2 : List (View.Piece (Elt F) S1024x128 .bf16)), { LT3 : List (View.Piece (Elt F) S128x1024 .bf16) //
      ∀ (xi6 : Vec F S4096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d) ∗ owns (c : Thread nD τ) arg10 fullShare xs0 ∗ owns (c : Thread nD τ) arg11 fullShare xs1 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f L7) ∗ owns (c : Thread nD τ) arg10 fullShare xs0 ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LT2) ∗ (∃ f, arg13.view.loc (c : Thread nD τ) ↦[arg13.view.set]{fullShare} arg13.view.writes (Elt F) f LT3)) -∗ K ⟨⟩))
          ⊢ wp frame (wpE (defs₀ (F := F)) Variants.none c none) E (cc0_router_backward i arg2 harg2 arg3 harg3 arg4 harg4 arg5 harg5 arg6 harg6 arg7 harg7 arg8 harg8 arg9 harg9 arg10 harg10 arg11 harg11 arg12 harg12 arg13 harg13) K } := by
  refine ⟨?_, [], ?_, [], ?_, ?_, ?_, fun xi6 E K => ?run⟩
  case run =>
    simp only [cc0_router_backward_eq_skeleton]; unfold cc0_router_backward_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%fs0, %hfs0, HS0⟩, ⟨%fs1, %hfs1, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg10.eq_unread hfs0; obtain rfl := harg11.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [H7]; · iexists _; iexact H7
    isplitl [HS0]
    · iexists _; isplitr; · ipureintro; exact harg10.read_unread _
      iexact HS0
    isplitl [HS1]; · iexists _; iexact HS1
    isplitl [HS2]; · iexists _; iexact HS2
    iexists _; iexact HS3

end Cert.KernelIdeal.Gen

end
-- ==== Proof.RunKernelIdeal.RunC.lean ====
/- The run of the kernel body in case C. -/

module

public import proofs.«01_k».proof.Proof.RunKernelIdeal.RunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 63), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) :
    Σ' (L5 : List (View.Piece (Elt F) S1x1024x4096 .bf16)), Σ' (L6 : List (View.Piece (Elt F) S4096x128 .f32)), Σ' (L7 : List (View.Piece (Elt F) S1x1024x128 .f32)), Σ' (LS0 : List (View.Piece (Elt F) S128x4096 .bf16)), Σ' (LS1 : List (View.Piece (Elt F) S128x4096 .f32)), Σ' (LT2 : List (View.Piece (Elt F) S1024x128 .bf16)), { LT3 : List (View.Piece (Elt F) S128x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xs0 ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LT2) ∗ (∃ f, arg13.view.loc (c : Thread nD τ) ↦[arg13.view.set]{fullShare} arg13.view.writes (Elt F) f LT3)) -∗ K ⟨⟩))
          ⊢ wp frame (wpE (defs₀ (F := F)) Variants.none c none) E (cc0_router_backward i arg2 harg2 arg3 harg3 arg4 harg4 arg5 harg5 arg6 harg6 arg7 harg7 arg8 harg8 arg9 harg9 arg10 harg10 arg11 harg11 arg12 harg12 arg13 harg13) K } := by
  refine ⟨?_, ?_, ?_, [], ?_, ?_, ?_, fun E K => ?run⟩
  case run =>
    simp only [cc0_router_backward_eq_skeleton]; unfold cc0_router_backward_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs0; obtain rfl := harg11.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [HS0]
    · iexists _; isplitr; · ipureintro; exact harg10.read_unread _
      iexact HS0
    isplitl [HS1]; · iexists _; iexact HS1
    isplitl [HS2]; · iexists _; iexact HS2
    iexists _; iexact HS3

end Cert.KernelIdeal.Gen

end
-- ==== Proof.RunKernelIdeal.Frame.lean ====
/- The frame of the program from the three runs of its body. -/

module

public import proofs.«01_k».proof.Proof.RunKernelIdeal.RunC
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The pieces tile the block they are stored into, so they cover it. -/
theorem cover0_A_5 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) (y : S1x1024x4096.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).1 ![1,256,256] (by sl_kernel_rfl) y

/-- What case A leaves in output 5's staging buffer: its pieces read back over junk. -/
def out0_A_5 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) : Vec F S1x1024x4096 .bf16 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).1)

/-- Case A stores nothing into output 6 (the window is idle at its points and not written back there):
    no pieces — a placeholder (junk read back) that nothing consults, since at these points the window is neither
    written back nor read at the next point (Lib/Pipeline.lean "Idle points"). -/
def out0_A_6 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) : Vec F S4096x128 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.1)

/-- The pieces tile the block they are stored into, so they cover it. -/
theorem cover0_A_7 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) (y : S1x1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.1 ![1,256,128] (by sl_kernel_rfl) y

/-- What case A leaves in output 7's staging buffer: its pieces read back over junk. -/
def out0_A_7 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) : Vec F S1x1024x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.1)

/-- Case A's pieces for scratch `arg10`, which the kernel carries between points, cover it: 1 piece of `S128x4096` tiling it (Lib/Ring.lean `Piece.tiledL`). -/
theorem scover0_A_0 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) (y : S128x4096.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.1 ![128,256] (by sl_kernel_rfl) y

/-- What case A leaves in scratch `arg10`: its pieces read back over junk. -/
def sout0_A_0 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) : Vec F S128x4096 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.1)

/-- Case A's pieces for scratch `arg11`, which the kernel carries between points, cover it: 2 pieces of `S128x4096` tiling it (Lib/Ring.lean `Piece.tiledL`). -/
theorem scover0_A_1 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) (y : S128x4096.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.2.1 ![128,256] (by sl_kernel_rfl) y

/-- What case A leaves in scratch `arg11`: its pieces read back over junk. -/
def sout0_A_1 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) : Vec F S128x4096 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.2.1)

/-- The pieces tile the block they are stored into, so they cover it. -/
theorem cover0_B_5 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) (y : S1x1024x4096.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).1 ![1,256,256] (by sl_kernel_rfl) y

/-- What case B leaves in output 5's staging buffer: its pieces read back over junk. -/
def out0_B_5 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) : Vec F S1x1024x4096 .bf16 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).1)

/-- Case B stores nothing into output 6 (the window is idle at its points and not written back there):
    no pieces — a placeholder (junk read back) that nothing consults, since at these points the window is neither
    written back nor read at the next point (Lib/Pipeline.lean "Idle points"). -/
def out0_B_6 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) : Vec F S4096x128 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.1)

/-- The pieces tile the block they are stored into, so they cover it. -/
theorem cover0_B_7 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) (y : S1x1024x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.1 ![1,256,128] (by sl_kernel_rfl) y

/-- What case B leaves in output 7's staging buffer: its pieces read back over junk. -/
def out0_B_7 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) : Vec F S1x1024x128 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.1)

/-- Case B stores nothing into scratch `arg10`: it holds what the point before left. -/
def sout0_B_0 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) : Vec F S128x4096 .bf16 := xs0

/-- Case B's pieces for scratch `arg11`, which the kernel carries between points, cover it: 1 piece of `S128x4096` tiling it (Lib/Ring.lean `Piece.tiledL`). -/
theorem scover0_B_1 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) (y : S128x4096.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.2.2.1 ![128,256] (by sl_kernel_rfl) y

/-- What case B leaves in scratch `arg11`: its pieces read back over junk. -/
def sout0_B_1 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : ¬cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) : Vec F S128x4096 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.2.2.1)

/-- The pieces tile the block they are stored into, so they cover it. -/
theorem cover0_C_5 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) (y : S1x1024x4096.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).1 ![1,256,256] (by sl_kernel_rfl) y

/-- What case C leaves in output 5's staging buffer: its pieces read back over junk. -/
def out0_C_5 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) : Vec F S1x1024x4096 .bf16 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).1)

/-- The pieces tile the block they are stored into, so they cover it. -/
theorem cover0_C_6 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) (y : S4096x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.1 ![256,128] (by sl_kernel_rfl) y

/-- What case C leaves in output 6's staging buffer: its pieces read back over junk. -/
def out0_C_6 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) : Vec F S4096x128 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.1)

/-- The pieces tile the block they are stored into, so they cover it. -/
theorem cover0_C_7 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) (y : S1x1024x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.1 ![1,256,128] (by sl_kernel_rfl) y

/-- What case C leaves in output 7's staging buffer: its pieces read back over junk. -/
def out0_C_7 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) : Vec F S1x1024x128 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.1)

/-- Case C stores nothing into scratch `arg10`: it holds what the point before left. -/
def sout0_C_0 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) : Vec F S128x4096 .bf16 := xs0

/-- Case C's pieces for scratch `arg11`, which the kernel carries between points, cover it: 1 piece of `S128x4096` tiling it (Lib/Ring.lean `Piece.tiledL`). -/
theorem scover0_C_1 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) (y : S128x4096.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.2.2.1 ![128,256] (by sl_kernel_rfl) y

/-- What case C leaves in scratch `arg11`: its pieces read back over junk. -/
def sout0_C_1 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : cond0_1 i)
    (x0 : Vec F S1x1024x4096 .fp8e4m3) (x1 : Vec F S4x1024 .f32) (x2 : Vec F S4096x128 .bf16) (x3 : Vec F S1x8x1024 .i32) (x4 : Vec F S1x8x1024 .bf16) (xs0 : Vec F S128x4096 .bf16) (xs1 : Vec F S128x4096 .f32) : Vec F S128x4096 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1024x4096 .bf16 × Vec F S4096x128 .f32 × Vec F S1x1024x128 .f32 × Vec F S128x4096 .bf16 × Vec F S128x4096 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 64 = 0 then
      if h1 : (n + 1) % 64 = 63 then
        False.elim (by have hN : n + 1 < 64 := lt_of_lt_of_eq hn (show cfg0.N = 64 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 64 = 63 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 64 = 0) (h1 : ¬t.val % 64 = 63) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 64 = 0) (h1 : ¬t.val % 64 = 63) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 64 = 0) (h1 : t.val % 64 = 63) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2) ∗ (∃ d, owns (c : Thread nD τ) scM0_2 fullShare d) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 64 = 0
  · by_cases h1 : t.val % 64 = 63
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      rw [show (dats m 0 c).leavesExact 7 t = owns (c : Thread nD τ) (ms0_7 t) fullShare ((dats m 0 c).after 7 t) from by
      unfold Dat.leavesExact; rw [liveAt0_7 t], after0_7]
      by_cases hz : t.val = 0
      · rw [PhiS_castSucc m c t, PhiS_zero m c _ _ hz, PhiA0_eq]
        rw [outsAt0_A m c t h0 h1]
        unfold out0_A_5 out0_A_7 sout0_A_0 sout0_A_1; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2.2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [H7]; · iexists _; iexact H7
        isplitl [HS0]; · iexact HS0
        isplitl [HS1]; · iexact HS1
        isplitl [HS2]; · iexact HS2
        isplitl [HS3]; · iexact HS3
        iintro ⟨H0, H1, H2, H3, H4, ⟨%e5, H5⟩, H6, ⟨%e7, H7⟩, ⟨%es0, HS0⟩, ⟨%es1, HS1⟩, ⟨%fT2, HS2⟩, ⟨%fT3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _)
            isplitl [HS2]
            · iexists _; unfold owns; iexists _; isplitr
              swap; · iexact HS2
              ipureintro; rfl
            iexists _; unfold owns; iexists _; isplitr
            swap; · iexact HS3
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _ _ _ _ _ _ _ _ _ _)
        isplitl [H6]; · iexists _; iexact H6
        unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _)
      · exfalso; have hN : t.val < 64 := lt_of_lt_of_eq t.isLt (show cfg0.N = 64 from N_0); omega
  · by_cases h1 : t.val % 64 = 63
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6_C t (fun h => h0 ((hcond0_0 t).mp h)) ((hcond0_1 t).mpr h1)], after0_6]
      rw [show (dats m 0 c).leavesExact 7 t = owns (c : Thread nD τ) (ms0_7 t) fullShare ((dats m 0 c).after 7 t) from by
      unfold Dat.leavesExact; rw [liveAt0_7 t], after0_7]
      by_cases hz : t.val = 0
      · exfalso; have hN : t.val < 64 := lt_of_lt_of_eq t.isLt (show cfg0.N = 64 from N_0); omega
      · rw [PhiS_castSucc m c t, PhiS_pos m c _ _ hz]
        rw [outsAt0_C m c t h0 h1]
        unfold out0_C_5 out0_C_6 out0_C_7 sout0_C_0 sout0_C_1; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _).2.2.2.2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [HS0]; · iexact HS0
        isplitl [HS1]; · iexact HS1
        isplitl [HS2]; · iexact HS2
        isplitl [HS3]; · iexact HS3
        iintro ⟨H0, H1, H2, H3, H4, ⟨%e5, H5⟩, ⟨%e6, H6⟩, ⟨%e7, H7⟩, HS0, ⟨%es1, HS1⟩, ⟨%fT2, HS2⟩, ⟨%fT3, HS3⟩⟩
        isplitl [HS0 HS1 HS2 HS3 Hg]
        · isplitl [HS0 HS1 HS2 HS3]
          · isplitl [HS0]
            · iexact HS0
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _)
            isplitl [HS2]
            · iexists _; unfold owns; iexists _; isplitr
              swap; · iexact HS2
              ipureintro; rfl
            iexists _; unfold owns; iexists _; isplitr
            swap; · iexact HS3
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _ _ _ _)
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [show (dats m 0 c).leavesExact 7 t = owns (c : Thread nD τ) (ms0_7 t) fullShare ((dats m 0 c).after 7 t) from by
      unfold Dat.leavesExact; rw [liveAt0_7 t], after0_7]
      by_cases hz : t.val = 0
      · exfalso; have hN : t.val < 64 := lt_of_lt_of_eq t.isLt (show cfg0.N = 64 from N_0); omega
      · rw [PhiS_castSucc m c t, PhiS_pos m c _ _ hz]
        rw [outsAt0_B m c t h0 h1]
        unfold out0_B_5 out0_B_7 sout0_B_0 sout0_B_1; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _).2.2.2.2.2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [H7]; · iexists _; iexact H7
        isplitl [HS0]; · iexact HS0
        isplitl [HS1]; · iexact HS1
        isplitl [HS2]; · iexact HS2
        isplitl [HS3]; · iexact HS3
        iintro ⟨H0, H1, H2, H3, H4, ⟨%e5, H5⟩, H6, ⟨%e7, H7⟩, HS0, ⟨%es1, HS1⟩, ⟨%fT2, HS2⟩, ⟨%fT3, HS3⟩⟩
        isplitl [HS0 HS1 HS2 HS3 Hg]
        · isplitl [HS0 HS1 HS2 HS3]
          · isplitl [HS0]
            · iexact HS0
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _)
            isplitl [HS2]
            · iexists _; unfold owns; iexists _; isplitr
              swap; · iexact HS2
              ipureintro; rfl
            iexists _; unfold owns; iexists _; isplitr
            swap; · iexact HS3
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_B_5 c _ _ _ _ _ _ _ _ _ _ _ _ _ _ _ _ _ _ _ _ _ _ _ _ _ _ _ _ _ _ _ _ _ _)
        isplitl [H6]; · iexists _; iexact H6
        unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.RunKernelIdeal.Value.lean ====
/- The three result arrays after the run, block by block. -/

module

public import proofs.«01_k».proof.Proof.RunKernelIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

-- no `blocks6`: window 6's index map revisits a block index, or its points could not be enumerated here;
-- the final array is still the frame's `arrAt`, to read with Lib/Pipeline/Value.lean's lemmas by hand

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v2_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v2_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v2_2) = (dats m 0 c).arrAt 7 cfg0.N :=
  (h c).1 7

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-! ## Carried scratch 0: what each point leaves in it, and its fold -/

/-! ## Carried scratch 1: what each point leaves in it, and its fold -/

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1x1024x4096 .bf16 × Vec F S4096x128 .f32 × Vec F S1x1024x128 .f32 × Vec F S128x4096 .bf16 × Vec F S128x4096 .f32 :=
  ((VO0_5.read (Elt F) VO0_5.junk, VO0_6.read (Elt F) VO0_6.junk, VO0_7.read (Elt F) VO0_7.junk, VS0_0.read (Elt F) VS0_0.junk, VS0_1.read (Elt F) VS0_1.junk) : Vec F S1x1024x4096 .bf16 × Vec F S4096x128 .f32 × Vec F S1x1024x128 .f32 × Vec F S128x4096 .bf16 × Vec F S128x4096 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1x1024x4096 .bf16 × Vec F S4096x128 .f32 × Vec F S1x1024x128 .f32 × Vec F S128x4096 .bf16 × Vec F S128x4096 .f32) : Vec F S1x1024x4096 .bf16 × Vec F S4096x128 .f32 × Vec F S1x1024x128 .f32 × Vec F S128x4096 .bf16 × Vec F S128x4096 .f32 :=
  if h0 : n % 64 = 0 then
    if h1 : n % 64 = 63 then
      False.elim (by have hN : n < 64 := lt_of_lt_of_eq hb (show cfg0.N = 64 from N_0); omega)
    else
      (out0_A_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), out0_A_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), out0_A_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)))
  else
    if h1 : n % 64 = 63 then
      (out0_C_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.2.1 acc.2.2.2.2, out0_C_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.2.1 acc.2.2.2.2, out0_C_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.2.1 acc.2.2.2.2, sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.2.1 acc.2.2.2.2, sout0_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.2.1 acc.2.2.2.2)
    else
      (out0_B_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.2.1 acc.2.2.2.2, out0_B_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.2.1 acc.2.2.2.2, out0_B_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.2.1 acc.2.2.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.2.1 acc.2.2.2.2, sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.2.1 acc.2.2.2.2)

/-- `stAt0` at a point of case A: that case's contents. -/
theorem stAt0_A (c : Dev nD) (t : Fin cfg0.N) (acc : Vec F S1x1024x4096 .bf16 × Vec F S4096x128 .f32 × Vec F S1x1024x128 .f32 × Vec F S128x4096 .bf16 × Vec F S128x4096 .f32) (h0 : t.val % 64 = 0) (h1 : ¬t.val % 64 = 63) :
    stAt0 m c t.val t.isLt acc = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t)) :=
  (dif_pos h0).trans ((dif_neg h1).trans rfl)

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (fun h => by (try dsimp only at h); omega)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 64 from N_0)
  have e := Pipeline.eq_accAt_of_mod (fun n h => outsAt0 m c n h) 64 (fun n h => stAt0 m c n h junk0) (stAt0 m c)
    (fun n h _ => by
      have hN := lt_of_lt_of_eq h (show cfg0.N = 64 from N_0)
      obtain rfl : n = 0 := by omega
      exact outsAt0_zero m c h)
    (fun n h _ => outsAt0_succ m c n h)
    (by decide) n hn (by have := Nat.div_add_mod n 64; omega)
  have hd : n / 64 = 0 := Nat.div_eq_of_lt hN
  have hm : n % 64 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 5 -/

/-- The block of the array that holds index `i`, numbered in the order the points write the blocks back (one per point),
    `i`'s place in it, and the point that writes it back. -/
abbrev run5Of (i : S4x16384x4096.Idx) : ℕ := 16 * ((i 0).val / 1 - 0) + 1 * ((i 1).val / 1024 - 0) + 1 * ((i 2).val / 4096 - 0)
set_option backward.proofsInPublic true in
abbrev loc5Of (i : S4x16384x4096.Idx) : S1x1024x4096.Idx := fun a => match a with
  | ⟨0, _⟩ => ⟨(i 0).val % 1, Nat.mod_lt _ (by decide)⟩
  | ⟨1, _⟩ => ⟨(i 1).val % 1024, Nat.mod_lt _ (by decide)⟩
  | ⟨2, _⟩ => ⟨(i 2).val % 4096, Nat.mod_lt _ (by decide)⟩
abbrev pt5Of (i : S4x16384x4096.Idx) : ℕ := run5Of i

/-- WHAT THE ARRAY ENDS HOLDING at index `i` inside the box the flushing blocks fill: output 5's component of the carried
    state's fold at the point that writes `i`'s block back, at `i`'s place in the block. `G5` states the array's contents
    only inside the box. -/
def G5 (c : Dev nD) : Buf (Elt F) ((c : Thread nD τ).loc main_v2_0) := fun i =>
  if h : pt5Of i < cfg0.N then
    (Pipeline.accAt (fun n h => stAt0 m c n h junk0) (stAt0 m c) 0 (pt5Of i) (by omega)).1 (loc5Of i)
  else V m c (Pipeline.arrRef spec0 5) i

/-- The printed index map, decided over the grid: output window 5's block indices stay in the box, and the block number
    read off them is the point's (`t`). -/
theorem idx_facts5 : ∀ t : Fin cfg0.N, 0 ≤ win0_5.index t (0 : Fin 3) ∧ win0_5.index t (0 : Fin 3) ≤ 3
    ∧ 0 ≤ win0_5.index t (1 : Fin 3) ∧ win0_5.index t (1 : Fin 3) ≤ 15
    ∧ 0 ≤ win0_5.index t (2 : Fin 3) ∧ win0_5.index t (2 : Fin 3) ≤ 0
    ∧ 16 * (win0_5.index t (0 : Fin 3) - 0) + 1 * (win0_5.index t (1 : Fin 3) - 0) + 1 * (win0_5.index t (2 : Fin 3) - 0) = t.val :=
  (by decide +kernel : ∀ t : Fin grid0.N, _)

/-- Every block of the box is SOME flushing point's: `onto5Pt`, the point that writes back the block at place `q` of the box. -/
abbrev onto5Pt (q0 : Fin 4) (q1 : Fin 16) (q2 : Fin 1) : Fin grid0.N :=
  ⟨16 * q0.val + 1 * q1.val + 1 * q2.val, lt_of_lt_of_eq (by omega) N_0.symm⟩
theorem idx_onto5 : ∀ (q0 : Fin 4) (q1 : Fin 16) (q2 : Fin 1), ∃ t : Fin cfg0.N, (cfg0.win 5).flush t = true ∧ win0_5.index t = ![q0.val + 0, q1.val + 0, q2.val + 0] :=
  fun q0 q1 q2 => ⟨onto5Pt q0 q1 q2, (by decide +kernel : ∀ (q0 : Fin 4) (q1 : Fin 16) (q2 : Fin 1), win0_5.flush (onto5Pt q0 q1 q2) = true ∧ win0_5.index (onto5Pt q0 q1 q2) = ![q0.val + 0, q1.val + 0, q2.val + 0]) q0 q1 q2⟩

/-- WHAT A FLUSHING POINT `t` WRITES BACK is block `t` of `G5`: output 5's component of the fold up to `t`. -/
theorem flushed5_eq (c : Dev nD) (t : Fin cfg0.N) (hf : (cfg0.win 5).flush t = true) :
    (dats m 0 c).flushed 5 t = ((cfg0.win 5).blk t).view.read (Elt F) (G5 m c) := by
  show (cfg0.win 5).cut (grid0.coords t) ((dats m 0 c).after 5 t) = _
  rw [after0_5, outsAt0_sweep]
  obtain ⟨e0, e1, e2, e3⟩ := idx_facts5 t
  funext y
  have hy0 : (y 0).val < 1 := (y 0).isLt
  have hy1 : (y 1).val < 1024 := (y 1).isLt
  have hy2 : (y 2).val < 4096 := (y 2).isLt
  have hb0 : (((cfg0.win 5).blk t).view.emb y 0).val = win0_5.index t (0 : Fin 3) * 1 + 1 * (y 0).val := rfl
  have hb1 : (((cfg0.win 5).blk t).view.emb y 1).val = win0_5.index t (1 : Fin 3) * 1024 + 1 * (y 1).val := rfl
  have hb2 : (((cfg0.win 5).blk t).view.emb y 2).val = win0_5.index t (2 : Fin 3) * 4096 + 1 * (y 2).val := rfl
  have hr : run5Of (((cfg0.win 5).blk t).view.emb y) = t.val := by
    show 16 * ((((cfg0.win 5).blk t).view.emb y 0).val / 1 - 0) + 1 * ((((cfg0.win 5).blk t).view.emb y 1).val / 1024 - 0) + 1 * ((((cfg0.win 5).blk t).view.emb y 2).val / 4096 - 0) = _
    rw [hb0, hb1, hb2]
    rw [show (win0_5.index t (0 : Fin 3) * 1 + 1 * (y 0).val) / 1 = win0_5.index t (0 : Fin 3) from by omega]; rw [show (win0_5.index t (1 : Fin 3) * 1024 + 1 * (y 1).val) / 1024 = win0_5.index t (1 : Fin 3) from by omega]; rw [show (win0_5.index t (2 : Fin 3) * 4096 + 1 * (y 2).val) / 4096 = win0_5.index t (2 : Fin 3) from by omega]
    omega
  have hl : loc5Of (((cfg0.win 5).blk t).view.emb y) = (cfg0.win 5).xinj (grid0.coords t) y := by
    funext a; apply Fin.ext
    match a with
    | ⟨0, _⟩ => show (((cfg0.win 5).blk t).view.emb y 0).val % 1 = (y 0).val; rw [hb0]; omega
    | ⟨1, _⟩ => show (((cfg0.win 5).blk t).view.emb y 1).val % 1024 = (y 1).val; rw [hb1]; omega
    | ⟨2, _⟩ => show (((cfg0.win 5).blk t).view.emb y 2).val % 4096 = (y 2).val; rw [hb2]; omega
  have hp : pt5Of (((cfg0.win 5).blk t).view.emb y) = t.val := by
    exact hr
  show (Pipeline.accAt (fun n h => stAt0 m c n h junk0) (stAt0 m c) 0 t.val _).1 ((cfg0.win 5).xinj (grid0.coords t) y) = G5 m c (((cfg0.win 5).blk t).view.emb y)
  unfold G5
  rw [dif_pos (by rw [hp]; exact t.isLt), hl, fold0_congr m c _ _ _ _ hp.symm]

/-- An index of the array is in point `t`'s block iff each coordinate is in the block's range on its axis. -/
theorem mem_blk5 (t : Fin cfg0.N) (i : S4x16384x4096.Idx) :
    i ∈ ((cfg0.win 5).blk t).view.set ↔ ∀ a : Fin 3, win0_5.index t a * S1x1024x4096.size a ≤ (i a).val ∧ (i a).val < win0_5.index t a * S1x1024x4096.size a + S1x1024x4096.size a := by
  show i ∈ ((View.whole main_v2_0).slice (win0_5.rect t)).set ↔ _
  rw [View.set_slice_whole, Rect.mem_set_unit]
  exact Iff.rfl

/-- THE COVERED INDICES: in some flushing point's block iff inside the box those blocks fill. -/
theorem covered_iff5 (i : S4x16384x4096.Idx) :
    (∃ t : Fin cfg0.N, (cfg0.win 5).flush t = true ∧ i ∈ ((cfg0.win 5).blk t).view.set) ↔ 0 ≤ (i 0).val ∧ (i 0).val < 4 ∧ 0 ≤ (i 1).val ∧ (i 1).val < 16384 ∧ 0 ≤ (i 2).val ∧ (i 2).val < 4096 := by
  constructor
  · rintro ⟨t, -, hi⟩
    rw [mem_blk5] at hi
    have b0 : win0_5.index t (0 : Fin 3) * 1 ≤ (i 0).val ∧ (i 0).val < win0_5.index t (0 : Fin 3) * 1 + 1 := hi 0
    have b1 : win0_5.index t (1 : Fin 3) * 1024 ≤ (i 1).val ∧ (i 1).val < win0_5.index t (1 : Fin 3) * 1024 + 1024 := hi 1
    have b2 : win0_5.index t (2 : Fin 3) * 4096 ≤ (i 2).val ∧ (i 2).val < win0_5.index t (2 : Fin 3) * 4096 + 4096 := hi 2
    obtain ⟨e0, e1, e2, e3⟩ := idx_facts5 t
    omega
  · intro h
    have hi0 : (i 0).val < 4 := (i 0).isLt
    have hi1 : (i 1).val < 16384 := (i 1).isLt
    have hi2 : (i 2).val < 4096 := (i 2).isLt
    obtain ⟨t, hft, ht⟩ := idx_onto5 ⟨(i 0).val / 1 - 0, by omega⟩ ⟨(i 1).val / 1024 - 0, by omega⟩ ⟨(i 2).val / 4096 - 0, by omega⟩
    have q0 : win0_5.index t (0 : Fin 3) = (i 0).val / 1 - 0 + 0 := congrFun ht 0
    have q1 : win0_5.index t (1 : Fin 3) = (i 1).val / 1024 - 0 + 0 := congrFun ht 1
    have q2 : win0_5.index t (2 : Fin 3) = (i 2).val / 4096 - 0 + 0 := congrFun ht 2
    refine ⟨t, hft, ?_⟩
    rw [mem_blk5]
    intro a
    match a with
    | ⟨0, _⟩ => show win0_5.index t (0 : Fin 3) * 1 ≤ (i 0).val ∧ (i 0).val < win0_5.index t (0 : Fin 3) * 1 + 1; omega
    | ⟨1, _⟩ => show win0_5.index t (1 : Fin 3) * 1024 ≤ (i 1).val ∧ (i 1).val < win0_5.index t (1 : Fin 3) * 1024 + 1024; omega
    | ⟨2, _⟩ => show win0_5.index t (2 : Fin 3) * 4096 ≤ (i 2).val ∧ (i 2).val < win0_5.index t (2 : Fin 3) * 4096 + 4096; omega

/-- THE ARRAY after the run: `G5` (the flushing blocks tile it). -/
theorem final5 (c : Dev nD) : (dats m 0 c).arrAt 5 cfg0.N = G5 m c :=
  (dats m 0 c).arrAt_eq_of_cover 5 _ (fun t hf => flushed5_eq m c t hf) (fun i => (covered_iff5 i).2 (by
    have h0 : (i 0).val < 4 := (i 0).isLt; have h1 : (i 1).val < 16384 := (i 1).isLt; have h2 : (i 2).val < 4096 := (i 2).isLt; omega))

/-! ## Output window 6 -/

/-- The block of the array that holds index `i`, numbered in the order the points write the blocks back (one every 64 points),
    `i`'s place in it, and the point that writes it back (the last of its 64). -/
abbrev run6Of (i : S4096x128.Idx) : ℕ := 1 * ((i 0).val / 4096 - 0) + 1 * ((i 1).val / 128 - 0)
set_option backward.proofsInPublic true in
abbrev loc6Of (i : S4096x128.Idx) : S4096x128.Idx := fun a => match a with
  | ⟨0, _⟩ => ⟨(i 0).val % 4096, Nat.mod_lt _ (by decide)⟩
  | ⟨1, _⟩ => ⟨(i 1).val % 128, Nat.mod_lt _ (by decide)⟩
abbrev pt6Of (i : S4096x128.Idx) : ℕ := 64 * run6Of i + 63

/-- WHAT THE ARRAY ENDS HOLDING at index `i` inside the box the flushing blocks fill: output 6's component of the carried
    state's fold at the point that writes `i`'s block back, at `i`'s place in the block. `G6` states the array's contents
    only inside the box. -/
def G6 (c : Dev nD) : Buf (Elt F) ((c : Thread nD τ).loc main_v2_1) := fun i =>
  if h : pt6Of i < cfg0.N then
    (Pipeline.accAt (fun n h => stAt0 m c n h junk0) (stAt0 m c) 0 (pt6Of i) (by omega)).2.1 (loc6Of i)
  else V m c (Pipeline.arrRef spec0 6) i

/-- The printed index map, decided over the grid: output window 6's block indices stay in the box, and the block number
    read off them is the point's (`t / 64`). -/
theorem idx_facts6 : ∀ t : Fin cfg0.N, 0 ≤ win0_6.index t (0 : Fin 2) ∧ win0_6.index t (0 : Fin 2) ≤ 0
    ∧ 0 ≤ win0_6.index t (1 : Fin 2) ∧ win0_6.index t (1 : Fin 2) ≤ 0
    ∧ 1 * (win0_6.index t (0 : Fin 2) - 0) + 1 * (win0_6.index t (1 : Fin 2) - 0) = t.val / 64 :=
  (by decide +kernel : ∀ t : Fin grid0.N, _)

/-- Every block of the box is SOME flushing point's: `onto6Pt`, the point that writes back the block at place `q` of the box (the last point of its run). -/
abbrev onto6Pt (q0 : Fin 1) (q1 : Fin 1) : Fin grid0.N :=
  ⟨64 * (1 * q0.val + 1 * q1.val) + 63, lt_of_lt_of_eq (by omega) N_0.symm⟩
theorem idx_onto6 : ∀ (q0 : Fin 1) (q1 : Fin 1), ∃ t : Fin cfg0.N, (cfg0.win 6).flush t = true ∧ win0_6.index t = ![q0.val + 0, q1.val + 0] :=
  fun q0 q1 => ⟨onto6Pt q0 q1, (by decide +kernel : ∀ (q0 : Fin 1) (q1 : Fin 1), win0_6.flush (onto6Pt q0 q1) = true ∧ win0_6.index (onto6Pt q0 q1) = ![q0.val + 0, q1.val + 0]) q0 q1⟩

/-- WHAT A FLUSHING POINT `t` WRITES BACK is block `t` of `G6`: output 6's component of the fold up to `t`. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6, outsAt0_sweep]
  have hm : t.val % 64 = 63 := (flush0_6 t).mp hf
  obtain ⟨e0, e1, e2⟩ := idx_facts6 t
  funext y
  have hy0 : (y 0).val < 4096 := (y 0).isLt
  have hy1 : (y 1).val < 128 := (y 1).isLt
  have hb0 : (((cfg0.win 6).blk t).view.emb y 0).val = win0_6.index t (0 : Fin 2) * 4096 + 1 * (y 0).val := rfl
  have hb1 : (((cfg0.win 6).blk t).view.emb y 1).val = win0_6.index t (1 : Fin 2) * 128 + 1 * (y 1).val := rfl
  have hr : run6Of (((cfg0.win 6).blk t).view.emb y) = t.val / 64 := by
    show 1 * ((((cfg0.win 6).blk t).view.emb y 0).val / 4096 - 0) + 1 * ((((cfg0.win 6).blk t).view.emb y 1).val / 128 - 0) = _
    rw [hb0, hb1]
    rw [show (win0_6.index t (0 : Fin 2) * 4096 + 1 * (y 0).val) / 4096 = win0_6.index t (0 : Fin 2) from by omega]; rw [show (win0_6.index t (1 : Fin 2) * 128 + 1 * (y 1).val) / 128 = win0_6.index t (1 : Fin 2) from by omega]
    omega
  have hl : loc6Of (((cfg0.win 6).blk t).view.emb y) = (cfg0.win 6).xinj (grid0.coords t) y := by
    funext a; apply Fin.ext
    match a with
    | ⟨0, _⟩ => show (((cfg0.win 6).blk t).view.emb y 0).val % 4096 = (y 0).val; rw [hb0]; omega
    | ⟨1, _⟩ => show (((cfg0.win 6).blk t).view.emb y 1).val % 128 = (y 1).val; rw [hb1]; omega
  have hp : pt6Of (((cfg0.win 6).blk t).view.emb y) = t.val := by
    show 64 * run6Of (((cfg0.win 6).blk t).view.emb y) + 63 = _
    rw [hr]; have := Nat.div_add_mod t.val 64; omega
  show (Pipeline.accAt (fun n h => stAt0 m c n h junk0) (stAt0 m c) 0 t.val _).2.1 ((cfg0.win 6).xinj (grid0.coords t) y) = G6 m c (((cfg0.win 6).blk t).view.emb y)
  unfold G6
  rw [dif_pos (by rw [hp]; exact t.isLt), hl, fold0_congr m c _ _ _ _ hp.symm]

/-- An index of the array is in point `t`'s block iff each coordinate is in the block's range on its axis. -/
theorem mem_blk6 (t : Fin cfg0.N) (i : S4096x128.Idx) :
    i ∈ ((cfg0.win 6).blk t).view.set ↔ ∀ a : Fin 2, win0_6.index t a * S4096x128.size a ≤ (i a).val ∧ (i a).val < win0_6.index t a * S4096x128.size a + S4096x128.size a := by
  show i ∈ ((View.whole main_v2_1).slice (win0_6.rect t)).set ↔ _
  rw [View.set_slice_whole, Rect.mem_set_unit]
  exact Iff.rfl

/-- THE COVERED INDICES: in some flushing point's block iff inside the box those blocks fill. -/
theorem covered_iff6 (i : S4096x128.Idx) :
    (∃ t : Fin cfg0.N, (cfg0.win 6).flush t = true ∧ i ∈ ((cfg0.win 6).blk t).view.set) ↔ 0 ≤ (i 0).val ∧ (i 0).val < 4096 ∧ 0 ≤ (i 1).val ∧ (i 1).val < 128 := by
  constructor
  · rintro ⟨t, -, hi⟩
    rw [mem_blk6] at hi
    have b0 : win0_6.index t (0 : Fin 2) * 4096 ≤ (i 0).val ∧ (i 0).val < win0_6.index t (0 : Fin 2) * 4096 + 4096 := hi 0
    have b1 : win0_6.index t (1 : Fin 2) * 128 ≤ (i 1).val ∧ (i 1).val < win0_6.index t (1 : Fin 2) * 128 + 128 := hi 1
    obtain ⟨e0, e1, e2⟩ := idx_facts6 t
    omega
  · intro h
    have hi0 : (i 0).val < 4096 := (i 0).isLt
    have hi1 : (i 1).val < 128 := (i 1).isLt
    obtain ⟨t, hft, ht⟩ := idx_onto6 ⟨(i 0).val / 4096 - 0, by omega⟩ ⟨(i 1).val / 128 - 0, by omega⟩
    have q0 : win0_6.index t (0 : Fin 2) = (i 0).val / 4096 - 0 + 0 := congrFun ht 0
    have q1 : win0_6.index t (1 : Fin 2) = (i 1).val / 128 - 0 + 0 := congrFun ht 1
    refine ⟨t, hft, ?_⟩
    rw [mem_blk6]
    intro a
    match a with
    | ⟨0, _⟩ => show win0_6.index t (0 : Fin 2) * 4096 ≤ (i 0).val ∧ (i 0).val < win0_6.index t (0 : Fin 2) * 4096 + 4096; omega
    | ⟨1, _⟩ => show win0_6.index t (1 : Fin 2) * 128 ≤ (i 1).val ∧ (i 1).val < win0_6.index t (1 : Fin 2) * 128 + 128; omega

/-- THE ARRAY after the run: `G6` (the flushing blocks tile it). -/
theorem final6 (c : Dev nD) : (dats m 0 c).arrAt 6 cfg0.N = G6 m c :=
  (dats m 0 c).arrAt_eq_of_cover 6 _ (fun t hf => flushed6_eq m c t hf) (fun i => (covered_iff6 i).2 (by
    have h0 : (i 0).val < 4096 := (i 0).isLt; have h1 : (i 1).val < 128 := (i 1).isLt; omega))

/-- Output 6 is written back ONCE, at the last point, and its block is its array: the array after the run is output 6's
    component of the fold over the whole grid — where a hand proof over this window starts. -/
theorem G6_last (c : Dev nD) :
    G6 m c = (Pipeline.accAt (fun n h => stAt0 m c n h junk0) (stAt0 m c) 0 63 (lt_of_lt_of_eq (by decide) N_0.symm)).2.1 := by
  funext i
  have hi0 : (i 0).val < 4096 := (i 0).isLt
  have hi1 : (i 1).val < 128 := (i 1).isLt
  have hp : pt6Of i = 63 := by
    show 64 * (1 * ((i 0).val / 4096 - 0) + 1 * ((i 1).val / 128 - 0)) + 63 = _
    omega
  have hl : loc6Of i = i := by
    funext a; apply Fin.ext
    match a with
    | ⟨0, _⟩ => show (i 0).val % 4096 = (i 0).val; omega
    | ⟨1, _⟩ => show (i 1).val % 128 = (i 1).val; omega
  unfold G6
  rw [dif_pos (by rw [hp]; exact lt_of_lt_of_eq (by decide) N_0.symm), hl, fold0_congr m c _ _ _ _ hp]

/-! ## Output window 7 -/

/-- The block of the array that holds index `i`, numbered in the order the points write the blocks back (one per point),
    `i`'s place in it, and the point that writes it back. -/
abbrev run7Of (i : S4x16384x128.Idx) : ℕ := 16 * ((i 0).val / 1 - 0) + 1 * ((i 1).val / 1024 - 0) + 1 * ((i 2).val / 128 - 0)
set_option backward.proofsInPublic true in
abbrev loc7Of (i : S4x16384x128.Idx) : S1x1024x128.Idx := fun a => match a with
  | ⟨0, _⟩ => ⟨(i 0).val % 1, Nat.mod_lt _ (by decide)⟩
  | ⟨1, _⟩ => ⟨(i 1).val % 1024, Nat.mod_lt _ (by decide)⟩
  | ⟨2, _⟩ => ⟨(i 2).val % 128, Nat.mod_lt _ (by decide)⟩
abbrev pt7Of (i : S4x16384x128.Idx) : ℕ := run7Of i

/-- WHAT THE ARRAY ENDS HOLDING at index `i` inside the box the flushing blocks fill: output 7's component of the carried
    state's fold at the point that writes `i`'s block back, at `i`'s place in the block. `G7` states the array's contents
    only inside the box. -/
def G7 (c : Dev nD) : Buf (Elt F) ((c : Thread nD τ).loc main_v2_2) := fun i =>
  if h : pt7Of i < cfg0.N then
    (Pipeline.accAt (fun n h => stAt0 m c n h junk0) (stAt0 m c) 0 (pt7Of i) (by omega)).2.2.1 (loc7Of i)
  else V m c (Pipeline.arrRef spec0 7) i

/-- The printed index map, decided over the grid: output window 7's block indices stay in the box, and the block number
    read off them is the point's (`t`). -/
theorem idx_facts7 : ∀ t : Fin cfg0.N, 0 ≤ win0_7.index t (0 : Fin 3) ∧ win0_7.index t (0 : Fin 3) ≤ 3
    ∧ 0 ≤ win0_7.index t (1 : Fin 3) ∧ win0_7.index t (1 : Fin 3) ≤ 15
    ∧ 0 ≤ win0_7.index t (2 : Fin 3) ∧ win0_7.index t (2 : Fin 3) ≤ 0
    ∧ 16 * (win0_7.index t (0 : Fin 3) - 0) + 1 * (win0_7.index t (1 : Fin 3) - 0) + 1 * (win0_7.index t (2 : Fin 3) - 0) = t.val :=
  (by decide +kernel : ∀ t : Fin grid0.N, _)

/-- Every block of the box is SOME flushing point's: `onto7Pt`, the point that writes back the block at place `q` of the box. -/
abbrev onto7Pt (q0 : Fin 4) (q1 : Fin 16) (q2 : Fin 1) : Fin grid0.N :=
  ⟨16 * q0.val + 1 * q1.val + 1 * q2.val, lt_of_lt_of_eq (by omega) N_0.symm⟩
theorem idx_onto7 : ∀ (q0 : Fin 4) (q1 : Fin 16) (q2 : Fin 1), ∃ t : Fin cfg0.N, (cfg0.win 7).flush t = true ∧ win0_7.index t = ![q0.val + 0, q1.val + 0, q2.val + 0] :=
  fun q0 q1 q2 => ⟨onto7Pt q0 q1 q2, (by decide +kernel : ∀ (q0 : Fin 4) (q1 : Fin 16) (q2 : Fin 1), win0_7.flush (onto7Pt q0 q1 q2) = true ∧ win0_7.index (onto7Pt q0 q1 q2) = ![q0.val + 0, q1.val + 0, q2.val + 0]) q0 q1 q2⟩

/-- WHAT A FLUSHING POINT `t` WRITES BACK is block `t` of `G7`: output 7's component of the fold up to `t`. -/
theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7, outsAt0_sweep]
  obtain ⟨e0, e1, e2, e3⟩ := idx_facts7 t
  funext y
  have hy0 : (y 0).val < 1 := (y 0).isLt
  have hy1 : (y 1).val < 1024 := (y 1).isLt
  have hy2 : (y 2).val < 128 := (y 2).isLt
  have hb0 : (((cfg0.win 7).blk t).view.emb y 0).val = win0_7.index t (0 : Fin 3) * 1 + 1 * (y 0).val := rfl
  have hb1 : (((cfg0.win 7).blk t).view.emb y 1).val = win0_7.index t (1 : Fin 3) * 1024 + 1 * (y 1).val := rfl
  have hb2 : (((cfg0.win 7).blk t).view.emb y 2).val = win0_7.index t (2 : Fin 3) * 128 + 1 * (y 2).val := rfl
  have hr : run7Of (((cfg0.win 7).blk t).view.emb y) = t.val := by
    show 16 * ((((cfg0.win 7).blk t).view.emb y 0).val / 1 - 0) + 1 * ((((cfg0.win 7).blk t).view.emb y 1).val / 1024 - 0) + 1 * ((((cfg0.win 7).blk t).view.emb y 2).val / 128 - 0) = _
    rw [hb0, hb1, hb2]
    rw [show (win0_7.index t (0 : Fin 3) * 1 + 1 * (y 0).val) / 1 = win0_7.index t (0 : Fin 3) from by omega]; rw [show (win0_7.index t (1 : Fin 3) * 1024 + 1 * (y 1).val) / 1024 = win0_7.index t (1 : Fin 3) from by omega]; rw [show (win0_7.index t (2 : Fin 3) * 128 + 1 * (y 2).val) / 128 = win0_7.index t (2 : Fin 3) from by omega]
    omega
  have hl : loc7Of (((cfg0.win 7).blk t).view.emb y) = (cfg0.win 7).xinj (grid0.coords t) y := by
    funext a; apply Fin.ext
    match a with
    | ⟨0, _⟩ => show (((cfg0.win 7).blk t).view.emb y 0).val % 1 = (y 0).val; rw [hb0]; omega
    | ⟨1, _⟩ => show (((cfg0.win 7).blk t).view.emb y 1).val % 1024 = (y 1).val; rw [hb1]; omega
    | ⟨2, _⟩ => show (((cfg0.win 7).blk t).view.emb y 2).val % 128 = (y 2).val; rw [hb2]; omega
  have hp : pt7Of (((cfg0.win 7).blk t).view.emb y) = t.val := by
    exact hr
  show (Pipeline.accAt (fun n h => stAt0 m c n h junk0) (stAt0 m c) 0 t.val _).2.2.1 ((cfg0.win 7).xinj (grid0.coords t) y) = G7 m c (((cfg0.win 7).blk t).view.emb y)
  unfold G7
  rw [dif_pos (by rw [hp]; exact t.isLt), hl, fold0_congr m c _ _ _ _ hp.symm]

/-- An index of the array is in point `t`'s block iff each coordinate is in the block's range on its axis. -/
theorem mem_blk7 (t : Fin cfg0.N) (i : S4x16384x128.Idx) :
    i ∈ ((cfg0.win 7).blk t).view.set ↔ ∀ a : Fin 3, win0_7.index t a * S1x1024x128.size a ≤ (i a).val ∧ (i a).val < win0_7.index t a * S1x1024x128.size a + S1x1024x128.size a := by
  show i ∈ ((View.whole main_v2_2).slice (win0_7.rect t)).set ↔ _
  rw [View.set_slice_whole, Rect.mem_set_unit]
  exact Iff.rfl

/-- THE COVERED INDICES: in some flushing point's block iff inside the box those blocks fill. -/
theorem covered_iff7 (i : S4x16384x128.Idx) :
    (∃ t : Fin cfg0.N, (cfg0.win 7).flush t = true ∧ i ∈ ((cfg0.win 7).blk t).view.set) ↔ 0 ≤ (i 0).val ∧ (i 0).val < 4 ∧ 0 ≤ (i 1).val ∧ (i 1).val < 16384 ∧ 0 ≤ (i 2).val ∧ (i 2).val < 128 := by
  constructor
  · rintro ⟨t, -, hi⟩
    rw [mem_blk7] at hi
    have b0 : win0_7.index t (0 : Fin 3) * 1 ≤ (i 0).val ∧ (i 0).val < win0_7.index t (0 : Fin 3) * 1 + 1 := hi 0
    have b1 : win0_7.index t (1 : Fin 3) * 1024 ≤ (i 1).val ∧ (i 1).val < win0_7.index t (1 : Fin 3) * 1024 + 1024 := hi 1
    have b2 : win0_7.index t (2 : Fin 3) * 128 ≤ (i 2).val ∧ (i 2).val < win0_7.index t (2 : Fin 3) * 128 + 128 := hi 2
    obtain ⟨e0, e1, e2, e3⟩ := idx_facts7 t
    omega
  · intro h
    have hi0 : (i 0).val < 4 := (i 0).isLt
    have hi1 : (i 1).val < 16384 := (i 1).isLt
    have hi2 : (i 2).val < 128 := (i 2).isLt
    obtain ⟨t, hft, ht⟩ := idx_onto7 ⟨(i 0).val / 1 - 0, by omega⟩ ⟨(i 1).val / 1024 - 0, by omega⟩ ⟨(i 2).val / 128 - 0, by omega⟩
    have q0 : win0_7.index t (0 : Fin 3) = (i 0).val / 1 - 0 + 0 := congrFun ht 0
    have q1 : win0_7.index t (1 : Fin 3) = (i 1).val / 1024 - 0 + 0 := congrFun ht 1
    have q2 : win0_7.index t (2 : Fin 3) = (i 2).val / 128 - 0 + 0 := congrFun ht 2
    refine ⟨t, hft, ?_⟩
    rw [mem_blk7]
    intro a
    match a with
    | ⟨0, _⟩ => show win0_7.index t (0 : Fin 3) * 1 ≤ (i 0).val ∧ (i 0).val < win0_7.index t (0 : Fin 3) * 1 + 1; omega
    | ⟨1, _⟩ => show win0_7.index t (1 : Fin 3) * 1024 ≤ (i 1).val ∧ (i 1).val < win0_7.index t (1 : Fin 3) * 1024 + 1024; omega
    | ⟨2, _⟩ => show win0_7.index t (2 : Fin 3) * 128 ≤ (i 2).val ∧ (i 2).val < win0_7.index t (2 : Fin 3) * 128 + 128; omega

/-- THE ARRAY after the run: `G7` (the flushing blocks tile it). -/
theorem final7 (c : Dev nD) : (dats m 0 c).arrAt 7 cfg0.N = G7 m c :=
  (dats m 0 c).arrAt_eq_of_cover 7 _ (fun t hf => flushed7_eq m c t hf) (fun i => (covered_iff7 i).2 (by
    have h0 : (i 0).val < 4 := (i 0).isLt; have h1 : (i 1).val < 16384 := (i 1).isLt; have h2 : (i 2).val < 128 := (i 2).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v2_0) = G5 m c
      ∧ r.2.mem ((c : Thread nD τ).loc main_v2_1) = G6 m c
      ∧ r.2.mem ((c : Thread nD τ).loc main_v2_2) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post5 m r h c).trans (final5 m c),
      (post6 m r h c).trans (final6 m c),
      (post7 m r h c).trans (final7 m c),
      kept_main_arg0 m r h c,
      kept_main_arg1 m r h c,
      kept_main_arg2 m r h c,
      kept_main_arg3 m r h c,
      kept_main_arg4 m r h c⟩)
    (run_main m ρ)

end Cert.KernelIdeal.Value

end
-- ==== Proof.Val.Mxu.lean ====
/- The matrix unit on exact values: a push followed by the accumulate that loads it adds one pass to the rows it
   addresses, whatever those rows held. -/

module

public import Idealize.ShloMosaic.Lib.Mxu
public import Idealize.ShloMosaic.Lib.Mxu.Lemmas
public import Idealize.ShloMosaic.Lib.ValueIdx
public import Idealize.ShloMosaic.Lib.ValueIdxCore
public import Idealize.ShloMosaic.Lib.IdealHost

@[expose] public section

noncomputable section

namespace Cert.Val

open Idealize.ShloMosaic

variable {s : Mxu Ideal} {q r q' : Fin 2} {tr : Bool} {A A' M M' : ℕ} {φ ψ : FTy}

/-- Every staging register is empty. -/
def Empty (s : Mxu Ideal) : Prop := ∀ q r, s.reg q r = none

theorem empty_init : Empty (Mxu.init : Mxu Ideal) := fun _ _ => rfl

theorem empty_pop (hE : Empty s) (h : Mxu.Fits A M) : Empty (s.pop q A M h) := fun q' r' => hE q' r'

/-- A push into an empty register followed by the accumulate that loads it leaves the registers empty. -/
theorem empty_pass (hE : Empty s) (v : FVec Ideal (Mxu.STile 256) ψ) (lhs : FVec Ideal (Mxu.STile M) φ) (h : Mxu.Fits A M) :
    Empty ((s.pushed q r tr v).accLhs q r A lhs h) := fun q' r' => by
  by_cases hq : q' = q ∧ r' = r
  · obtain ⟨rfl, rfl⟩ := hq; exact Mxu.reg_accLhs ..
  · rw [Mxu.reg_accLhs_ne _ _ _ _ _ _ _ _ hq, Mxu.reg_pushed_ne _ _ _ _ _ _ _ hq]; exact hE _ _

/-- The pass adds to the rows it addresses: rows not live hold zero. -/
theorem read_pass (hE : Empty s) (v : FVec Ideal (Mxu.STile 256) ψ) (lhs : FVec Ideal (Mxu.STile M) φ) (h h' : Mxu.Fits A M) :
    ((s.pushed q r tr v).accLhs q r A lhs h).read q A h'
      = fun i => s.read q A h' i + (⟨ψ, tr, v⟩ : Mxu.Staged Ideal).pass lhs i := by
  have hst : (s.pushed q r tr v).staged q r = ⟨ψ, tr, v⟩ := by
    rw [Mxu.staged, Mxu.reg_pushed_of_none _ _ _ _ _ (hE q r)]; rfl
  suffices hab : ∀ (a : Fin M) (b : Fin 256), ((s.pushed q r tr v).accLhs q r A lhs h).read q A h' (Mxu.ix a b)
      = s.read q A h' (Mxu.ix a b) + (⟨ψ, tr, v⟩ : Mxu.Staged Ideal).pass lhs (Mxu.ix a b) by
    funext i; rw [← Mxu.ix_eta i]; exact hab _ _
  intro a b
  have hlt := a.isLt
  have ha : (⟨4 * A + a.val - 4 * A, by omega⟩ : Fin M) = a := Fin.ext (by simp)
  show (if hq : q = q ∧ 4 * A ≤ 4 * A + a.val ∧ 4 * A + a.val < 4 * A + M then
      Mxu.deposit ((s.pushed q r tr v).live q (Mxu.row h' a)) ((s.pushed q r tr v).acc q (Mxu.row h' a) b)
        (((s.pushed q r tr v).staged q r).pass lhs (Mxu.ix ⟨4 * A + a.val - 4 * A, by omega⟩ b))
      else _) = s.acc q (Mxu.row h' a) b + _
  rw [dif_pos ⟨rfl, Nat.le_add_right _ _, Nat.add_lt_add_left hlt _⟩, hst, ha, Mxu.acc_pushed, Mxu.live_pushed]
  cases hl : s.live q (Mxu.row h' a) with
  | true => rfl
  | false =>
    rw [s.clean _ _ _ hl]
    have h0 : (FloatOps.ofBits .f32 0 : Ideal .f32) = (0 : EReal) := Ideal.ofBits_zero_f32
    rw [h0]; exact (zero_add (M := EReal) _).symm

/-- The pass leaves the other unit's buffer. -/
theorem read_pass_unit (hq : q' ≠ q) (v : FVec Ideal (Mxu.STile 256) ψ) (lhs : FVec Ideal (Mxu.STile M) φ) (h : Mxu.Fits A M) (h' : Mxu.Fits A' M') :
    ((s.pushed q r tr v).accLhs q r A lhs h).read q' A' h' = s.read q' A' h' := by
  funext i
  show (if hq : q' = q ∧ _ then _ else _) = _
  rw [dif_neg (fun hh => hq hh.1), Mxu.acc_pushed]; rfl

/-- The pass leaves the rows below. -/
theorem read_pass_lo (hA : 4 * A' + M' ≤ 4 * A) (v : FVec Ideal (Mxu.STile 256) ψ) (lhs : FVec Ideal (Mxu.STile M) φ) (h : Mxu.Fits A M) (h' : Mxu.Fits A' M') :
    ((s.pushed q r tr v).accLhs q r A lhs h).read q' A' h' = s.read q' A' h' := by
  funext i
  have hlt : (i 0).val < M' := (i 0).isLt
  show (if hq : q' = q ∧ 4 * A ≤ 4 * A' + (i 0).val ∧ 4 * A' + (i 0).val < 4 * A + M then _ else _) = _
  rw [dif_neg (fun hh => by omega), Mxu.acc_pushed]; rfl

/-- The pass leaves the rows above. -/
theorem read_pass_hi (hA : 4 * A + M ≤ 4 * A') (v : FVec Ideal (Mxu.STile 256) ψ) (lhs : FVec Ideal (Mxu.STile M) φ) (h : Mxu.Fits A M) (h' : Mxu.Fits A' M') :
    ((s.pushed q r tr v).accLhs q r A lhs h).read q' A' h' = s.read q' A' h' := by
  funext i
  have hlt : (i 0).val < M' := (i 0).isLt
  show (if hq : q' = q ∧ 4 * A ≤ 4 * A' + (i 0).val ∧ 4 * A' + (i 0).val < 4 * A + M then _ else _) = _
  rw [dif_neg (fun hh => by omega), Mxu.acc_pushed]; rfl

/-- Popped rows hold zero. -/
theorem read_pop (h h' : Mxu.Fits A M) : (s.pop q A M h).read q A h' = fun _ => (0 : EReal) := by
  rw [show h' = h from rfl, Mxu.read_pop]; funext i; exact Ideal.ofBits_zero_f32

theorem read_pop_unit (hq : q' ≠ q) (h : Mxu.Fits A M) (h' : Mxu.Fits A' M') : (s.pop q A M h).read q' A' h' = s.read q' A' h' := by
  funext i
  show (if q' = q ∧ _ then _ else _) = _
  rw [if_neg (fun hh => hq hh.1)]; rfl

theorem read_pop_lo (hA : 4 * A' + M' ≤ 4 * A) (h : Mxu.Fits A M) (h' : Mxu.Fits A' M') : (s.pop q A M h).read q' A' h' = s.read q' A' h' := by
  funext i
  have hlt : (i 0).val < M' := (i 0).isLt
  show (if q' = q ∧ 4 * A ≤ 4 * A' + (i 0).val ∧ 4 * A' + (i 0).val < 4 * A + M then _ else _) = _
  rw [if_neg (fun hh => by omega)]; rfl

theorem read_pop_hi (hA : 4 * A + M ≤ 4 * A') (h : Mxu.Fits A M) (h' : Mxu.Fits A' M') : (s.pop q A M h).read q' A' h' = s.read q' A' h' := by
  funext i
  have hlt : (i 0).val < M' := (i 0).isLt
  show (if q' = q ∧ 4 * A ≤ 4 * A' + (i 0).val ∧ 4 * A' + (i 0).val < 4 * A + M then _ else _) = _
  rw [if_neg (fun hh => by omega)]; rfl

theorem read_init (h : Mxu.Fits A M) : (Mxu.init : Mxu Ideal).read q A h = fun _ => (0 : EReal) := by
  rw [Mxu.read_init]; funext i; exact Ideal.ofBits_zero_f32

end Cert.Val

end
-- ==== Proof.Val.Tiles.lean ====
/- What the kernel's tiles hold on exact values: the logits, the gradient of one token's logits, and the two products
   made from it. Each tile is read as a block of one function of the whole point's coordinates. -/

module

public import Idealize.ShloMosaic.Lib.ValueLayout
public import Idealize.ShloMosaic.Lib.Pipeline.Value
public import Idealize.ShloMosaic.Lib.MatmulPlain
public import Idealize.ShloMosaic.Lib.Pipeline.ReadBack
public import proofs.«01_k».proof.Proof.Val.Mxu
public import proofs.«01_k».proof.Proof.Gen.KernelIdeal.Skeleton

@[expose] public section

set_option maxRecDepth 16384

noncomputable section

namespace Cert.Val

open Idealize.ShloMosaic Idealize.ShloMosaic.ValueIdx Cert.KernelIdeal Cert.KernelIdeal.Gen
open scoped BigOperators

/-! ## The mathematics of one point -/

/-- The value that marks an expert a token was not sent to. -/
def NS : EReal := Ideal.ofBits .f32 0x3F800008#32
/-- Twice the z-loss coefficient. -/
def C2 : EReal := Ideal.ofBits .f32 0x3CA3D70A#32

/-- The largest entry. -/
def top (l : Fin 128 → EReal) : EReal := Finset.univ.fold max ⊥ l
/-- The entries' exponentials, shifted by the largest. -/
def pex (l : Fin 128 → EReal) (e : Fin 128) : EReal := Ideal.exp (l e - top l)
/-- The entry where the gradient marks the expert as chosen. -/
def chosen (l d : Fin 128 → EReal) (e : Fin 128) : EReal := if d e ≠ NS then l e else ⊥
/-- The gate of an expert. -/
def gate (l d : Fin 128 → EReal) (e : Fin 128) : EReal :=
  pex (chosen l d) e * Ideal.div 1 (∑ k, pex (chosen l d) k)
/-- The gradient of the logits of one token, as the kernel orders its operations. -/
def dlogit (l d : Fin 128 → EReal) (e : Fin 128) : EReal :=
  Ideal.div (C2 * (top l + Ideal.log (∑ k, pex l k))) (∑ k, pex l k) * pex l e
    + gate l d e * (d e - ∑ k, gate l d k * d k)

/-- One step of the scatter of the gates' gradients. -/
def put (e : Fin 128) (id : BitVec 32) (g prev : EReal) : EReal := if id = BitVec.ofNat 32 e.val then g else prev
/-- The gates' gradients scattered over the experts. -/
def scat (I : Fin 8 → BitVec 32) (G : Fin 8 → EReal) (e : Fin 128) : EReal :=
  put e (I 7) (G 7) (put e (I 6) (G 6) (put e (I 5) (G 5) (put e (I 4) (G 4) (put e (I 3) (G 3) (put e (I 2) (G 2)
    (put e (I 1) (G 1) (put e (I 0) (G 0) NS)))))))

/-- A logit. -/
def LG (W : Fin 128 → Fin 4096 → EReal) (X : Fin 1024 → Fin 4096 → EReal) (S : Fin 1024 → EReal) (e : Fin 128) (t : Fin 1024) : EReal :=
  (∑ d, W e d * X t d) * S t

/-- The gradient of a logit. -/
def DL (W : Fin 128 → Fin 4096 → EReal) (X : Fin 1024 → Fin 4096 → EReal) (S : Fin 1024 → EReal)
    (I : Fin 8 → Fin 1024 → BitVec 32) (G : Fin 8 → Fin 1024 → EReal) (e : Fin 128) (t : Fin 1024) : EReal :=
  dlogit (fun e => LG W X S e t) (scat (fun k => I k t) fun k => G k t) e

/-! ## Small readings -/

theorem ofBits_negInf : Ideal.ofBits .f32 0xFF800000#32 = ⊥ := by simp [Ideal.ofBits, Ideal.ieee]

theorem select_cmpi (a b : BitVec 32) (x y : EReal) : Scalar.select (IntOp.cmpi .eq a b) x y = if a = b then x else y := by
  by_cases h : a = b
  · simp [IntOp.cmpi, Scalar.select, h]
  · have hb : (a == b) = false := by simpa using h
    simp [IntOp.cmpi, Scalar.select, h, hb]

theorem select_cmp_one (a b x y : EReal) : Scalar.select (Ideal.cmp .one a b) x y = if a ≠ b then x else y := by
  by_cases h : a = b <;> simp [Ideal.cmp, Scalar.select, h]

/-- A load of a whole memref at known contents reads them at the rectangle's indices. -/
theorem readAt_unread {sig : RefSig} {κ : Kind} {sp : Space} {s : Shape} {e : EltTy} {Val : EltTy → Type} (m : Memref sig κ sp s e) (hm : m.IsWhole)
    (d : s.Idx → Val e) (r : Rect s) (j : r.shape.Idx) : View.readAt Val m.view r.toLoadRect (hm.unread d) j = d (r.emb j) := by
  rw [View.readAt_eq_ld, Memref.IsWhole.read_unread]; rfl

/-! ## The vector forms the body spells -/

/-- A row spread over the experts. -/
def spread (v : FVec Ideal S1x256 .f32) : FVec Ideal S128x256 .f32 := broadcastTo S128x256 v broadcasts_S1x256_S128x256
/-- The largest entry of each column, as a row. -/
def topV (l : FVec Ideal S128x256 .f32) : FVec Ideal S1x256 .f32 :=
  shapeCast S1x256 (multiReduction .maximumf [0] S256 l 0xFF800000#32 reduces_S128x256_S256 (.inl rfl) rfl) shapeCasts_S256_S1x256
/-- The sum of each column, as a row. -/
def sumV (l : FVec Ideal S128x256 .f32) : FVec Ideal S1x256 .f32 :=
  shapeCast S1x256 (multiReduction .add [0] S256 l 0x00000000#32 reduces_S128x256_S256 (.inl rfl) rfl) shapeCasts_S256_S1x256
/-- The shifted exponentials. -/
def pexV (l : FVec Ideal S128x256 .f32) : FVec Ideal S128x256 .f32 := exp (subf l (spread (topV l)))
/-- The chosen entries. -/
def chosenV (l d : FVec Ideal S128x256 .f32) : FVec Ideal S128x256 .f32 :=
  select (cmpf .one d (broadcast S128x256 (Scalar.ofBits .f32 0x3F800008#32))) l (broadcast S128x256 (Scalar.ofBits .f32 0xFF800000#32))
/-- The gates. -/
def gateV (l d : FVec Ideal S128x256 .f32) : FVec Ideal S128x256 .f32 :=
  mulf (pexV (chosenV l d)) (spread (divf (broadcast S1x256 (Scalar.ofBits .f32 0x3F800000#32)) (sumV (pexV (chosenV l d)))))
/-- The gradient of a tile of logits. -/
def dlogitV (l d : FVec Ideal S128x256 .f32) : FVec Ideal S128x256 .f32 :=
  addf (mulf (spread (divf (mulf (broadcast S1x256 (Scalar.ofBits .f32 0x3CA3D70A#32)) (addf (topV l) (log (sumV (pexV l))))) (sumV (pexV l)))) (pexV l))
    (mulf (gateV l d) (subf d (spread (sumV (mulf (gateV l d) d)))))

/-- One step of the scatter. -/
def putV (id : IVec S1x1x256 32) (g : FVec Ideal S1x1x256 .bf16) (prev : FVec Ideal S128x256 .f32) : FVec Ideal S128x256 .f32 :=
  select (cmpi .eq (broadcastTo S128x256 (shapeCast S1x256 id shapeCasts_S1x1x256_S1x256) broadcasts_S1x256_S128x256) (iota .tc S128x256 32 [0] iota_S128x256_d0_w32))
    (spread (shapeCast S1x256 (extf .f32 (shapeCast S1x256 g shapeCasts_S1x1x256_S1x256) bitsLt_bf16_f32) shapeCasts_S1x256_S1x256)) prev

theorem row8 (k o : ℕ) (hk : k < 8) (ho : o + 256 ≤ 1024) : ∀ a, (![0, k, o] : Fin 3 → ℕ) a + S1x1x256.size a ≤ S1x8x1024.size a
  | ⟨0, _⟩ => Nat.le_refl 1
  | ⟨1, _⟩ => hk
  | ⟨2, _⟩ => ho

/-- The scatter over a tile's columns, from the two arrays' readings at a rectangle. -/
def scatV (R3 : (r : Rect S1x8x1024) → r.shape.Idx → BitVec 32) (R4 : (r : Rect S1x8x1024) → r.shape.Idx → EReal) (o : ℕ) (ho : o + 256 ≤ 1024) :
    FVec Ideal S128x256 .f32 :=
  let p (k : ℕ) (hk : k < 8) : FVec Ideal S128x256 .f32 → FVec Ideal S128x256 .f32 :=
    putV (R3 (Rect.unit ![0, k, o] S1x1x256.size (row8 k o hk ho))) (R4 (Rect.unit ![0, k, o] S1x1x256.size (row8 k o hk ho)))
  p 7 (by decide) (p 6 (by decide) (p 5 (by decide) (p 4 (by decide) (p 3 (by decide) (p 2 (by decide) (p 1 (by decide) (p 0 (by decide)
    (broadcast S128x256 (Scalar.ofBits .f32 0x3F800008#32)))))))))

/-! ## Their readings at an index -/

section Read

variable (l d : FVec Ideal S128x256 .f32) (e : Fin 128) (c : Fin 256)

theorem spread_apply (v : FVec Ideal S1x256 .f32) : spread v (ix2 e c) = v (ix2 (0 : Fin 1) c) := broadcastTo_1b_ab_apply v _ e c

theorem lift_eq (k : Fin 128) : Shape.Reduces.lift reduces_S128x256_S256 (ix1 c) k = (ix2 k c : S128x256.Idx) := by
  funext a; match a with | ⟨0, _⟩ => rfl | ⟨1, _⟩ => rfl

theorem topV_apply : topV l (ix2 (0 : Fin 1) c) = top fun e => l (ix2 e c) := by
  rw [topV, shapeCast_a_1a_apply]
  refine (Ideal.multiReduction_maximumf_single l 0xFF800000#32 reduces_S128x256_S256 (.inl rfl) rfl (ix1 c)).trans ?_
  have h0 : (FloatOps.ofBits .f32 0xFF800000#32 : Ideal .f32) = (⊥ : EReal) := ofBits_negInf
  rw [h0]
  exact congrArg (Finset.fold max ⊥ · Finset.univ) (funext fun k => congrArg l (lift_eq c k))

theorem sumV_apply : sumV l (ix2 (0 : Fin 1) c) = ∑ e, l (ix2 e c) := by
  rw [sumV, shapeCast_a_1a_apply]
  refine (Ideal.multiReduction_add_single l 0x00000000#32 reduces_S128x256_S256 (.inl rfl) rfl (ix1 c)).trans ?_
  exact Finset.sum_congr rfl fun k _ => congrArg l (lift_eq c k)

theorem pexV_apply : pexV l (ix2 e c) = pex (fun e => l (ix2 e c)) e := by
  show Ideal.exp (l (ix2 e c) - spread (topV l) (ix2 e c)) = _
  rw [spread_apply, topV_apply]; rfl

theorem chosenV_apply : chosenV l d (ix2 e c) = chosen (fun e => l (ix2 e c)) (fun e => d (ix2 e c)) e := by
  show Scalar.select (Ideal.cmp .one (d (ix2 e c)) NS) (l (ix2 e c)) (Ideal.ofBits .f32 0xFF800000#32) = _
  rw [select_cmp_one, ofBits_negInf]; rfl

theorem gateV_apply : gateV l d (ix2 e c) = gate (fun e => l (ix2 e c)) (fun e => d (ix2 e c)) e := by
  show pexV (chosenV l d) (ix2 e c) * spread _ (ix2 e c) = _
  rw [spread_apply, pexV_apply]
  show _ * Ideal.div (Ideal.ofBits .f32 0x3F800000#32) (sumV (pexV (chosenV l d)) (ix2 (0 : Fin 1) c)) = _
  rw [sumV_apply, Ideal.ofBits_one_f32]
  simp only [pexV_apply, chosenV_apply]; rfl

theorem dlogitV_apply : dlogitV l d (ix2 e c) = dlogit (fun e => l (ix2 e c)) (fun e => d (ix2 e c)) e := by
  show spread _ (ix2 e c) * pexV l (ix2 e c) + gateV l d (ix2 e c) * (d (ix2 e c) - spread _ (ix2 e c)) = _
  rw [spread_apply, spread_apply, pexV_apply, gateV_apply, sumV_apply]
  show Ideal.div (C2 * (topV l (ix2 (0 : Fin 1) c) + Ideal.log (sumV (pexV l) (ix2 (0 : Fin 1) c)))) (sumV (pexV l) (ix2 (0 : Fin 1) c)) * _
    + _ * (_ - ∑ k : Fin 128, gateV l d (ix2 k c) * d (ix2 k c)) = _
  rw [sumV_apply, topV_apply]
  simp only [pexV_apply, gateV_apply]; rfl

theorem putV_apply (id : IVec S1x1x256 32) (g : FVec Ideal S1x1x256 .bf16) (prev : FVec Ideal S128x256 .f32) :
    putV id g prev (ix2 e c) = put e (id (ix3 (0 : Fin 1) (0 : Fin 1) c)) (g (ix3 (0 : Fin 1) (0 : Fin 1) c)) (prev (ix2 e c)) := by
  show Scalar.select (IntOp.cmpi .eq (broadcastTo S128x256 (shapeCast S1x256 id shapeCasts_S1x1x256_S1x256) broadcasts_S1x256_S128x256 (ix2 e c))
    (iota .tc S128x256 32 [0] iota_S128x256_d0_w32 (ix2 e c))) (spread _ (ix2 e c)) (prev (ix2 e c)) = _
  rw [select_cmpi, broadcastTo_1b_ab_apply, iota_single_apply, spread_apply, shapeCast_self, shapeCast_1ab_ab_apply]
  show (if _ then shapeCast S1x256 g shapeCasts_S1x1x256_S1x256 (ix2 (0 : Fin 1) c) else _) = _
  rw [shapeCast_1ab_ab_apply]; rfl

theorem scatV_apply {R3 : (r : Rect S1x8x1024) → r.shape.Idx → BitVec 32} {R4 : (r : Rect S1x8x1024) → r.shape.Idx → EReal} {o : ℕ} (ho : o + 256 ≤ 1024)
    (x3 : S1x8x1024.Idx → BitVec 32) (x4 : S1x8x1024.Idx → EReal) (h3 : ∀ r j, R3 r j = x3 (r.emb j)) (h4 : ∀ r j, R4 r j = x4 (r.emb j)) :
    scatV R3 R4 o ho (ix2 e c) = scat (fun k => x3 (ix3 (0 : Fin 1) k (⟨o + c.val, by omega⟩ : Fin 1024)))
      (fun k => x4 (ix3 (0 : Fin 1) k (⟨o + c.val, by omega⟩ : Fin 1024))) e := by
  have hix : ∀ (k : Fin 8) (h : ∀ a, (![0, k.val, o] : Fin 3 → ℕ) a + S1x1x256.size a ≤ S1x8x1024.size a),
      (Rect.unit (s := S1x8x1024) ![0, k.val, o] S1x1x256.size h).emb (ix3 (0 : Fin 1) (0 : Fin 1) c) = ix3 (0 : Fin 1) k (⟨o + c.val, by omega⟩ : Fin 1024) := by
    intro k h; funext a; apply Fin.ext
    match a with
    | ⟨0, _⟩ => rfl
    | ⟨1, _⟩ => show k.val + 1 * 0 = k.val; omega
    | ⟨2, _⟩ => show o + 1 * c.val = o + c.val; omega
  unfold scatV scat
  simp only [putV_apply, h3, h4]
  rw [show ∀ h, (Rect.unit (s := S1x8x1024) ![0, 7, o] S1x1x256.size h).emb (ix3 (0 : Fin 1) (0 : Fin 1) c) = _ from hix 7,
    show ∀ h, (Rect.unit (s := S1x8x1024) ![0, 6, o] S1x1x256.size h).emb (ix3 (0 : Fin 1) (0 : Fin 1) c) = _ from hix 6,
    show ∀ h, (Rect.unit (s := S1x8x1024) ![0, 5, o] S1x1x256.size h).emb (ix3 (0 : Fin 1) (0 : Fin 1) c) = _ from hix 5,
    show ∀ h, (Rect.unit (s := S1x8x1024) ![0, 4, o] S1x1x256.size h).emb (ix3 (0 : Fin 1) (0 : Fin 1) c) = _ from hix 4,
    show ∀ h, (Rect.unit (s := S1x8x1024) ![0, 3, o] S1x1x256.size h).emb (ix3 (0 : Fin 1) (0 : Fin 1) c) = _ from hix 3,
    show ∀ h, (Rect.unit (s := S1x8x1024) ![0, 2, o] S1x1x256.size h).emb (ix3 (0 : Fin 1) (0 : Fin 1) c) = _ from hix 2,
    show ∀ h, (Rect.unit (s := S1x8x1024) ![0, 1, o] S1x1x256.size h).emb (ix3 (0 : Fin 1) (0 : Fin 1) c) = _ from hix 1,
    show ∀ h, (Rect.unit (s := S1x8x1024) ![0, 0, o] S1x1x256.size h).emb (ix3 (0 : Fin 1) (0 : Fin 1) c) = _ from hix 0]
  rfl

end Read

/-! ## The matrix unit's pass at an index -/

theorem pass_plain {M : ℕ} {φ ψ : FTy} (v : FVec Ideal (Mxu.STile 256) ψ) (lhs : FVec Ideal (Mxu.STile M) φ) (r : Fin M) (c : Fin 256) :
    (⟨ψ, false, v⟩ : Mxu.Staged Ideal).pass lhs (ix2 r c : (Mxu.STile M).Idx) = ∑ k : Fin 256, lhs (ix2 r k : (Mxu.STile M).Idx) * v (ix2 k c : (Mxu.STile 256).Idx) := by
  have h := Ideal.matmul_plain_apply (φ₁ := φ) (φ₂ := ψ) none lhs v (fun _ => (0 : EReal)) r c
  rw [zero_add] at h
  refine Eq.trans ?_ h
  show Ideal.mxuPass (DotDims.plain M 256 256) lhs v _ = Ideal.matmul _ _ _ _ _
  exact (zero_add _).symm

theorem pass_transposed {M : ℕ} {φ ψ : FTy} (v : FVec Ideal (Mxu.STile 256) ψ) (lhs : FVec Ideal (Mxu.STile M) φ) (r : Fin M) (c : Fin 256) :
    (⟨ψ, true, v⟩ : Mxu.Staged Ideal).pass lhs (ix2 r c : (Mxu.STile M).Idx) = ∑ k : Fin 256, lhs (ix2 r k : (Mxu.STile M).Idx) * v (ix2 c k : (Mxu.STile 256).Idx) := by
  have h := Ideal.matmul_transposedRhs_apply (φ₁ := φ) (φ₂ := ψ) none lhs v (fun _ => (0 : EReal)) r c
  rw [zero_add] at h
  refine Eq.trans ?_ h
  show Ideal.mxuPass (DotDims.transposedRhs M 256 256) lhs v _ = Ideal.matmul _ _ _ _ _
  exact (zero_add _).symm

/-! ## The tiles as blocks -/

/-- A block of the tokens' features, without its unit axis. -/
def xblk (x : FVec Ideal S1x256x256 .fp8e4m3) : FVec Ideal S256x256 .bf16 :=
  extf .bf16 (shapeCast S256x256 x shapeCasts_S1x256x256_S256x256) bitsLt_fp8e4m3_bf16

theorem xblk_apply (x : FVec Ideal S1x256x256 .fp8e4m3) (c d : Fin 256) : xblk x (ix2 c d) = x (ix3 (0 : Fin 1) c d) :=
  shapeCast_1ab_ab_apply x shapeCasts_S1x256x256_S256x256 c d

/-- An array of the tokens' features. -/
abbrev Xof (x0 : S1x1024x4096.Idx → EReal) (t : Fin 1024) (d : Fin 4096) : EReal := x0 (ix3 (0 : Fin 1) t d)
/-- A matrix by its coordinates. -/
abbrev Wof {m n : ℕ} (x : (⟨2, ![m, n]⟩ : Shape).Idx → EReal) (i : Fin m) (j : Fin n) : EReal := x (ix2 i j)

theorem emb3 {o1 o2 : ℕ} (h : ∀ a, (![0, o1, o2] : Fin 3 → ℕ) a + S1x256x256.size a ≤ S1x1024x4096.size a) (h1 : o1 + 256 ≤ 1024) (h2 : o2 + 256 ≤ 4096)
    (c d : Fin 256) : (Rect.unit (s := S1x1024x4096) ![0, o1, o2] S1x256x256.size h).emb (ix3 (0 : Fin 1) c d)
      = ix3 (0 : Fin 1) (⟨o1 + c.val, by omega⟩ : Fin 1024) (⟨o2 + d.val, by omega⟩ : Fin 4096) := by
  funext a; apply Fin.ext
  match a with
  | ⟨0, _⟩ => rfl
  | ⟨1, _⟩ => exact congrArg (o1 + ·) (Nat.one_mul _)
  | ⟨2, _⟩ => exact congrArg (o2 + ·) (Nat.one_mul _)

theorem emb2 {m n b1 b2 o1 o2 : ℕ} (h : ∀ a, (![o1, o2] : Fin 2 → ℕ) a + (![b1, b2] : Fin 2 → ℕ) a ≤ (⟨2, ![m, n]⟩ : Shape).size a)
    (i : Fin b1) (j : Fin b2) : (Rect.unit (s := (⟨2, ![m, n]⟩ : Shape)) ![o1, o2] ![b1, b2] h).emb (ix2 i j)
      = ix2 (⟨o1 + i.val, Nat.lt_of_lt_of_le (Nat.add_lt_add_left i.isLt _) (h 0)⟩ : Fin m) (⟨o2 + j.val, Nat.lt_of_lt_of_le (Nat.add_lt_add_left j.isLt _) (h 1)⟩ : Fin n) := by
  funext a; apply Fin.ext
  match a with
  | ⟨0, _⟩ => exact congrArg (o1 + ·) (Nat.one_mul _)
  | ⟨1, _⟩ => exact congrArg (o2 + ·) (Nat.one_mul _)

/-! ### Sums by blocks -/

theorem sum_blocks {M : Type*} [AddCommMonoid M] (a b : ℕ) (f : Fin (a * b) → M) :
    ∑ d, f d = ∑ j : Fin a, ∑ k : Fin b, f (finProdFinEquiv (j, k)) := by
  rw [← Equiv.sum_comp finProdFinEquiv f, Fintype.sum_prod_type]

/-- A sum over the features is the sum of its sixteen blocks. -/
theorem sum_features (f : Fin 4096 → EReal) : ∑ d, f d = ∑ j : Fin 16, ∑ k : Fin 256, f ⟨256 * j.val + k.val, by omega⟩ := by
  refine (sum_blocks 16 256 f).trans (Finset.sum_congr rfl fun j _ => Finset.sum_congr rfl fun k _ => congrArg f (Fin.ext ?_))
  exact Nat.add_comm _ _

/-- A sum over a point's tokens is the sum of its four blocks. -/
theorem sum_tokens (f : Fin 1024 → EReal) : ∑ d, f d = ∑ j : Fin 4, ∑ k : Fin 256, f ⟨256 * j.val + k.val, by omega⟩ := by
  refine (sum_blocks 4 256 f).trans (Finset.sum_congr rfl fun j _ => Finset.sum_congr rfl fun k _ => congrArg f (Fin.ext ?_))
  exact Nat.add_comm _ _

theorem sum16 (g : Fin 16 → EReal) : (0 + g 0 + g 2 + g 4 + g 6 + g 8 + g 10 + g 12 + g 14) + (0 + g 1 + g 3 + g 5 + g 7 + g 9 + g 11 + g 13 + g 15) = ∑ j, g j := by
  have h : ∑ j, g j = g 0 + (g 1 + (g 2 + (g 3 + (g 4 + (g 5 + (g 6 + (g 7 + (g 8 + (g 9 + (g 10 + (g 11 + (g 12 + (g 13 + (g 14 + (g 15 + 0))))))))))))))) := by
    simp only [Fin.sum_univ_succ, Fin.sum_univ_zero]; rfl
  rw [h, add_zero, zero_add, zero_add]; ac_rfl

/-! ### The logits -/

theorem xin (o p : ℕ) (ho : o + 256 ≤ 1024) (hp : p + 256 ≤ 4096) : ∀ a, (![0, o, p] : Fin 3 → ℕ) a + S1x256x256.size a ≤ S1x1024x4096.size a
  | ⟨0, _⟩ => Nat.le_refl 1
  | ⟨1, _⟩ => ho
  | ⟨2, _⟩ => hp

theorem win (p : ℕ) (hp : p + 256 ≤ 4096) : ∀ a, (![0, p] : Fin 2 → ℕ) a + S128x256.size a ≤ S128x4096.size a
  | ⟨0, _⟩ => Nat.le_refl 128
  | ⟨1, _⟩ => hp

theorem hin (p : ℕ) (hp : p + 256 ≤ 1024) : ∀ a, (![0, p] : Fin 2 → ℕ) a + S128x256.size a ≤ S128x1024.size a
  | ⟨0, _⟩ => Nat.le_refl 128
  | ⟨1, _⟩ => hp

/-- Reading back a rectangle that was stored, of stores that are all blocks of one array. -/
theorem readCov_piece {s : Shape} {e : EltTy} {sig : RefSig} {κ : Kind} {sp : Space} (v : View sig κ sp s e) {G : s.Idx → Elt Ideal e}
    {L : List (View.Piece (Elt Ideal) s e)} (h : View.PiecesOf G L) (r : Rect s) (hm : ∃ p ∈ L, p.1 = r) (j : r.shape.Idx) :
    v.readCov L r.toLoadRect j = G (r.emb j) := by
  obtain ⟨p, hp, rfl⟩ := hm
  rw [View.readCov_eq_canon']
  exact View.canon_apply_of_pieces G L h.mem _ ⟨p, hp, p.1.idx_mem j⟩

section Tiles

variable (R2 : (r : Rect S1x1024x4096) → r.shape.Idx → EReal) (R10 : (r : Rect S128x4096) → r.shape.Idx → EReal)
  (R13 : (r : Rect S128x1024) → r.shape.Idx → EReal)

/-- One pass of the logits: a block of features against the router's. -/
def lpass (o : ℕ) (ho : o + 256 ≤ 1024) (p : ℕ) (hp : p + 256 ≤ 4096) : (Mxu.STile 128).Idx → EReal :=
  (⟨.bf16, true, xblk (R2 (Rect.unit ![0, o, p] S1x256x256.size (xin o p ho hp)))⟩ : Mxu.Staged Ideal).pass (φ := .bf16)
    (R10 (Rect.unit ![0, p] S128x256.size (win p hp)))

theorem slices_row (o : ℕ) (ho : o + 256 ≤ 1024) : S1x1024.Slices ![0, o] S1x256 :=
  ⟨rfl, fun | ⟨0, _⟩ => Nat.le_refl 1 | ⟨1, _⟩ => ho⟩

/-- A tile of the logits. -/
def logitV (o : ℕ) (ho : o + 256 ≤ 1024) (sc : FVec Ideal S1x1024 .f32) : FVec Ideal S128x256 .f32 :=
  let P (p : ℕ) (hp : p + 256 ≤ 4096) : (Mxu.STile 128).Idx → EReal := lpass R2 R10 o ho p hp
  mulf (addf (fun i => 0 + P 0 (by decide) i + P 512 (by decide) i + P 1024 (by decide) i + P 1536 (by decide) i
        + P 2048 (by decide) i + P 2560 (by decide) i + P 3072 (by decide) i + P 3584 (by decide) i)
      (fun i => 0 + P 256 (by decide) i + P 768 (by decide) i + P 1280 (by decide) i + P 1792 (by decide) i
        + P 2304 (by decide) i + P 2816 (by decide) i + P 3328 (by decide) i + P 3840 (by decide) i))
    (spread (extractStridedSlice S1x256 ![0, o] sc (slices_row o ho)))

variable {R2 R10 R13} {x0 : S1x1024x4096.Idx → EReal} {w : S128x4096.Idx → EReal} {sc : FVec Ideal S1x1024 .f32}

theorem lpass_apply (h2 : ∀ r j, R2 r j = x0 (r.emb j)) (h10 : ∀ r j, R10 r j = w (r.emb j)) {o : ℕ} (ho : o + 256 ≤ 1024) {p : ℕ} (hp : p + 256 ≤ 4096)
    (e : Fin 128) (c : Fin 256) : lpass R2 R10 o ho p hp (ix2 e c)
      = ∑ k : Fin 256, Wof w e ⟨p + k.val, by omega⟩ * Xof x0 ⟨o + c.val, by omega⟩ ⟨p + k.val, by omega⟩ := by
  refine (pass_transposed _ _ e c).trans (Finset.sum_congr rfl fun k _ => ?_)
  rw [h10]
  refine congrArg₂ (· * ·) ?_ ((xblk_apply _ c k).trans ((h2 _ _).trans (congrArg x0 (emb3 _ ho hp c k))))
  refine congrArg w ((emb2 _ e k).trans ?_)
  exact congrArg (fun i => ix2 i _) (Fin.ext (Nat.zero_add _))

theorem slice_apply {o : ℕ} (ho : o + 256 ≤ 1024) (c : Fin 256) :
    extractStridedSlice S1x256 ![0, o] sc (slices_row o ho) (ix2 (0 : Fin 1) c) = Wof sc (0 : Fin 1) (⟨o + c.val, by omega⟩ : Fin 1024) :=
  extractStridedSlice_apply _ _ _ _ _ fun a => match a with | ⟨0, _⟩ => rfl | ⟨1, _⟩ => rfl

theorem logitV_apply (h2 : ∀ r j, R2 r j = x0 (r.emb j)) (h10 : ∀ r j, R10 r j = w (r.emb j)) {o : ℕ} (ho : o + 256 ≤ 1024)
    (e : Fin 128) (c : Fin 256) : logitV R2 R10 o ho sc (ix2 e c) = LG (Wof w) (Xof x0) (Wof sc 0) e ⟨o + c.val, by omega⟩ := by
  refine congrArg₂ (· * ·) ?_ ((spread_apply e c _).trans (slice_apply ho c))
  show (0 + lpass R2 R10 o ho _ _ (ix2 e c) + lpass R2 R10 o ho _ _ (ix2 e c) + lpass R2 R10 o ho _ _ (ix2 e c) + lpass R2 R10 o ho _ _ (ix2 e c)
      + lpass R2 R10 o ho _ _ (ix2 e c) + lpass R2 R10 o ho _ _ (ix2 e c) + lpass R2 R10 o ho _ _ (ix2 e c) + lpass R2 R10 o ho _ _ (ix2 e c))
    + (0 + lpass R2 R10 o ho _ _ (ix2 e c) + lpass R2 R10 o ho _ _ (ix2 e c) + lpass R2 R10 o ho _ _ (ix2 e c) + lpass R2 R10 o ho _ _ (ix2 e c)
      + lpass R2 R10 o ho _ _ (ix2 e c) + lpass R2 R10 o ho _ _ (ix2 e c) + lpass R2 R10 o ho _ _ (ix2 e c) + lpass R2 R10 o ho _ _ (ix2 e c)) = _
  simp only [lpass_apply h2 h10]
  rw [sum_features]
  exact sum16 fun j : Fin 16 => ∑ k : Fin 256, Wof w e ⟨256 * j.val + k.val, by omega⟩ * Xof x0 ⟨o + c.val, by omega⟩ ⟨256 * j.val + k.val, by omega⟩

/-! ### The gradient of a tile of logits, as it is stored -/

variable {R3 : (r : Rect S1x8x1024) → r.shape.Idx → BitVec 32} {R4 : (r : Rect S1x8x1024) → r.shape.Idx → EReal}
  {x3 : S1x8x1024.Idx → BitVec 32} {x4 : S1x8x1024.Idx → EReal}

/-- The ids, and the gates' gradients, by place and token. -/
abbrev Kof {α : Type} (x : S1x8x1024.Idx → α) (k : Fin 8) (t : Fin 1024) : α := x (ix3 (0 : Fin 1) k t)

/-- The gradient of the point's logits, from the point's blocks. -/
def D (w : S128x4096.Idx → EReal) (x0 : S1x1024x4096.Idx → EReal) (sc : S1x1024.Idx → EReal) (x3 : S1x8x1024.Idx → BitVec 32) (x4 : S1x8x1024.Idx → EReal) :
    Fin 128 → Fin 1024 → EReal :=
  DL (Wof w) (Xof x0) (Wof sc (0 : Fin 1)) (Kof x3) (Kof x4)

variable (h2 : ∀ r j, R2 r j = x0 (r.emb j)) (h10 : ∀ r j, R10 r j = w (r.emb j)) (h3 : ∀ r j, R3 r j = x3 (r.emb j)) (h4 : ∀ r j, R4 r j = x4 (r.emb j))

variable (R2 R10 R3 R4 sc) in
/-- A tile of the gradient of the logits. -/
def dlV (o : ℕ) (ho : o + 256 ≤ 1024) : FVec Ideal S128x256 .f32 := dlogitV (logitV R2 R10 o ho sc) (scatV R3 R4 o ho)

include h2 h10 h3 h4 in
theorem dlV_apply {o : ℕ} (ho : o + 256 ≤ 1024) (e : Fin 128) (c : Fin 256) :
    dlV R2 R10 sc R3 R4 o ho (ix2 e c) = D w x0 sc x3 x4 e ⟨o + c.val, by omega⟩ := by
  rw [dlV, dlogitV_apply]
  simp only [logitV_apply h2 h10, scatV_apply _ _ ho x3 x4 h3 h4]; rfl

include h2 h10 h3 h4 in
/-- The tile stored to the gradient's own result. -/
theorem tile7 {o : ℕ} (ho : o + 256 ≤ 1024) (inb : ∀ a, (![0, o, 0] : Fin 3 → ℕ) a + S1x256x128.size a ≤ S1x1024x128.size a) (x : S1x256x128.Idx) :
    shapeCast S1x256x128 (transpose S256x128 [1, 0] (dlV R2 R10 sc R3 R4 o ho) transposes_S128x256_p1_0_S256x128) shapeCasts_S256x128_S1x256x128 x
      = (fun y : S1x1024x128.Idx => D w x0 sc x3 x4 (y 2) (y 1)) ((Rect.unit (s := S1x1024x128) ![0, o, 0] S1x256x128.size inb).emb x) := by
  obtain ⟨u, c, e, rfl⟩ : ∃ (u : Fin 1) (c : Fin 256) (e : Fin 128), x = ix3 u c e := ⟨x 0, x 1, x 2, eq_ix3 x⟩
  rw [shapeCast_ab_1ab_apply, transpose_ix2_apply, dlV_apply h2 h10 h3 h4]
  exact congrArg₂ (D w x0 sc x3 x4) (Fin.ext (by show e.val = 0 + 1 * e.val; omega)) (Fin.ext (by show o + c.val = o + 1 * c.val; omega))

theorem tile7L {o : ℕ} {lg : FVec Ideal S128x256 .f32} {ho : o + 256 ≤ 1024} (hl : lg = logitV R2 R10 o ho sc)
    (h2 : ∀ r j, R2 r j = x0 (r.emb j)) (h10 : ∀ r j, R10 r j = w (r.emb j)) (h3 : ∀ r j, R3 r j = x3 (r.emb j)) (h4 : ∀ r j, R4 r j = x4 (r.emb j)) (_ : o + 256 ≤ 1024) (inb : ∀ a, (![0, o, 0] : Fin 3 → ℕ) a + S1x256x128.size a ≤ S1x1024x128.size a) (x : S1x256x128.Idx) :
    shapeCast S1x256x128 (transpose S256x128 [1, 0] (dlogitV lg (scatV R3 R4 o ho)) transposes_S128x256_p1_0_S256x128) shapeCasts_S256x128_S1x256x128 x
      = (fun y : S1x1024x128.Idx => D w x0 sc x3 x4 (y 2) (y 1)) ((Rect.unit (s := S1x1024x128) ![0, o, 0] S1x256x128.size inb).emb x) := by
  subst hl
  exact tile7 h2 h10 h3 h4 ho inb x

include h2 h10 h3 h4 in
/-- The tile kept for the features' gradient. -/
theorem tileH2 {o : ℕ} (ho : o + 256 ≤ 1024) (inb : ∀ a, (![o, 0] : Fin 2 → ℕ) a + S256x128.size a ≤ S1024x128.size a) (x : S256x128.Idx) :
    shapeCast S256x128 (truncf .bf16 (transpose S256x128 [1, 0] (dlV R2 R10 sc R3 R4 o ho) transposes_S128x256_p1_0_S256x128) bitsLt_bf16_f32)
        shapeCasts_S256x128_S256x128 x
      = (fun y : S1024x128.Idx => D w x0 sc x3 x4 (y 1) (y 0)) ((Rect.unit (s := S1024x128) ![o, 0] S256x128.size inb).emb x) := by
  obtain ⟨c, e, rfl⟩ : ∃ (c : Fin 256) (e : Fin 128), x = ix2 c e := ⟨x 0, x 1, eq_ix2 x⟩
  rw [shapeCast_self, truncf_apply, transpose_ix2_apply, dlV_apply h2 h10 h3 h4]
  exact congrArg₂ (D w x0 sc x3 x4) (Fin.ext (by show e.val = 0 + 1 * e.val; omega)) (Fin.ext (by show o + c.val = o + 1 * c.val; omega))

theorem tileH2L {o : ℕ} {lg : FVec Ideal S128x256 .f32} {ho : o + 256 ≤ 1024} (hl : lg = logitV R2 R10 o ho sc)
    (h2 : ∀ r j, R2 r j = x0 (r.emb j)) (h10 : ∀ r j, R10 r j = w (r.emb j)) (h3 : ∀ r j, R3 r j = x3 (r.emb j)) (h4 : ∀ r j, R4 r j = x4 (r.emb j)) (_ : o + 256 ≤ 1024) (inb : ∀ a, (![o, 0] : Fin 2 → ℕ) a + S256x128.size a ≤ S1024x128.size a) (x : S256x128.Idx) :
    shapeCast S256x128 (truncf .bf16 (transpose S256x128 [1, 0] (dlogitV lg (scatV R3 R4 o ho)) transposes_S128x256_p1_0_S256x128) bitsLt_bf16_f32)
        shapeCasts_S256x128_S256x128 x
      = (fun y : S1024x128.Idx => D w x0 sc x3 x4 (y 1) (y 0)) ((Rect.unit (s := S1024x128) ![o, 0] S256x128.size inb).emb x) := by
  subst hl
  exact tileH2 h2 h10 h3 h4 ho inb x

include h2 h10 h3 h4 in
/-- The tile kept for the weights' gradient, with the tokens' scales. -/
theorem tileH3 {o : ℕ} (ho : o + 256 ≤ 1024) (inb : ∀ a, (![0, o] : Fin 2 → ℕ) a + S128x256.size a ≤ S128x1024.size a) (x : S128x256.Idx) :
    shapeCast S128x256 (truncf .bf16 (mulf (extf .f32 (truncf .bf16 (dlV R2 R10 sc R3 R4 o ho) bitsLt_bf16_f32) bitsLt_bf16_f32)
        (spread (extf .f32 (truncf .bf16 (extractStridedSlice S1x256 ![0, o] sc (slices_row o ho)) bitsLt_bf16_f32) bitsLt_bf16_f32))) bitsLt_bf16_f32)
        shapeCasts_S128x256_S128x256 x
      = (fun y : S128x1024.Idx => D w x0 sc x3 x4 (y 0) (y 1) * Wof sc (0 : Fin 1) (y 1)) ((Rect.unit (s := S128x1024) ![0, o] S128x256.size inb).emb x) := by
  obtain ⟨e, c, rfl⟩ : ∃ (e : Fin 128) (c : Fin 256), x = ix2 e c := ⟨x 0, x 1, eq_ix2 x⟩
  rw [shapeCast_self]
  show dlV R2 R10 sc R3 R4 o ho (ix2 e c) * spread _ (ix2 e c) = _
  rw [spread_apply, dlV_apply h2 h10 h3 h4]
  have hs : extf .f32 (truncf .bf16 (extractStridedSlice S1x256 ![0, o] sc (slices_row o ho)) bitsLt_bf16_f32) bitsLt_bf16_f32 (ix2 (0 : Fin 1) c)
    = Wof sc (0 : Fin 1) (⟨o + c.val, by omega⟩ : Fin 1024) := slice_apply ho c
  rw [hs]
  have ht : (⟨o + c.val, by omega⟩ : Fin 1024) = (Rect.unit (s := S128x1024) ![0, o] S128x256.size inb).emb (ix2 e c) 1 :=
    Fin.ext (by show o + c.val = o + 1 * c.val; omega)
  rw [ht]
  exact congrArg (fun e => D w x0 sc x3 x4 e _ * _) (Fin.ext (by show e.val = 0 + 1 * e.val; omega))

theorem tileH3L {o : ℕ} {lg : FVec Ideal S128x256 .f32} {ho : o + 256 ≤ 1024} (hl : lg = logitV R2 R10 o ho sc)
    (h2 : ∀ r j, R2 r j = x0 (r.emb j)) (h10 : ∀ r j, R10 r j = w (r.emb j)) (h3 : ∀ r j, R3 r j = x3 (r.emb j)) (h4 : ∀ r j, R4 r j = x4 (r.emb j)) (_ : o + 256 ≤ 1024) (inb : ∀ a, (![0, o] : Fin 2 → ℕ) a + S128x256.size a ≤ S128x1024.size a) (x : S128x256.Idx) :
    shapeCast S128x256 (truncf .bf16 (mulf (extf .f32 (truncf .bf16 (dlogitV lg (scatV R3 R4 o ho)) bitsLt_bf16_f32) bitsLt_bf16_f32)
        (spread (extf .f32 (truncf .bf16 (extractStridedSlice S1x256 ![0, o] sc (slices_row o ho)) bitsLt_bf16_f32) bitsLt_bf16_f32))) bitsLt_bf16_f32)
        shapeCasts_S128x256_S128x256 x
      = (fun y : S128x1024.Idx => D w x0 sc x3 x4 (y 0) (y 1) * Wof sc (0 : Fin 1) (y 1)) ((Rect.unit (s := S128x1024) ![0, o] S128x256.size inb).emb x) := by
  subst hl
  exact tileH3 h2 h10 h3 h4 ho inb x

/-! ### The features' gradient -/

/-- The router's block over zeros, and the gradient's beside zeros: the product sums over the experts alone. -/
theorem pass_padded (wt : FVec Ideal S128x256 .bf16) (dl : FVec Ideal S256x128 .bf16) (c d : Fin 256) :
    (⟨.bf16, false, concatenate S256x256 0 [⟨S128x256, wt⟩, ⟨S128x256, broadcast S128x256 (Scalar.ofBits .bf16 0x0000#16)⟩] concatenates_S128x256_S128x256_S256x256_d0⟩ : Mxu.Staged Ideal).pass
        (φ := .bf16) (concatenate S256x256 1 [⟨S256x128, dl⟩, ⟨S256x128, broadcast S256x128 (Scalar.ofBits .bf16 0x0000#16)⟩] concatenates_S256x128_S256x128_S256x256_d1) (ix2 c d : (Mxu.STile 256).Idx)
      = ∑ e : Fin 128, dl (ix2 c e) * wt (ix2 e d) := by
  refine (pass_plain _ _ c d).trans ((Fin.sum_univ_add (a := 128) (b := 128) _).trans ?_)
  have hz : ∀ k : Fin 128, concatenate S256x256 1 [⟨S256x128, dl⟩, ⟨S256x128, broadcast S256x128 (Scalar.ofBits .bf16 0x0000#16 : Ideal .bf16)⟩] concatenates_S256x128_S256x128_S256x256_d1
      (ix2 c (Fin.natAdd 128 k : Fin 256)) = (0 : EReal) := fun k => by
    refine (concatenate_pair_apply_right (s₁ := S256x128) (s₂ := S256x128) (t := S256x256) 1 dl (broadcast S256x128 (Scalar.ofBits .bf16 0x0000#16)) concatenates_S256x128_S256x128_S256x256_d1 (ix2 c (Fin.natAdd 128 k : Fin 256)) rfl rfl (ix2 c k) ?_ ?_).trans ?_
    · intro b hb; match b with | ⟨0, _⟩ => rfl | ⟨1, _⟩ => exact absurd rfl hb
    · show k.val + 128 = 128 + k.val; omega
    · exact Ideal.ofBits_zero_bf16
  rw [Finset.sum_eq_zero (f := fun i : Fin 128 => concatenate S256x256 1 [⟨S256x128, dl⟩, ⟨S256x128, broadcast S256x128 (Scalar.ofBits .bf16 0x0000#16 : Ideal .bf16)⟩] concatenates_S256x128_S256x128_S256x256_d1
      (ix2 c (Fin.natAdd 128 i : Fin 256)) * _) fun k _ => by rw [hz]; exact zero_mul (M₀ := EReal) _, add_zero]
  refine Finset.sum_congr rfl fun k _ => congrArg₂ (· * ·) ?_ ?_
  · exact concatenate_pair_apply_left (s₁ := S256x128) (s₂ := S256x128) (t := S256x256) 1 dl _ _ _ rfl (ix2 c k) fun b => match b with | ⟨0, _⟩ => rfl | ⟨1, _⟩ => rfl
  · exact concatenate_pair_apply_left (s₁ := S128x256) (s₂ := S128x256) (t := S256x256) 0 wt _ _ _ rfl (ix2 k d) fun b => match b with | ⟨0, _⟩ => rfl | ⟨1, _⟩ => rfl

/-- A tile of the features' gradient. -/
theorem tile5 {Dl : Fin 128 → Fin 1024 → EReal} {o p : ℕ} (ho : o + 256 ≤ 1024) (hp : p + 256 ≤ 4096)
    (inb : ∀ a, (![0, o, p] : Fin 3 → ℕ) a + S1x256x256.size a ≤ S1x1024x4096.size a) (inw : ∀ a, (![0, p] : Fin 2 → ℕ) a + S128x256.size a ≤ S128x4096.size a)
    (h10 : ∀ r j, R10 r j = w (r.emb j)) (dl : FVec Ideal S256x128 .bf16) (hd : ∀ c e, dl (ix2 c e) = Dl e ⟨o + c.val, by omega⟩) (x : S1x256x256.Idx) :
    shapeCast S1x256x256 (truncf .bf16 (fun i => 0 + (⟨.bf16, false, concatenate S256x256 0 [⟨S128x256, R10 (Rect.unit ![0, p] S128x256.size inw)⟩, ⟨S128x256, broadcast S128x256 (Scalar.ofBits .bf16 0x0000#16)⟩] concatenates_S128x256_S128x256_S256x256_d0⟩ : Mxu.Staged Ideal).pass
        (φ := .bf16) (concatenate S256x256 1 [⟨S256x128, dl⟩, ⟨S256x128, broadcast S256x128 (Scalar.ofBits .bf16 0x0000#16)⟩] concatenates_S256x128_S256x128_S256x256_d1) i : FVec Ideal S256x256 .f32) bitsLt_bf16_f32) shapeCasts_S256x256_S1x256x256 x
      = (fun y : S1x1024x4096.Idx => ∑ e, Dl e (y 1) * Wof w e (y 2)) ((Rect.unit (s := S1x1024x4096) ![0, o, p] S1x256x256.size inb).emb x) := by
  obtain ⟨u, c, d, rfl⟩ : ∃ (u : Fin 1) (c : Fin 256) (d : Fin 256), x = ix3 u c d := ⟨x 0, x 1, x 2, eq_ix3 x⟩
  rw [shapeCast_ab_1ab_apply, truncf_apply]
  refine (zero_add (M := EReal) _).trans ((pass_padded _ _ c d).trans (Finset.sum_congr rfl fun e _ => ?_))
  rw [hd, h10]
  refine congrArg₂ (· * ·) (congrArg (Dl e) (Fin.ext ?_)) (congrArg w ((emb2 inw e d).trans ?_))
  · show o + c.val = o + 1 * c.val; omega
  · exact congrArg₂ (fun i j => ix2 i j) (Fin.ext (Nat.zero_add _)) (Fin.ext (by show p + d.val = p + 1 * d.val; omega))

/-! ### The weights' gradient -/

variable (R2 R13) in
/-- One pass of the weights' gradient: a block of the scaled gradients against the features'. -/
def wpass (o : ℕ) (ho : o + 256 ≤ 1024) (p : ℕ) (hp : p + 256 ≤ 4096) : (Mxu.STile 128).Idx → EReal :=
  (⟨.bf16, false, xblk (R2 (Rect.unit ![0, o, p] S1x256x256.size (xin o p ho hp)))⟩ : Mxu.Staged Ideal).pass (φ := .bf16)
    (R13 (Rect.unit ![0, o] S128x256.size (hin o ho)))

theorem wpass_apply {H : Fin 128 → Fin 1024 → EReal} (h2 : ∀ r j, R2 r j = x0 (r.emb j))
    {o : ℕ} (ho : o + 256 ≤ 1024) (h13 : ∀ e c, R13 (Rect.unit ![0, o] S128x256.size (hin o ho)) (ix2 e c) = H e ⟨o + c.val, by omega⟩)
    {p : ℕ} (hp : p + 256 ≤ 4096) (e : Fin 128) (d : Fin 256) :
    wpass R2 R13 o ho p hp (ix2 e d) = ∑ k : Fin 256, H e ⟨o + k.val, by omega⟩ * Xof x0 ⟨o + k.val, by omega⟩ ⟨p + d.val, by omega⟩ := by
  refine (pass_plain _ _ e d).trans (Finset.sum_congr rfl fun k _ => congrArg₂ (· * ·) (h13 e k) ?_)
  exact (xblk_apply _ k d).trans ((h2 _ _).trans (congrArg x0 (emb3 _ ho hp k d)))

/-- The contribution of a point to the weights' gradient, added to what was there. -/
def addW (acc : S128x4096.Idx → EReal) (H : Fin 128 → Fin 1024 → EReal) (x0 : S1x1024x4096.Idx → EReal) (y : S128x4096.Idx) : EReal :=
  acc y + ∑ t, H (y 0) t * Xof x0 t (y 1)

/-- A tile of the weights' gradient. -/
theorem tile1 {H : Fin 128 → Fin 1024 → EReal} (h2 : ∀ r j, R2 r j = x0 (r.emb j))
    (h13 : ∀ o (ho : o + 256 ≤ 1024), (o = 0 ∨ o = 256 ∨ o = 512 ∨ o = 768) → ∀ e c, R13 (Rect.unit ![0, o] S128x256.size (hin o ho)) (ix2 e c) = H e ⟨o + c.val, by omega⟩)
    {p : ℕ} (hp : p + 256 ≤ 4096) (inb : ∀ a, (![0, p] : Fin 2 → ℕ) a + S128x256.size a ≤ S128x4096.size a) {acc : S128x4096.Idx → EReal}
    (a : FVec Ideal S128x256 .f32) (ha : ∀ j, a j = acc ((Rect.unit (s := S128x4096) ![0, p] S128x256.size inb).emb j)) (x : S128x256.Idx) :
    shapeCast S128x256 (addf a (fun i => 0 + wpass R2 R13 0 (by decide) p hp i + wpass R2 R13 256 (by decide) p hp i + wpass R2 R13 512 (by decide) p hp i
        + wpass R2 R13 768 (by decide) p hp i)) shapeCasts_S128x256_S128x256 x
      = addW acc H x0 ((Rect.unit (s := S128x4096) ![0, p] S128x256.size inb).emb x) := by
  obtain ⟨e, d, rfl⟩ : ∃ (e : Fin 128) (d : Fin 256), x = ix2 e d := ⟨x 0, x 1, eq_ix2 x⟩
  rw [shapeCast_self, addf_apply, ha, addW]
  refine congrArg (_ + ·) ?_
  show 0 + wpass R2 R13 _ _ p hp (ix2 e d) + wpass R2 R13 _ _ p hp (ix2 e d) + wpass R2 R13 _ _ p hp (ix2 e d) + wpass R2 R13 _ _ p hp (ix2 e d) = _
  rw [wpass_apply h2 (by decide : 0 + 256 ≤ 1024) (h13 0 (by decide) (by decide)), wpass_apply h2 (by decide : 256 + 256 ≤ 1024) (h13 256 (by decide) (by decide)), wpass_apply h2 (by decide : 512 + 256 ≤ 1024) (h13 512 (by decide) (by decide)), wpass_apply h2 (by decide : 768 + 256 ≤ 1024) (h13 768 (by decide) (by decide)),
    sum_tokens, Fin.sum_univ_four, zero_add]
  have he : (Rect.unit (s := S128x4096) ![0, p] S128x256.size inb).emb (ix2 e d) = ix2 e (⟨p + d.val, by omega⟩ : Fin 4096) :=
    (emb2 inb e d).trans (congrArg (fun i => ix2 i _) (Fin.ext (Nat.zero_add _)))
  rw [he]; rfl

end Tiles

/-! ### Reading back -/

/-- Reading back a rectangle that only the first store, a fill, wrote. -/
theorem readCov_filled {s : Shape} {e : EltTy} {sig : RefSig} {κ : Kind} {sp : Space} (v : View sig κ sp s e) (z : Elt Ideal e)
    (L : List (View.Piece (Elt Ideal) s e)) (p : View.Piece (Elt Ideal) s e) (hp : ∀ x, p.2 x = z) (hs : ∀ y, y ∈ p.1.set) (r : Rect s) (j : r.shape.Idx) :
    (L.all fun q => LoadRect.disj q.1 r.toLoadRect) = true → v.readCov (L ++ [p]) r.toLoadRect j = z := by
  induction L with
  | nil =>
    intro _
    rw [View.readCov_eq_canon']
    exact View.canon_apply_of_pieces (fun _ => z) [p] (fun q hq x => by rw [List.mem_singleton] at hq; subst hq; exact hp x) _ ⟨p, List.mem_singleton.mpr rfl, hs _⟩
  | cons q L ih =>
    intro h
    rw [List.all_cons, Bool.and_eq_true] at h
    rw [List.cons_append, View.readCov_skip _ q.1 q.2 _ _ h.1]
    exact ih h.2

/-- The same of a list whose last entry is the fill. -/
theorem readCov_last {s : Shape} {e : EltTy} {sig : RefSig} {κ : Kind} {sp : Space} (v : View sig κ sp s e) (z : Elt Ideal e)
    (L : List (View.Piece (Elt Ideal) s e)) {p : View.Piece (Elt Ideal) s e} (hp : ∀ x, p.2 x = z) (hs : ∀ y, y ∈ p.1.set) (r : Rect s) (j : r.shape.Idx)
    (hL : L = L.dropLast ++ [p]) (h : (L.dropLast.all fun q => LoadRect.disj q.1 r.toLoadRect) = true) : v.readCov L r.toLoadRect j = z := by
  rw [hL]; exact readCov_filled v z _ p hp hs r j h

/-- The transpose of a tile that is a block. -/
theorem tile6 {G : S128x4096.Idx → EReal} {p : ℕ} (inr : ∀ a, (![0, p] : Fin 2 → ℕ) a + S128x256.size a ≤ S128x4096.size a)
    (inb : ∀ a, (![p, 0] : Fin 2 → ℕ) a + S256x128.size a ≤ S4096x128.size a) (v : FVec Ideal S128x256 .f32)
    (h : ∀ j, v j = G ((Rect.unit (s := S128x4096) ![0, p] S128x256.size inr).emb j)) (x : S256x128.Idx) :
    transpose S256x128 [1, 0] v transposes_S128x256_p1_0_S256x128 x
      = (fun y : S4096x128.Idx => G (ix2 (y 1) (y 0))) ((Rect.unit (s := S4096x128) ![p, 0] S256x128.size inb).emb x) := by
  obtain ⟨d, e, rfl⟩ : ∃ (d : Fin 256) (e : Fin 128), x = ix2 d e := ⟨x 0, x 1, eq_ix2 x⟩
  rw [transpose_ix2_apply, h]
  refine congrArg G (funext fun a => ?_)
  match a with
  | ⟨0, _⟩ => rfl
  | ⟨1, _⟩ => rfl

/-! ### The router, transposed -/

/-- The router by experts first. -/
def wtOf (x2 : S4096x128.Idx → EReal) (y : S128x4096.Idx) : EReal := x2 (ix2 (y 1) (y 0))

theorem tileW {R : (r : Rect S4096x128) → r.shape.Idx → EReal} {x2 : S4096x128.Idx → EReal} (h : ∀ r j, R r j = x2 (r.emb j)) {p : ℕ}
    (inr : ∀ a, (![p, 0] : Fin 2 → ℕ) a + S256x128.size a ≤ S4096x128.size a) (inb : ∀ a, (![0, p] : Fin 2 → ℕ) a + S128x256.size a ≤ S128x4096.size a) (x : S128x256.Idx) :
    shapeCast S128x256 (transpose S128x256 [1, 0] (R (Rect.unit ![p, 0] S256x128.size inr)) transposes_S256x128_p1_0_S128x256) shapeCasts_S128x256_S128x256 x
      = wtOf x2 ((Rect.unit (s := S128x4096) ![0, p] S128x256.size inb).emb x) := by
  obtain ⟨e, d, rfl⟩ : ∃ (e : Fin 128) (d : Fin 256), x = ix2 e d := ⟨x 0, x 1, eq_ix2 x⟩
  rw [shapeCast_self, transpose_ix2_apply, h, wtOf]
  refine congrArg x2 (funext fun a => ?_)
  match a with
  | ⟨0, _⟩ => rfl
  | ⟨1, _⟩ => rfl

/-- Reading back any rectangle of a buffer whose every index is stored, of stores that are all blocks of one array. -/
theorem readCov_all {s : Shape} {e : EltTy} {sig : RefSig} {κ : Kind} {sp : Space} (v : View sig κ sp s e) {G : s.Idx → Elt Ideal e}
    {L : List (View.Piece (Elt Ideal) s e)} (h : View.PiecesOf G L) (hc : ∀ y, ∃ p ∈ L, y ∈ p.1.set) (r : Rect s) (j : r.shape.Idx) :
    v.readCov L r.toLoadRect j = G (r.emb j) := by
  rw [View.readCov_eq_canon']
  exact View.canon_apply_of_pieces G L h.mem _ (hc _)

end Cert.Val

end
-- ==== Proof.Val.CaseA.lean ====
/- What one point's run leaves in its buffers, as functions of the point's coordinates: case A. -/

module

public import proofs.«01_k».proof.Proof.Val.Tiles
public import proofs.«01_k».proof.Proof.RunKernelIdeal.RunA

@[expose] public section

set_option maxRecDepth 16384
set_option maxHeartbeats 4000000

noncomputable section

namespace Cert.Val.CaseA

open Idealize.ShloMosaic Idealize.ShloMosaic.ValueIdx Cert.Val Cert.KernelIdeal Cert.KernelIdeal.Gen Cert.KernelIdeal.Gen.kernelRun0_A.sl

variable (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : cond0_0 i) (hc1 : ¬cond0_1 i) (x0 : Vec Ideal S1x1024x4096 .fp8e4m3) (x1 : Vec Ideal S4x1024 .f32) (x2 : Vec Ideal S4096x128 .bf16) (x3 : Vec Ideal S1x8x1024 .i32) (x4 : Vec Ideal S1x8x1024 .bf16)
include c i arg2 harg2 arg3 harg3 arg4 harg4 arg5 harg5 arg6 harg6 arg7 harg7 arg8 harg8 arg9 harg9 arg10 harg10 arg11 harg11 arg12 harg12 arg13 harg13 hc0 hc1 x0 x1 x2 x3 x4

/-- The router as the first point lays it out is the router, transposed. -/
theorem hs0 : View.PiecesOf (wtOf x2) (HS0_16 (F := Ideal) c arg4 harg4 x2) := by
  unfold HS0_16
  refine ⟨?_, ?_, ?_, ?_, ?_, ?_, ?_, ?_, ?_, ?_, ?_, ?_, ?_, ?_, ?_, ?_, trivial⟩
  all_goals exact fun x => tileW (R := fun r => View.readAt (Elt Ideal) arg4.view r.toLoadRect (harg4.unread x2)) (readAt_unread _ harg4 x2) (by decide) (by decide) x

theorem h10 (r : Rect S128x4096) (j : r.shape.Idx) : (fun r => arg10.view.readCov (HS0_16 (F := Ideal) c arg4 harg4 x2) r.toLoadRect) r j = wtOf x2 (r.emb j) :=
  readCov_all _ (hs0 c i arg2 harg2 arg3 harg3 arg4 harg4 arg5 harg5 arg6 harg6 arg7 harg7 arg8 harg8 arg9 harg9 arg10 harg10 arg11 harg11 arg12 harg12 arg13 harg13 hc0 hc1 x0 x1 x2 x3 x4) (View.cover_of_tiledL _ ![128,256] (by sl_kernel_rfl)) r j

/-- The logits of the tokens from 0 on. -/
theorem lg0 : (r_36 (F := Ideal) c i arg2 harg2 arg3 harg3 arg4 harg4 arg10 x0 x1 x2) = logitV (fun r => View.readAt (Elt Ideal) arg2.view r.toLoadRect (harg2.unread x0)) (fun r => arg10.view.readCov (HS0_16 (F := Ideal) c arg4 harg4 x2) r.toLoadRect) 0 (by decide) (r_4 (F := Ideal) c i arg3 harg3 x1) := by
  simp only [r_36, v139_r0, k0_mxu66, k0_mxu65, r_34, k0_mxu63, r_33, k0_mxu61, r_32, k0_mxu59, r_31, k0_mxu57, r_30, k0_mxu55, r_29, k0_mxu53, r_28, k0_mxu51, r_26, k0_mxu49, r_25, k0_mxu47, r_24, k0_mxu45, r_23, k0_mxu43, r_22, k0_mxu41, r_21, k0_mxu39, r_20, k0_mxu37, r_19, k0_mxu35, r_18, k0_mxu33, r_17, k0_mxu31, r_16, k0_mxu29, r_14, k0_mxu27, r_13, k0_mxu25, r_12, k0_mxu23, r_11, k0_mxu21, r_10, k0_mxu19, r_9, k0_mxu17, r_8, k0_mxu15, r_7, k0_mxu13, r_6, k0_mxu11, r_5, k0_mxu9, r_3, k0_mxu7, r_2, k0_mxu5, r_1, k0_mxu3, r, v138_r0]
  simp (maxDischargeDepth := 1000) only [read_pass, read_pass_unit, read_pass_lo, read_pass_hi, read_pop, read_pop_unit, read_pop_lo, read_pop_hi, read_init, empty_init, empty_pop, empty_pass, Fin.isValue, Nat.reduceMul, Nat.reduceAdd, Nat.reduceLeDiff, ne_eq, zero_ne_one, one_ne_zero, not_false_eq_true, Fin.reduceEq]
  rfl

/-- The logits of the tokens from 256 on. -/
theorem lg256 : (r_65 (F := Ideal) c i arg2 harg2 arg3 harg3 arg4 harg4 arg10 x0 x1 x2) = logitV (fun r => View.readAt (Elt Ideal) arg2.view r.toLoadRect (harg2.unread x0)) (fun r => arg10.view.readCov (HS0_16 (F := Ideal) c arg4 harg4 x2) r.toLoadRect) 256 (by decide) (r_4 (F := Ideal) c i arg3 harg3 x1) := by
  simp only [r_65, v345_r0, k0_mxu100, k0_mxu99, r_63, k0_mxu97, r_62, k0_mxu95, r_61, k0_mxu93, r_60, k0_mxu91, r_58, k0_mxu89, r_57, k0_mxu87, r_56, k0_mxu85, r_55, k0_mxu83, r_54, k0_mxu81, r_53, k0_mxu79, r_52, k0_mxu77, r_51, k0_mxu75, r_50, k0_mxu73, r_49, k0_mxu71, r_48, k0_mxu69, r_46, k0_mxu67, k0_mxu66, k0_mxu65, r_34, k0_mxu63, r_33, k0_mxu61, r_32, k0_mxu59, r_31, k0_mxu57, r_30, k0_mxu55, r_29, k0_mxu53, r_28, k0_mxu51, r_26, k0_mxu49, r_25, k0_mxu47, r_24, k0_mxu45, r_23, k0_mxu43, r_22, k0_mxu41, r_21, k0_mxu39, r_20, k0_mxu37, r_19, k0_mxu35, r_18, k0_mxu33, r_17, k0_mxu31, r_16, k0_mxu29, r_14, k0_mxu27, r_13, k0_mxu25, r_12, k0_mxu23, r_11, k0_mxu21, r_10, k0_mxu19, r_9, k0_mxu17, r_8, k0_mxu15, r_7, k0_mxu13, r_6, k0_mxu11, r_5, k0_mxu9, r_3, k0_mxu7, r_2, k0_mxu5, r_1, k0_mxu3, r, v344_r0]
  simp (maxDischargeDepth := 1000) only [read_pass, read_pass_unit, read_pass_lo, read_pass_hi, read_pop, read_pop_unit, read_pop_lo, read_pop_hi, read_init, empty_init, empty_pop, empty_pass, Fin.isValue, Nat.reduceMul, Nat.reduceAdd, Nat.reduceLeDiff, ne_eq, zero_ne_one, one_ne_zero, not_false_eq_true, Fin.reduceEq]
  rfl

/-- The logits of the tokens from 512 on. -/
theorem lg512 : (r_110 (F := Ideal) c i arg2 harg2 arg3 harg3 arg4 harg4 arg5 harg5 arg6 harg6 arg10 arg12 x0 x1 x2 x3 x4) = logitV (fun r => View.readAt (Elt Ideal) arg2.view r.toLoadRect (harg2.unread x0)) (fun r => arg10.view.readCov (HS0_16 (F := Ideal) c arg4 harg4 x2) r.toLoadRect) 512 (by decide) (r_4 (F := Ideal) c i arg3 harg3 x1) := by
  simp only [r_110, v697_r0, k0_mxu182, k0_mxu181, r_108, k0_mxu179, r_107, k0_mxu177, r_106, k0_mxu175, r_105, k0_mxu173, r_104, k0_mxu171, r_103, k0_mxu169, r_102, k0_mxu167, r_101, k0_mxu165, r_100, k0_mxu163, r_99, k0_mxu161, r_98, k0_mxu159, r_97, k0_mxu157, r_96, k0_mxu155, r_95, k0_mxu153, r_94, k0_mxu151, r_93, k0_mxu149, k0_mxu148, k0_mxu147, r_92, k0_mxu145, r_91, k0_mxu143, k0_mxu142, k0_mxu141, r_89, k0_mxu139, r_88, k0_mxu137, k0_mxu136, k0_mxu135, r_86, k0_mxu133, r_85, k0_mxu131, k0_mxu130, k0_mxu129, r_84, k0_mxu127, r_83, k0_mxu125, k0_mxu124, k0_mxu123, r_81, k0_mxu121, r_80, k0_mxu119, k0_mxu118, k0_mxu117, r_78, k0_mxu115, r_77, k0_mxu113, k0_mxu112, k0_mxu111, r_76, k0_mxu109, r_75, k0_mxu107, k0_mxu106, k0_mxu105, r_73, k0_mxu103, r_72, k0_mxu101, k0_mxu100, k0_mxu99, r_63, k0_mxu97, r_62, k0_mxu95, r_61, k0_mxu93, r_60, k0_mxu91, r_58, k0_mxu89, r_57, k0_mxu87, r_56, k0_mxu85, r_55, k0_mxu83, r_54, k0_mxu81, r_53, k0_mxu79, r_52, k0_mxu77, r_51, k0_mxu75, r_50, k0_mxu73, r_49, k0_mxu71, r_48, k0_mxu69, r_46, k0_mxu67, k0_mxu66, k0_mxu65, r_34, k0_mxu63, r_33, k0_mxu61, r_32, k0_mxu59, r_31, k0_mxu57, r_30, k0_mxu55, r_29, k0_mxu53, r_28, k0_mxu51, r_26, k0_mxu49, r_25, k0_mxu47, r_24, k0_mxu45, r_23, k0_mxu43, r_22, k0_mxu41, r_21, k0_mxu39, r_20, k0_mxu37, r_19, k0_mxu35, r_18, k0_mxu33, r_17, k0_mxu31, r_16, k0_mxu29, r_14, k0_mxu27, r_13, k0_mxu25, r_12, k0_mxu23, r_11, k0_mxu21, r_10, k0_mxu19, r_9, k0_mxu17, r_8, k0_mxu15, r_7, k0_mxu13, r_6, k0_mxu11, r_5, k0_mxu9, r_3, k0_mxu7, r_2, k0_mxu5, r_1, k0_mxu3, r, v696_r0]
  simp (maxDischargeDepth := 1000) only [read_pass, read_pass_unit, read_pass_lo, read_pass_hi, read_pop, read_pop_unit, read_pop_lo, read_pop_hi, read_init, empty_init, empty_pop, empty_pass, Fin.isValue, Nat.reduceMul, Nat.reduceAdd, Nat.reduceLeDiff, ne_eq, zero_ne_one, one_ne_zero, not_false_eq_true, Fin.reduceEq]
  rfl

/-- The logits of the tokens from 768 on. -/
theorem lg768 : (r_137 (F := Ideal) c i arg2 harg2 arg3 harg3 arg4 harg4 arg5 harg5 arg6 harg6 arg10 arg12 x0 x1 x2 x3 x4) = logitV (fun r => View.readAt (Elt Ideal) arg2.view r.toLoadRect (harg2.unread x0)) (fun r => arg10.view.readCov (HS0_16 (F := Ideal) c arg4 harg4 x2) r.toLoadRect) 768 (by decide) (r_4 (F := Ideal) c i arg3 harg3 x1) := by
  simp only [r_137, v985_r0, k0_mxu232, k0_mxu231, k0_mxu230, k0_mxu229, r_135, k0_mxu227, r_134, k0_mxu225, k0_mxu224, k0_mxu223, r_133, k0_mxu221, r_132, k0_mxu219, k0_mxu218, k0_mxu217, r_131, k0_mxu215, r_130, k0_mxu213, k0_mxu212, k0_mxu211, r_129, k0_mxu209, r_128, k0_mxu207, k0_mxu206, k0_mxu205, r_127, k0_mxu203, r_126, k0_mxu201, k0_mxu200, k0_mxu199, r_125, k0_mxu197, r_124, k0_mxu195, k0_mxu194, k0_mxu193, r_123, k0_mxu191, r_122, k0_mxu189, k0_mxu188, k0_mxu187, r_121, k0_mxu185, r_120, k0_mxu183, k0_mxu182, k0_mxu181, r_108, k0_mxu179, r_107, k0_mxu177, r_106, k0_mxu175, r_105, k0_mxu173, r_104, k0_mxu171, r_103, k0_mxu169, r_102, k0_mxu167, r_101, k0_mxu165, r_100, k0_mxu163, r_99, k0_mxu161, r_98, k0_mxu159, r_97, k0_mxu157, r_96, k0_mxu155, r_95, k0_mxu153, r_94, k0_mxu151, r_93, k0_mxu149, k0_mxu148, k0_mxu147, r_92, k0_mxu145, r_91, k0_mxu143, k0_mxu142, k0_mxu141, r_89, k0_mxu139, r_88, k0_mxu137, k0_mxu136, k0_mxu135, r_86, k0_mxu133, r_85, k0_mxu131, k0_mxu130, k0_mxu129, r_84, k0_mxu127, r_83, k0_mxu125, k0_mxu124, k0_mxu123, r_81, k0_mxu121, r_80, k0_mxu119, k0_mxu118, k0_mxu117, r_78, k0_mxu115, r_77, k0_mxu113, k0_mxu112, k0_mxu111, r_76, k0_mxu109, r_75, k0_mxu107, k0_mxu106, k0_mxu105, r_73, k0_mxu103, r_72, k0_mxu101, k0_mxu100, k0_mxu99, r_63, k0_mxu97, r_62, k0_mxu95, r_61, k0_mxu93, r_60, k0_mxu91, r_58, k0_mxu89, r_57, k0_mxu87, r_56, k0_mxu85, r_55, k0_mxu83, r_54, k0_mxu81, r_53, k0_mxu79, r_52, k0_mxu77, r_51, k0_mxu75, r_50, k0_mxu73, r_49, k0_mxu71, r_48, k0_mxu69, r_46, k0_mxu67, k0_mxu66, k0_mxu65, r_34, k0_mxu63, r_33, k0_mxu61, r_32, k0_mxu59, r_31, k0_mxu57, r_30, k0_mxu55, r_29, k0_mxu53, r_28, k0_mxu51, r_26, k0_mxu49, r_25, k0_mxu47, r_24, k0_mxu45, r_23, k0_mxu43, r_22, k0_mxu41, r_21, k0_mxu39, r_20, k0_mxu37, r_19, k0_mxu35, r_18, k0_mxu33, r_17, k0_mxu31, r_16, k0_mxu29, r_14, k0_mxu27, r_13, k0_mxu25, r_12, k0_mxu23, r_11, k0_mxu21, r_10, k0_mxu19, r_9, k0_mxu17, r_8, k0_mxu15, r_7, k0_mxu13, r_6, k0_mxu11, r_5, k0_mxu9, r_3, k0_mxu7, r_2, k0_mxu5, r_1, k0_mxu3, r, v984_r0]
  simp (maxDischargeDepth := 1000) only [read_pass, read_pass_unit, read_pass_lo, read_pass_hi, read_pop, read_pop_unit, read_pop_lo, read_pop_hi, read_init, empty_init, empty_pop, empty_pass, Fin.isValue, Nat.reduceMul, Nat.reduceAdd, Nat.reduceLeDiff, ne_eq, zero_ne_one, one_ne_zero, not_false_eq_true, Fin.reduceEq]
  rfl

/-- The stores of the gradient of the logits. -/
theorem out7 : View.PiecesOf (fun y : S1x1024x128.Idx => (D (wtOf x2) x0 (r_4 (F := Ideal) c i arg3 harg3 x1) x3 x4) (y 2) (y 1)) (kernelRun0_A (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.1 := by
  unfold kernelRun0_A
  dsimp only
  refine ⟨?_, ?_, ?_, ?_, trivial⟩
  · exact fun x => tile7L (R2 := (fun r => View.readAt (Elt Ideal) arg2.view r.toLoadRect (harg2.unread x0))) (R10 := (fun r => arg10.view.readCov (HS0_16 (F := Ideal) c arg4 harg4 x2) r.toLoadRect)) (R3 := (fun r => View.readAt (Elt Ideal) arg5.view r.toLoadRect (harg5.unread x3))) (R4 := (fun r => View.readAt (Elt Ideal) arg6.view r.toLoadRect (harg6.unread x4))) (o := 768) (lg768 c i arg2 harg2 arg3 harg3 arg4 harg4 arg5 harg5 arg6 harg6 arg7 harg7 arg8 harg8 arg9 harg9 arg10 harg10 arg11 harg11 arg12 harg12 arg13 harg13 hc0 hc1 x0 x1 x2 x3 x4) (readAt_unread _ harg2 x0) (h10 c i arg2 harg2 arg3 harg3 arg4 harg4 arg5 harg5 arg6 harg6 arg7 harg7 arg8 harg8 arg9 harg9 arg10 harg10 arg11 harg11 arg12 harg12 arg13 harg13 hc0 hc1 x0 x1 x2 x3 x4) (readAt_unread _ harg5 x3) (readAt_unread _ harg6 x4) (by decide) (by decide) x
  · exact fun x => tile7L (R2 := (fun r => View.readAt (Elt Ideal) arg2.view r.toLoadRect (harg2.unread x0))) (R10 := (fun r => arg10.view.readCov (HS0_16 (F := Ideal) c arg4 harg4 x2) r.toLoadRect)) (R3 := (fun r => View.readAt (Elt Ideal) arg5.view r.toLoadRect (harg5.unread x3))) (R4 := (fun r => View.readAt (Elt Ideal) arg6.view r.toLoadRect (harg6.unread x4))) (o := 512) (lg512 c i arg2 harg2 arg3 harg3 arg4 harg4 arg5 harg5 arg6 harg6 arg7 harg7 arg8 harg8 arg9 harg9 arg10 harg10 arg11 harg11 arg12 harg12 arg13 harg13 hc0 hc1 x0 x1 x2 x3 x4) (readAt_unread _ harg2 x0) (h10 c i arg2 harg2 arg3 harg3 arg4 harg4 arg5 harg5 arg6 harg6 arg7 harg7 arg8 harg8 arg9 harg9 arg10 harg10 arg11 harg11 arg12 harg12 arg13 harg13 hc0 hc1 x0 x1 x2 x3 x4) (readAt_unread _ harg5 x3) (readAt_unread _ harg6 x4) (by decide) (by decide) x
  · exact fun x => tile7L (R2 := (fun r => View.readAt (Elt Ideal) arg2.view r.toLoadRect (harg2.unread x0))) (R10 := (fun r => arg10.view.readCov (HS0_16 (F := Ideal) c arg4 harg4 x2) r.toLoadRect)) (R3 := (fun r => View.readAt (Elt Ideal) arg5.view r.toLoadRect (harg5.unread x3))) (R4 := (fun r => View.readAt (Elt Ideal) arg6.view r.toLoadRect (harg6.unread x4))) (o := 256) (lg256 c i arg2 harg2 arg3 harg3 arg4 harg4 arg5 harg5 arg6 harg6 arg7 harg7 arg8 harg8 arg9 harg9 arg10 harg10 arg11 harg11 arg12 harg12 arg13 harg13 hc0 hc1 x0 x1 x2 x3 x4) (readAt_unread _ harg2 x0) (h10 c i arg2 harg2 arg3 harg3 arg4 harg4 arg5 harg5 arg6 harg6 arg7 harg7 arg8 harg8 arg9 harg9 arg10 harg10 arg11 harg11 arg12 harg12 arg13 harg13 hc0 hc1 x0 x1 x2 x3 x4) (readAt_unread _ harg5 x3) (readAt_unread _ harg6 x4) (by decide) (by decide) x
  · exact fun x => tile7L (R2 := (fun r => View.readAt (Elt Ideal) arg2.view r.toLoadRect (harg2.unread x0))) (R10 := (fun r => arg10.view.readCov (HS0_16 (F := Ideal) c arg4 harg4 x2) r.toLoadRect)) (R3 := (fun r => View.readAt (Elt Ideal) arg5.view r.toLoadRect (harg5.unread x3))) (R4 := (fun r => View.readAt (Elt Ideal) arg6.view r.toLoadRect (harg6.unread x4))) (o := 0) (lg0 c i arg2 harg2 arg3 harg3 arg4 harg4 arg5 harg5 arg6 harg6 arg7 harg7 arg8 harg8 arg9 harg9 arg10 harg10 arg11 harg11 arg12 harg12 arg13 harg13 hc0 hc1 x0 x1 x2 x3 x4) (readAt_unread _ harg2 x0) (h10 c i arg2 harg2 arg3 harg3 arg4 harg4 arg5 harg5 arg6 harg6 arg7 harg7 arg8 harg8 arg9 harg9 arg10 harg10 arg11 harg11 arg12 harg12 arg13 harg13 hc0 hc1 x0 x1 x2 x3 x4) (readAt_unread _ harg5 x3) (readAt_unread _ harg6 x4) (by decide) (by decide) x

/-- The gradient kept for the features' product. -/
theorem hs2_2 : View.PiecesOf (fun y : S1024x128.Idx => (D (wtOf x2) x0 (r_4 (F := Ideal) c i arg3 harg3 x1) x3 x4) (y 1) (y 0)) (HS2_2 (F := Ideal) c i arg2 harg2 arg3 harg3 arg4 harg4 arg5 harg5 arg6 harg6 arg10 x0 x1 x2 x3 x4) := by
  unfold HS2_2
  refine ⟨?_, ?_, trivial⟩
  · exact fun x => tileH2L (R2 := (fun r => View.readAt (Elt Ideal) arg2.view r.toLoadRect (harg2.unread x0))) (R10 := (fun r => arg10.view.readCov (HS0_16 (F := Ideal) c arg4 harg4 x2) r.toLoadRect)) (R3 := (fun r => View.readAt (Elt Ideal) arg5.view r.toLoadRect (harg5.unread x3))) (R4 := (fun r => View.readAt (Elt Ideal) arg6.view r.toLoadRect (harg6.unread x4))) (o := 256) (lg256 c i arg2 harg2 arg3 harg3 arg4 harg4 arg5 harg5 arg6 harg6 arg7 harg7 arg8 harg8 arg9 harg9 arg10 harg10 arg11 harg11 arg12 harg12 arg13 harg13 hc0 hc1 x0 x1 x2 x3 x4) (readAt_unread _ harg2 x0) (h10 c i arg2 harg2 arg3 harg3 arg4 harg4 arg5 harg5 arg6 harg6 arg7 harg7 arg8 harg8 arg9 harg9 arg10 harg10 arg11 harg11 arg12 harg12 arg13 harg13 hc0 hc1 x0 x1 x2 x3 x4) (readAt_unread _ harg5 x3) (readAt_unread _ harg6 x4) (by decide) (by decide) x
  · exact fun x => tileH2L (R2 := (fun r => View.readAt (Elt Ideal) arg2.view r.toLoadRect (harg2.unread x0))) (R10 := (fun r => arg10.view.readCov (HS0_16 (F := Ideal) c arg4 harg4 x2) r.toLoadRect)) (R3 := (fun r => View.readAt (Elt Ideal) arg5.view r.toLoadRect (harg5.unread x3))) (R4 := (fun r => View.readAt (Elt Ideal) arg6.view r.toLoadRect (harg6.unread x4))) (o := 0) (lg0 c i arg2 harg2 arg3 harg3 arg4 harg4 arg5 harg5 arg6 harg6 arg7 harg7 arg8 harg8 arg9 harg9 arg10 harg10 arg11 harg11 arg12 harg12 arg13 harg13 hc0 hc1 x0 x1 x2 x3 x4) (readAt_unread _ harg2 x0) (h10 c i arg2 harg2 arg3 harg3 arg4 harg4 arg5 harg5 arg6 harg6 arg7 harg7 arg8 harg8 arg9 harg9 arg10 harg10 arg11 harg11 arg12 harg12 arg13 harg13 hc0 hc1 x0 x1 x2 x3 x4) (readAt_unread _ harg5 x3) (readAt_unread _ harg6 x4) (by decide) (by decide) x

theorem hs2_3 : View.PiecesOf (fun y : S1024x128.Idx => (D (wtOf x2) x0 (r_4 (F := Ideal) c i arg3 harg3 x1) x3 x4) (y 1) (y 0)) (HS2_3 (F := Ideal) c i arg2 harg2 arg3 harg3 arg4 harg4 arg5 harg5 arg6 harg6 arg10 arg12 x0 x1 x2 x3 x4) := by
  unfold HS2_3
  refine ⟨?_, hs2_2 c i arg2 harg2 arg3 harg3 arg4 harg4 arg5 harg5 arg6 harg6 arg7 harg7 arg8 harg8 arg9 harg9 arg10 harg10 arg11 harg11 arg12 harg12 arg13 harg13 hc0 hc1 x0 x1 x2 x3 x4⟩
  · exact fun x => tileH2L (R2 := (fun r => View.readAt (Elt Ideal) arg2.view r.toLoadRect (harg2.unread x0))) (R10 := (fun r => arg10.view.readCov (HS0_16 (F := Ideal) c arg4 harg4 x2) r.toLoadRect)) (R3 := (fun r => View.readAt (Elt Ideal) arg5.view r.toLoadRect (harg5.unread x3))) (R4 := (fun r => View.readAt (Elt Ideal) arg6.view r.toLoadRect (harg6.unread x4))) (o := 512) (lg512 c i arg2 harg2 arg3 harg3 arg4 harg4 arg5 harg5 arg6 harg6 arg7 harg7 arg8 harg8 arg9 harg9 arg10 harg10 arg11 harg11 arg12 harg12 arg13 harg13 hc0 hc1 x0 x1 x2 x3 x4) (readAt_unread _ harg2 x0) (h10 c i arg2 harg2 arg3 harg3 arg4 harg4 arg5 harg5 arg6 harg6 arg7 harg7 arg8 harg8 arg9 harg9 arg10 harg10 arg11 harg11 arg12 harg12 arg13 harg13 hc0 hc1 x0 x1 x2 x3 x4) (readAt_unread _ harg5 x3) (readAt_unread _ harg6 x4) (by decide) (by decide) x

theorem hs2_4 : View.PiecesOf (fun y : S1024x128.Idx => (D (wtOf x2) x0 (r_4 (F := Ideal) c i arg3 harg3 x1) x3 x4) (y 1) (y 0)) (HS2_4 (F := Ideal) c i arg2 harg2 arg3 harg3 arg4 harg4 arg5 harg5 arg6 harg6 arg10 arg12 x0 x1 x2 x3 x4) := by
  unfold HS2_4
  refine ⟨?_, hs2_3 c i arg2 harg2 arg3 harg3 arg4 harg4 arg5 harg5 arg6 harg6 arg7 harg7 arg8 harg8 arg9 harg9 arg10 harg10 arg11 harg11 arg12 harg12 arg13 harg13 hc0 hc1 x0 x1 x2 x3 x4⟩
  · exact fun x => tileH2L (R2 := (fun r => View.readAt (Elt Ideal) arg2.view r.toLoadRect (harg2.unread x0))) (R10 := (fun r => arg10.view.readCov (HS0_16 (F := Ideal) c arg4 harg4 x2) r.toLoadRect)) (R3 := (fun r => View.readAt (Elt Ideal) arg5.view r.toLoadRect (harg5.unread x3))) (R4 := (fun r => View.readAt (Elt Ideal) arg6.view r.toLoadRect (harg6.unread x4))) (o := 768) (lg768 c i arg2 harg2 arg3 harg3 arg4 harg4 arg5 harg5 arg6 harg6 arg7 harg7 arg8 harg8 arg9 harg9 arg10 harg10 arg11 harg11 arg12 harg12 arg13 harg13 hc0 hc1 x0 x1 x2 x3 x4) (readAt_unread _ harg2 x0) (h10 c i arg2 harg2 arg3 harg3 arg4 harg4 arg5 harg5 arg6 harg6 arg7 harg7 arg8 harg8 arg9 harg9 arg10 harg10 arg11 harg11 arg12 harg12 arg13 harg13 hc0 hc1 x0 x1 x2 x3 x4) (readAt_unread _ harg5 x3) (readAt_unread _ harg6 x4) (by decide) (by decide) x

/-- The gradient kept for the weights' product. -/
theorem hs3 : View.PiecesOf (fun y : S128x1024.Idx => (D (wtOf x2) x0 (r_4 (F := Ideal) c i arg3 harg3 x1) x3 x4) (y 0) (y 1) * Wof (r_4 (F := Ideal) c i arg3 harg3 x1) (0 : Fin 1) (y 1)) (HS3_4 (F := Ideal) c i arg2 harg2 arg3 harg3 arg4 harg4 arg5 harg5 arg6 harg6 arg10 arg12 x0 x1 x2 x3 x4) := by
  unfold HS3_4
  refine ⟨?_, ?_, ?_, ?_, trivial⟩
  · exact fun x => tileH3L (R2 := (fun r => View.readAt (Elt Ideal) arg2.view r.toLoadRect (harg2.unread x0))) (R10 := (fun r => arg10.view.readCov (HS0_16 (F := Ideal) c arg4 harg4 x2) r.toLoadRect)) (R3 := (fun r => View.readAt (Elt Ideal) arg5.view r.toLoadRect (harg5.unread x3))) (R4 := (fun r => View.readAt (Elt Ideal) arg6.view r.toLoadRect (harg6.unread x4))) (o := 768) (lg768 c i arg2 harg2 arg3 harg3 arg4 harg4 arg5 harg5 arg6 harg6 arg7 harg7 arg8 harg8 arg9 harg9 arg10 harg10 arg11 harg11 arg12 harg12 arg13 harg13 hc0 hc1 x0 x1 x2 x3 x4) (readAt_unread _ harg2 x0) (h10 c i arg2 harg2 arg3 harg3 arg4 harg4 arg5 harg5 arg6 harg6 arg7 harg7 arg8 harg8 arg9 harg9 arg10 harg10 arg11 harg11 arg12 harg12 arg13 harg13 hc0 hc1 x0 x1 x2 x3 x4) (readAt_unread _ harg5 x3) (readAt_unread _ harg6 x4) (by decide) (by decide) x
  · exact fun x => tileH3L (R2 := (fun r => View.readAt (Elt Ideal) arg2.view r.toLoadRect (harg2.unread x0))) (R10 := (fun r => arg10.view.readCov (HS0_16 (F := Ideal) c arg4 harg4 x2) r.toLoadRect)) (R3 := (fun r => View.readAt (Elt Ideal) arg5.view r.toLoadRect (harg5.unread x3))) (R4 := (fun r => View.readAt (Elt Ideal) arg6.view r.toLoadRect (harg6.unread x4))) (o := 512) (lg512 c i arg2 harg2 arg3 harg3 arg4 harg4 arg5 harg5 arg6 harg6 arg7 harg7 arg8 harg8 arg9 harg9 arg10 harg10 arg11 harg11 arg12 harg12 arg13 harg13 hc0 hc1 x0 x1 x2 x3 x4) (readAt_unread _ harg2 x0) (h10 c i arg2 harg2 arg3 harg3 arg4 harg4 arg5 harg5 arg6 harg6 arg7 harg7 arg8 harg8 arg9 harg9 arg10 harg10 arg11 harg11 arg12 harg12 arg13 harg13 hc0 hc1 x0 x1 x2 x3 x4) (readAt_unread _ harg5 x3) (readAt_unread _ harg6 x4) (by decide) (by decide) x
  · exact fun x => tileH3L (R2 := (fun r => View.readAt (Elt Ideal) arg2.view r.toLoadRect (harg2.unread x0))) (R10 := (fun r => arg10.view.readCov (HS0_16 (F := Ideal) c arg4 harg4 x2) r.toLoadRect)) (R3 := (fun r => View.readAt (Elt Ideal) arg5.view r.toLoadRect (harg5.unread x3))) (R4 := (fun r => View.readAt (Elt Ideal) arg6.view r.toLoadRect (harg6.unread x4))) (o := 256) (lg256 c i arg2 harg2 arg3 harg3 arg4 harg4 arg5 harg5 arg6 harg6 arg7 harg7 arg8 harg8 arg9 harg9 arg10 harg10 arg11 harg11 arg12 harg12 arg13 harg13 hc0 hc1 x0 x1 x2 x3 x4) (readAt_unread _ harg2 x0) (h10 c i arg2 harg2 arg3 harg3 arg4 harg4 arg5 harg5 arg6 harg6 arg7 harg7 arg8 harg8 arg9 harg9 arg10 harg10 arg11 harg11 arg12 harg12 arg13 harg13 hc0 hc1 x0 x1 x2 x3 x4) (readAt_unread _ harg5 x3) (readAt_unread _ harg6 x4) (by decide) (by decide) x
  · exact fun x => tileH3L (R2 := (fun r => View.readAt (Elt Ideal) arg2.view r.toLoadRect (harg2.unread x0))) (R10 := (fun r => arg10.view.readCov (HS0_16 (F := Ideal) c arg4 harg4 x2) r.toLoadRect)) (R3 := (fun r => View.readAt (Elt Ideal) arg5.view r.toLoadRect (harg5.unread x3))) (R4 := (fun r => View.readAt (Elt Ideal) arg6.view r.toLoadRect (harg6.unread x4))) (o := 0) (lg0 c i arg2 harg2 arg3 harg3 arg4 harg4 arg5 harg5 arg6 harg6 arg7 harg7 arg8 harg8 arg9 harg9 arg10 harg10 arg11 harg11 arg12 harg12 arg13 harg13 hc0 hc1 x0 x1 x2 x3 x4) (readAt_unread _ harg2 x0) (h10 c i arg2 harg2 arg3 harg3 arg4 harg4 arg5 harg5 arg6 harg6 arg7 harg7 arg8 harg8 arg9 harg9 arg10 harg10 arg11 harg11 arg12 harg12 arg13 harg13 hc0 hc1 x0 x1 x2 x3 x4) (readAt_unread _ harg5 x3) (readAt_unread _ harg6 x4) (by decide) (by decide) x

theorem rd0 (t : Fin 256) (e : Fin 128) : (v490_r0 (F := Ideal) c i arg2 harg2 arg3 harg3 arg4 harg4 arg5 harg5 arg6 harg6 arg10 arg12 x0 x1 x2 x3 x4) (ix2 t e) = (D (wtOf x2) x0 (r_4 (F := Ideal) c i arg3 harg3 x1) x3 x4) e ⟨0 + t.val, by omega⟩ := by
  refine (readCov_piece _ (hs2_2 c i arg2 harg2 arg3 harg3 arg4 harg4 arg5 harg5 arg6 harg6 arg7 harg7 arg8 harg8 arg9 harg9 arg10 harg10 arg11 harg11 arg12 harg12 arg13 harg13 hc0 hc1 x0 x1 x2 x3 x4) _ ⟨_, List.mem_cons_of_mem _ List.mem_cons_self, rfl⟩ _).trans ?_
  exact congrArg₂ (D (wtOf x2) x0 (r_4 (F := Ideal) c i arg3 harg3 x1) x3 x4) (Fin.ext (by show 0 + 1 * e.val = e.val; omega)) (Fin.ext (by show 0 + 1 * t.val = 0 + t.val; omega))

theorem rd256 (t : Fin 256) (e : Fin 128) : (v842_r0 (F := Ideal) c i arg2 harg2 arg3 harg3 arg4 harg4 arg5 harg5 arg6 harg6 arg10 arg12 x0 x1 x2 x3 x4) (ix2 t e) = (D (wtOf x2) x0 (r_4 (F := Ideal) c i arg3 harg3 x1) x3 x4) e ⟨256 + t.val, by omega⟩ := by
  refine (readCov_piece _ (hs2_3 c i arg2 harg2 arg3 harg3 arg4 harg4 arg5 harg5 arg6 harg6 arg7 harg7 arg8 harg8 arg9 harg9 arg10 harg10 arg11 harg11 arg12 harg12 arg13 harg13 hc0 hc1 x0 x1 x2 x3 x4) _ ⟨_, List.mem_cons_of_mem _ List.mem_cons_self, rfl⟩ _).trans ?_
  exact congrArg₂ (D (wtOf x2) x0 (r_4 (F := Ideal) c i arg3 harg3 x1) x3 x4) (Fin.ext (by show 0 + 1 * e.val = e.val; omega)) (Fin.ext (by show 256 + 1 * t.val = 256 + t.val; omega))

theorem rd512 (t : Fin 256) (e : Fin 128) : (v1130_r0 (F := Ideal) c i arg2 harg2 arg3 harg3 arg4 harg4 arg5 harg5 arg6 harg6 arg10 arg12 x0 x1 x2 x3 x4) (ix2 t e) = (D (wtOf x2) x0 (r_4 (F := Ideal) c i arg3 harg3 x1) x3 x4) e ⟨512 + t.val, by omega⟩ := by
  refine (readCov_piece _ (hs2_4 c i arg2 harg2 arg3 harg3 arg4 harg4 arg5 harg5 arg6 harg6 arg7 harg7 arg8 harg8 arg9 harg9 arg10 harg10 arg11 harg11 arg12 harg12 arg13 harg13 hc0 hc1 x0 x1 x2 x3 x4) _ ⟨_, List.mem_cons_of_mem _ List.mem_cons_self, rfl⟩ _).trans ?_
  exact congrArg₂ (D (wtOf x2) x0 (r_4 (F := Ideal) c i arg3 harg3 x1) x3 x4) (Fin.ext (by show 0 + 1 * e.val = e.val; omega)) (Fin.ext (by show 512 + 1 * t.val = 512 + t.val; omega))

theorem rd768 (t : Fin 256) (e : Fin 128) : (v1276_r0 (F := Ideal) c i arg2 harg2 arg3 harg3 arg4 harg4 arg5 harg5 arg6 harg6 arg10 arg12 x0 x1 x2 x3 x4) (ix2 t e) = (D (wtOf x2) x0 (r_4 (F := Ideal) c i arg3 harg3 x1) x3 x4) e ⟨768 + t.val, by omega⟩ := by
  refine (readCov_piece _ (hs2_4 c i arg2 harg2 arg3 harg3 arg4 harg4 arg5 harg5 arg6 harg6 arg7 harg7 arg8 harg8 arg9 harg9 arg10 harg10 arg11 harg11 arg12 harg12 arg13 harg13 hc0 hc1 x0 x1 x2 x3 x4) _ ⟨_, List.mem_cons_self, rfl⟩ _).trans ?_
  exact congrArg₂ (D (wtOf x2) x0 (r_4 (F := Ideal) c i arg3 harg3 x1) x3 x4) (Fin.ext (by show 0 + 1 * e.val = e.val; omega)) (Fin.ext (by show 768 + 1 * t.val = 768 + t.val; omega))

/-- The stores of the features' gradient. -/
theorem out5 : View.PiecesOf (fun y : S1x1024x4096.Idx => ∑ e, (D (wtOf x2) x0 (r_4 (F := Ideal) c i arg3 harg3 x1) x3 x4) e (y 1) * Wof (wtOf x2) e (y 2)) (kernelRun0_A (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4).1 := by
  unfold kernelRun0_A
  dsimp only
  simp only [v496_r0, k0_mxu105, r_73, k0_mxu103, r_72, k0_mxu101, k0_mxu100, k0_mxu99, r_63, k0_mxu97, r_62, k0_mxu95, r_61, k0_mxu93, r_60, k0_mxu91, r_58, k0_mxu89, r_57, k0_mxu87, r_56, k0_mxu85, r_55, k0_mxu83, r_54, k0_mxu81, r_53, k0_mxu79, r_52, k0_mxu77, r_51, k0_mxu75, r_50, k0_mxu73, r_49, k0_mxu71, r_48, k0_mxu69, r_46, k0_mxu67, k0_mxu66, k0_mxu65, r_34, k0_mxu63, r_33, k0_mxu61, r_32, k0_mxu59, r_31, k0_mxu57, r_30, k0_mxu55, r_29, k0_mxu53, r_28, k0_mxu51, r_26, k0_mxu49, r_25, k0_mxu47, r_24, k0_mxu45, r_23, k0_mxu43, r_22, k0_mxu41, r_21, k0_mxu39, r_20, k0_mxu37, r_19, k0_mxu35, r_18, k0_mxu33, r_17, k0_mxu31, r_16, k0_mxu29, r_14, k0_mxu27, r_13, k0_mxu25, r_12, k0_mxu23, r_11, k0_mxu21, r_10, k0_mxu19, r_9, k0_mxu17, r_8, k0_mxu15, r_7, k0_mxu13, r_6, k0_mxu11, r_5, k0_mxu9, r_3, k0_mxu7, r_2, k0_mxu5, r_1, k0_mxu3, r, v501_r0, k0_mxu106, v514_r0, k0_mxu111, r_76, k0_mxu109, r_75, k0_mxu107, v519_r0, k0_mxu112, r_79, v532_r0, k0_mxu117, r_78, k0_mxu115, r_77, k0_mxu113, v537_r0, k0_mxu118, v550_r0, k0_mxu123, r_81, k0_mxu121, r_80, k0_mxu119, v555_r0, k0_mxu124, v568_r0, k0_mxu129, r_84, k0_mxu127, r_83, k0_mxu125, v573_r0, k0_mxu130, r_87, v586_r0, k0_mxu135, r_86, k0_mxu133, r_85, k0_mxu131, v591_r0, k0_mxu136, v604_r0, k0_mxu141, r_89, k0_mxu139, r_88, k0_mxu137, v609_r0, k0_mxu142, v622_r0, k0_mxu147, r_92, k0_mxu145, r_91, k0_mxu143, v627_r0, k0_mxu148, v848_r0, k0_mxu187, r_121, k0_mxu185, r_120, k0_mxu183, k0_mxu182, k0_mxu181, r_108, k0_mxu179, r_107, k0_mxu177, r_106, k0_mxu175, r_105, k0_mxu173, r_104, k0_mxu171, r_103, k0_mxu169, r_102, k0_mxu167, r_101, k0_mxu165, r_100, k0_mxu163, r_99, k0_mxu161, r_98, k0_mxu159, r_97, k0_mxu157, r_96, k0_mxu155, r_95, k0_mxu153, r_94, k0_mxu151, r_93, k0_mxu149, v853_r0, k0_mxu188, v866_r0, k0_mxu193, r_123, k0_mxu191, r_122, k0_mxu189, v871_r0, k0_mxu194, v884_r0, k0_mxu199, r_125, k0_mxu197, r_124, k0_mxu195, v889_r0, k0_mxu200, v902_r0, k0_mxu205, r_127, k0_mxu203, r_126, k0_mxu201, v907_r0, k0_mxu206, v920_r0, k0_mxu211, r_129, k0_mxu209, r_128, k0_mxu207, v925_r0, k0_mxu212, v938_r0, k0_mxu217, r_131, k0_mxu215, r_130, k0_mxu213, v943_r0, k0_mxu218, v956_r0, k0_mxu223, r_133, k0_mxu221, r_132, k0_mxu219, v961_r0, k0_mxu224, v974_r0, k0_mxu229, r_135, k0_mxu227, r_134, k0_mxu225, v979_r0, k0_mxu230, v1136_r0, k0_mxu237, r_146, k0_mxu235, r_145, k0_mxu233, k0_mxu232, k0_mxu231, v1141_r0, k0_mxu238, v1154_r0, k0_mxu243, r_148, k0_mxu241, r_147, k0_mxu239, v1159_r0, k0_mxu244, v1172_r0, k0_mxu249, r_150, k0_mxu247, r_149, k0_mxu245, r_151, v1177_r0, k0_mxu250, v1190_r0, k0_mxu255, r_153, k0_mxu253, r_152, k0_mxu251, v1195_r0, k0_mxu256, v1208_r0, k0_mxu261, r_155, k0_mxu259, r_154, k0_mxu257, v1213_r0, k0_mxu262, v1226_r0, k0_mxu267, r_157, k0_mxu265, r_156, k0_mxu263, r_158, v1231_r0, k0_mxu268, v1244_r0, k0_mxu273, r_160, k0_mxu271, r_159, k0_mxu269, v1249_r0, k0_mxu274, v1262_r0, k0_mxu279, r_162, k0_mxu277, r_161, k0_mxu275, v1267_r0, k0_mxu280, v1282_r0, k0_mxu285, r_164, k0_mxu283, r_163, k0_mxu281, v1287_r0, k0_mxu286, v1300_r0, k0_mxu291, r_166, k0_mxu289, r_165, k0_mxu287, v1305_r0, k0_mxu292, v1318_r0, k0_mxu297, r_168, k0_mxu295, r_167, k0_mxu293, v1323_r0, k0_mxu298, v1336_r0, k0_mxu303, r_170, k0_mxu301, r_169, k0_mxu299, v1341_r0, k0_mxu304, v1354_r0, k0_mxu309, r_172, k0_mxu307, r_171, k0_mxu305, v1359_r0, k0_mxu310, v1372_r0, k0_mxu315, r_174, k0_mxu313, r_173, k0_mxu311, v1377_r0, k0_mxu316, v1390_r0, k0_mxu321, r_176, k0_mxu319, r_175, k0_mxu317, v1395_r0, k0_mxu322, v1408_r0, k0_mxu327, r_178, k0_mxu325, r_177, k0_mxu323, v1413_r0, k0_mxu328]
  simp (maxDischargeDepth := 1000) only [read_pass, read_pass_unit, read_pass_lo, read_pass_hi, read_pop, read_pop_unit, read_pop_lo, read_pop_hi, read_init, empty_init, empty_pop, empty_pass, Fin.isValue, Nat.reduceMul, Nat.reduceAdd, Nat.reduceLeDiff, ne_eq, zero_ne_one, one_ne_zero, not_false_eq_true, Fin.reduceEq]
  iterate 16
    refine ⟨fun x => ?_, ?_⟩
    · exact tile5 (o := 768) (R10 := (fun r => arg10.view.readCov (HS0_16 (F := Ideal) c arg4 harg4 x2) r.toLoadRect)) (by decide) (by decide) (by decide) (by decide) (h10 c i arg2 harg2 arg3 harg3 arg4 harg4 arg5 harg5 arg6 harg6 arg7 harg7 arg8 harg8 arg9 harg9 arg10 harg10 arg11 harg11 arg12 harg12 arg13 harg13 hc0 hc1 x0 x1 x2 x3 x4) _ (rd768 c i arg2 harg2 arg3 harg3 arg4 harg4 arg5 harg5 arg6 harg6 arg7 harg7 arg8 harg8 arg9 harg9 arg10 harg10 arg11 harg11 arg12 harg12 arg13 harg13 hc0 hc1 x0 x1 x2 x3 x4) x
  iterate 16
    refine ⟨fun x => ?_, ?_⟩
    · exact tile5 (o := 512) (R10 := (fun r => arg10.view.readCov (HS0_16 (F := Ideal) c arg4 harg4 x2) r.toLoadRect)) (by decide) (by decide) (by decide) (by decide) (h10 c i arg2 harg2 arg3 harg3 arg4 harg4 arg5 harg5 arg6 harg6 arg7 harg7 arg8 harg8 arg9 harg9 arg10 harg10 arg11 harg11 arg12 harg12 arg13 harg13 hc0 hc1 x0 x1 x2 x3 x4) _ (rd512 c i arg2 harg2 arg3 harg3 arg4 harg4 arg5 harg5 arg6 harg6 arg7 harg7 arg8 harg8 arg9 harg9 arg10 harg10 arg11 harg11 arg12 harg12 arg13 harg13 hc0 hc1 x0 x1 x2 x3 x4) x
  iterate 16
    refine ⟨fun x => ?_, ?_⟩
    · exact tile5 (o := 256) (R10 := (fun r => arg10.view.readCov (HS0_16 (F := Ideal) c arg4 harg4 x2) r.toLoadRect)) (by decide) (by decide) (by decide) (by decide) (h10 c i arg2 harg2 arg3 harg3 arg4 harg4 arg5 harg5 arg6 harg6 arg7 harg7 arg8 harg8 arg9 harg9 arg10 harg10 arg11 harg11 arg12 harg12 arg13 harg13 hc0 hc1 x0 x1 x2 x3 x4) _ (rd256 c i arg2 harg2 arg3 harg3 arg4 harg4 arg5 harg5 arg6 harg6 arg7 harg7 arg8 harg8 arg9 harg9 arg10 harg10 arg11 harg11 arg12 harg12 arg13 harg13 hc0 hc1 x0 x1 x2 x3 x4) x
  iterate 16
    refine ⟨fun x => ?_, ?_⟩
    · exact tile5 (o := 0) (R10 := (fun r => arg10.view.readCov (HS0_16 (F := Ideal) c arg4 harg4 x2) r.toLoadRect)) (by decide) (by decide) (by decide) (by decide) (h10 c i arg2 harg2 arg3 harg3 arg4 harg4 arg5 harg5 arg6 harg6 arg7 harg7 arg8 harg8 arg9 harg9 arg10 harg10 arg11 harg11 arg12 harg12 arg13 harg13 hc0 hc1 x0 x1 x2 x3 x4) _ (rd0 c i arg2 harg2 arg3 harg3 arg4 harg4 arg5 harg5 arg6 harg6 arg7 harg7 arg8 harg8 arg9 harg9 arg10 harg10 arg11 harg11 arg12 harg12 arg13 harg13 hc0 hc1 x0 x1 x2 x3 x4) x
  exact trivial

theorem h13 (o : ℕ) (ho : o + 256 ≤ 1024) (h : o = 0 ∨ o = 256 ∨ o = 512 ∨ o = 768) (e : Fin 128) (t : Fin 256) :
    (fun r : Rect S128x1024 => arg13.view.readCov (HS3_4 (F := Ideal) c i arg2 harg2 arg3 harg3 arg4 harg4 arg5 harg5 arg6 harg6 arg10 arg12 x0 x1 x2 x3 x4) r.toLoadRect) (Rect.unit (s := S128x1024) ![0, o] S128x256.size (hin o ho)) (ix2 e t) = (D (wtOf x2) x0 (r_4 (F := Ideal) c i arg3 harg3 x1) x3 x4) e ⟨o + t.val, by omega⟩ * Wof (r_4 (F := Ideal) c i arg3 harg3 x1) (0 : Fin 1) ⟨o + t.val, by omega⟩ := by
  have hm : ∃ p ∈ (HS3_4 (F := Ideal) c i arg2 harg2 arg3 harg3 arg4 harg4 arg5 harg5 arg6 harg6 arg10 arg12 x0 x1 x2 x3 x4), p.1 = Rect.unit (s := S128x1024) ![0, o] S128x256.size (hin o ho) := by
    rcases h with rfl | rfl | rfl | rfl
    · exact ⟨_, List.mem_cons_of_mem _ (List.mem_cons_of_mem _ (List.mem_cons_of_mem _ List.mem_cons_self)), rfl⟩
    · exact ⟨_, List.mem_cons_of_mem _ (List.mem_cons_of_mem _ List.mem_cons_self), rfl⟩
    · exact ⟨_, List.mem_cons_of_mem _ List.mem_cons_self, rfl⟩
    · exact ⟨_, List.mem_cons_self, rfl⟩
  refine (readCov_piece _ (hs3 c i arg2 harg2 arg3 harg3 arg4 harg4 arg5 harg5 arg6 harg6 arg7 harg7 arg8 harg8 arg9 harg9 arg10 harg10 arg11 harg11 arg12 harg12 arg13 harg13 hc0 hc1 x0 x1 x2 x3 x4) _ hm _).trans ?_
  have h0 : (Rect.unit (s := S128x1024) ![0, o] S128x256.size (hin o ho)).emb (ix2 e t) = ix2 e (⟨o + t.val, by omega⟩ : Fin 1024) :=
    (emb2 (hin o ho) e t).trans (congrArg (fun i => ix2 i _) (Fin.ext (Nat.zero_add _)))
  rw [h0]

/-- What the stores of the weights' gradient leave. -/
theorem acc1 (y : S128x4096.Idx) : View.canon (kernelRun0_A (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.2.1 y = addW (fun _ => 0) (fun e t => (D (wtOf x2) x0 (r_4 (F := Ideal) c i arg3 harg3 x1) x3 x4) e t * Wof (r_4 (F := Ideal) c i arg3 harg3 x1) (0 : Fin 1) t) x0 y := by
  have hz : ∀ x, (k0_pay37 (F := Ideal)) x = (0 : EReal) := fun x => Ideal.ofBits_zero_f32
  have hs : ∀ y : S128x4096.Idx, y ∈ (Rect.unit (s := S128x4096) ![0, 0] S128x4096.size inb_S128x4096_S128x4096_0_0).set := fun y => by
    obtain ⟨p, hp, h⟩ := View.cover_of_tiledL (HS1_1 (F := Ideal) ) S128x4096.size (by sl_kernel_rfl) y
    rw [HS1_1, List.mem_singleton] at hp; subst hp; exact h
  unfold kernelRun0_A
  dsimp only
  simp only [HS1_2, HS1_3, HS1_4, HS1_5, HS1_6, HS1_7, HS1_8, HS1_9, HS1_10, HS1_11, HS1_12, HS1_13, HS1_14, HS1_15, HS1_16, r_246, r_245, k0_mxu467, r_244, k0_mxu465, r_243, k0_mxu463, r_242, k0_mxu461, r_241, k0_mxu459, r_240, k0_mxu457, r_239, k0_mxu455, k0_mxu454, k0_mxu453, r_238, k0_mxu451, r_237, k0_mxu449, r_236, k0_mxu447, r_234, k0_mxu445, r_233, k0_mxu443, r_232, k0_mxu441, r_231, k0_mxu439, r_230, k0_mxu437, k0_mxu436, k0_mxu435, r_229, k0_mxu433, r_228, k0_mxu431, r_227, k0_mxu429, r_226, k0_mxu427, r_225, k0_mxu425, r_224, k0_mxu423, r_223, k0_mxu421, r_222, k0_mxu419, k0_mxu418, k0_mxu417, r_221, k0_mxu415, r_220, k0_mxu413, r_219, k0_mxu411, r_218, k0_mxu409, r_217, k0_mxu407, r_216, k0_mxu405, r_215, k0_mxu403, r_214, k0_mxu401, k0_mxu400, k0_mxu399, r_212, k0_mxu397, r_211, k0_mxu395, r_210, k0_mxu393, r_209, k0_mxu391, r_208, k0_mxu389, r_207, k0_mxu387, r_206, k0_mxu385, r_205, k0_mxu383, k0_mxu382, k0_mxu381, r_204, k0_mxu379, r_203, k0_mxu377, r_202, k0_mxu375, r_201, k0_mxu373, r_200, k0_mxu371, r_199, k0_mxu369, r_197, k0_mxu367, r_196, k0_mxu365, k0_mxu364, k0_mxu363, r_195, k0_mxu361, r_194, k0_mxu359, r_193, k0_mxu357, r_192, k0_mxu355, r_191, k0_mxu353, r_190, k0_mxu351, r_189, k0_mxu349, r_188, k0_mxu347, k0_mxu346, k0_mxu345, r_187, k0_mxu343, r_186, k0_mxu341, r_184, k0_mxu339, r_183, k0_mxu337, r_182, k0_mxu335, r_181, k0_mxu333, r_180, k0_mxu331, r_179, k0_mxu329, k0_mxu328, k0_mxu327, r_178, k0_mxu325, r_177, k0_mxu323, k0_mxu322, k0_mxu321, r_176, k0_mxu319, r_175, k0_mxu317, k0_mxu316, k0_mxu315, r_174, k0_mxu313, r_173, k0_mxu311, k0_mxu310, k0_mxu309, r_172, k0_mxu307, r_171, k0_mxu305, k0_mxu304, k0_mxu303, r_170, k0_mxu301, r_169, k0_mxu299, k0_mxu298, k0_mxu297, r_168, k0_mxu295, r_167, k0_mxu293, k0_mxu292, k0_mxu291, r_166, k0_mxu289, r_165, k0_mxu287, k0_mxu286, k0_mxu285, r_164, k0_mxu283, r_163, k0_mxu281, k0_mxu280, k0_mxu279, r_162, k0_mxu277, r_161, k0_mxu275, k0_mxu274, k0_mxu273, r_160, k0_mxu271, r_159, k0_mxu269, k0_mxu268, k0_mxu267, r_157, k0_mxu265, r_156, k0_mxu263, k0_mxu262, k0_mxu261, r_155, k0_mxu259, r_154, k0_mxu257, k0_mxu256, k0_mxu255, r_153, k0_mxu253, r_152, k0_mxu251, k0_mxu250, k0_mxu249, r_150, k0_mxu247, r_149, k0_mxu245, k0_mxu244, k0_mxu243, r_148, k0_mxu241, r_147, k0_mxu239, k0_mxu238, k0_mxu237, r_146, k0_mxu235, r_145, k0_mxu233, k0_mxu232, k0_mxu231, k0_mxu230, k0_mxu229, r_135, k0_mxu227, r_134, k0_mxu225, k0_mxu224, k0_mxu223, r_133, k0_mxu221, r_132, k0_mxu219, k0_mxu218, k0_mxu217, r_131, k0_mxu215, r_130, k0_mxu213, k0_mxu212, k0_mxu211, r_129, k0_mxu209, r_128, k0_mxu207, k0_mxu206, k0_mxu205, r_127, k0_mxu203, r_126, k0_mxu201, k0_mxu200, k0_mxu199, r_125, k0_mxu197, r_124, k0_mxu195, k0_mxu194, k0_mxu193, r_123, k0_mxu191, r_122, k0_mxu189, k0_mxu188, k0_mxu187, r_121, k0_mxu185, r_120, k0_mxu183, k0_mxu182, k0_mxu181, r_108, k0_mxu179, r_107, k0_mxu177, r_106, k0_mxu175, r_105, k0_mxu173, r_104, k0_mxu171, r_103, k0_mxu169, r_102, k0_mxu167, r_101, k0_mxu165, r_100, k0_mxu163, r_99, k0_mxu161, r_98, k0_mxu159, r_97, k0_mxu157, r_96, k0_mxu155, r_95, k0_mxu153, r_94, k0_mxu151, r_93, k0_mxu149, k0_mxu148, k0_mxu147, r_92, k0_mxu145, r_91, k0_mxu143, k0_mxu142, k0_mxu141, r_89, k0_mxu139, r_88, k0_mxu137, k0_mxu136, k0_mxu135, r_86, k0_mxu133, r_85, k0_mxu131, k0_mxu130, k0_mxu129, r_84, k0_mxu127, r_83, k0_mxu125, k0_mxu124, k0_mxu123, r_81, k0_mxu121, r_80, k0_mxu119, k0_mxu118, k0_mxu117, r_78, k0_mxu115, r_77, k0_mxu113, k0_mxu112, k0_mxu111, r_76, k0_mxu109, r_75, k0_mxu107, k0_mxu106, k0_mxu105, r_73, k0_mxu103, r_72, k0_mxu101, k0_mxu100, k0_mxu99, r_63, k0_mxu97, r_62, k0_mxu95, r_61, k0_mxu93, r_60, k0_mxu91, r_58, k0_mxu89, r_57, k0_mxu87, r_56, k0_mxu85, r_55, k0_mxu83, r_54, k0_mxu81, r_53, k0_mxu79, r_52, k0_mxu77, r_51, k0_mxu75, r_50, k0_mxu73, r_49, k0_mxu71, r_48, k0_mxu69, r_46, k0_mxu67, k0_mxu66, k0_mxu65, r_34, k0_mxu63, r_33, k0_mxu61, r_32, k0_mxu59, r_31, k0_mxu57, r_30, k0_mxu55, r_29, k0_mxu53, r_28, k0_mxu51, r_26, k0_mxu49, r_25, k0_mxu47, r_24, k0_mxu45, r_23, k0_mxu43, r_22, k0_mxu41, r_21, k0_mxu39, r_20, k0_mxu37, r_19, k0_mxu35, r_18, k0_mxu33, r_17, k0_mxu31, r_16, k0_mxu29, r_14, k0_mxu27, r_13, k0_mxu25, r_12, k0_mxu23, r_11, k0_mxu21, r_10, k0_mxu19, r_9, k0_mxu17, r_8, k0_mxu15, r_7, k0_mxu13, r_6, k0_mxu11, r_5, k0_mxu9, r_3, k0_mxu7, r_2, k0_mxu5, r_1, k0_mxu3, r, v1721_r0, v1715_r0, v1677_r0, v1671_r0, v1633_r0, v1627_r0, v1589_r0, r_213, v1583_r0, v1545_r0, v1539_r0, v1501_r0, v1495_r0, v1457_r0, v1451_r0]
  simp (maxDischargeDepth := 1000) only [read_pass, read_pass_unit, read_pass_lo, read_pass_hi, read_pop, read_pop_unit, read_pop_lo, read_pop_hi, read_init, empty_init, empty_pop, empty_pass, Fin.isValue, Nat.reduceMul, Nat.reduceAdd, Nat.reduceLeDiff, ne_eq, zero_ne_one, one_ne_zero, not_false_eq_true, Fin.reduceEq]
  refine View.canon_append_of_piecesOf _ (HS1_1 (F := Ideal) ) [_, _, _, _, _, _, _, _, _, _, _, _, _, _, _, _] ?_ y (View.cover_of_tiledL _ ![128,256] (by sl_kernel_rfl) y)
  iterate 16 refine ⟨fun x => tile1 (R2 := (fun r => View.readAt (Elt Ideal) arg2.view r.toLoadRect (harg2.unread x0))) (R13 := (fun r : Rect S128x1024 => arg13.view.readCov (HS3_4 (F := Ideal) c i arg2 harg2 arg3 harg3 arg4 harg4 arg5 harg5 arg6 harg6 arg10 arg12 x0 x1 x2 x3 x4) r.toLoadRect)) (H := (fun e t => (D (wtOf x2) x0 (r_4 (F := Ideal) c i arg3 harg3 x1) x3 x4) e t * Wof (r_4 (F := Ideal) c i arg3 harg3 x1) (0 : Fin 1) t)) (readAt_unread _ harg2 x0) (h13 c i arg2 harg2 arg3 harg3 arg4 harg4 arg5 harg5 arg6 harg6 arg7 harg7 arg8 harg8 arg9 harg9 arg10 harg10 arg11 harg11 arg12 harg12 arg13 harg13 hc0 hc1 x0 x1 x2 x3 x4) (by decide) (by decide) _ (fun j => readCov_last arg11.view (0 : EReal) _ (p := ⟨Rect.unit ![0, 0] S128x4096.size inb_S128x4096_S128x4096_0_0, (k0_pay37 (F := Ideal))⟩) hz hs (Rect.unit (s := S128x4096) ![0, _] S128x256.size (by decide)) j (by sl_kernel_rfl) (by sl_kernel_rfl)) x, ?_⟩
  exact trivial

end Cert.Val.CaseA
-- ==== Proof.Val.CaseB.lean ====
/- What one point's run leaves in its buffers, as functions of the point's coordinates: case B. -/

module

public import proofs.«01_k».proof.Proof.Val.Tiles
public import proofs.«01_k».proof.Proof.RunKernelIdeal.RunB

@[expose] public section

set_option maxRecDepth 16384
set_option maxHeartbeats 4000000

noncomputable section

namespace Cert.Val.CaseB

open Idealize.ShloMosaic Idealize.ShloMosaic.ValueIdx Cert.Val Cert.KernelIdeal Cert.KernelIdeal.Gen Cert.KernelIdeal.Gen.kernelRun0_B.sl

variable (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : ¬cond0_1 i) (x0 : Vec Ideal S1x1024x4096 .fp8e4m3) (x1 : Vec Ideal S4x1024 .f32) (x2 : Vec Ideal S4096x128 .bf16) (x3 : Vec Ideal S1x8x1024 .i32) (x4 : Vec Ideal S1x8x1024 .bf16) (xs0 : Vec Ideal S128x4096 .bf16) (xs1 : Vec Ideal S128x4096 .f32)
include c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1

/-- The logits of the tokens from 0 on. -/
theorem lg0 : (r_37 (F := Ideal) c i arg2 harg2 arg3 harg3 arg10 harg10 x0 x1 xs0) = logitV (fun r => View.readAt (Elt Ideal) arg2.view r.toLoadRect (harg2.unread x0)) (fun r => View.readAt (Elt Ideal) arg10.view r.toLoadRect (harg10.unread xs0)) 0 (by decide) (r_4 (F := Ideal) c i arg3 harg3 x1) := by
  simp only [r_37, v139_r0, k0_mxu66, k0_mxu65, r_35, k0_mxu63, r_33, k0_mxu61, r_32, k0_mxu59, r_31, k0_mxu57, r_30, k0_mxu55, r_29, k0_mxu53, r_28, k0_mxu51, r_26, k0_mxu49, r_25, k0_mxu47, r_24, k0_mxu45, r_23, k0_mxu43, r_22, k0_mxu41, r_21, k0_mxu39, r_20, k0_mxu37, r_19, k0_mxu35, r_18, k0_mxu33, r_17, k0_mxu31, r_16, k0_mxu29, r_14, k0_mxu27, r_13, k0_mxu25, r_12, k0_mxu23, r_11, k0_mxu21, r_10, k0_mxu19, r_9, k0_mxu17, r_8, k0_mxu15, r_7, k0_mxu13, r_6, k0_mxu11, r_5, k0_mxu9, r_3, k0_mxu7, r_2, k0_mxu5, r_1, k0_mxu3, r, v138_r0]
  simp (maxDischargeDepth := 1000) only [read_pass, read_pass_unit, read_pass_lo, read_pass_hi, read_pop, read_pop_unit, read_pop_lo, read_pop_hi, read_init, empty_init, empty_pop, empty_pass, Fin.isValue, Nat.reduceMul, Nat.reduceAdd, Nat.reduceLeDiff, ne_eq, zero_ne_one, one_ne_zero, not_false_eq_true, Fin.reduceEq]
  rfl

/-- The logits of the tokens from 256 on. -/
theorem lg256 : (r_67 (F := Ideal) c i arg2 harg2 arg3 harg3 arg10 harg10 x0 x1 xs0) = logitV (fun r => View.readAt (Elt Ideal) arg2.view r.toLoadRect (harg2.unread x0)) (fun r => View.readAt (Elt Ideal) arg10.view r.toLoadRect (harg10.unread xs0)) 256 (by decide) (r_4 (F := Ideal) c i arg3 harg3 x1) := by
  simp only [r_67, v345_r0, k0_mxu100, k0_mxu99, r_65, k0_mxu97, r_64, k0_mxu95, r_63, k0_mxu93, r_62, k0_mxu91, r_60, k0_mxu89, r_59, k0_mxu87, r_58, k0_mxu85, r_57, k0_mxu83, r_56, k0_mxu81, r_54, k0_mxu79, r_53, k0_mxu77, r_52, k0_mxu75, r_51, k0_mxu73, r_50, k0_mxu71, r_49, k0_mxu69, r_47, k0_mxu67, k0_mxu66, k0_mxu65, r_35, k0_mxu63, r_33, k0_mxu61, r_32, k0_mxu59, r_31, k0_mxu57, r_30, k0_mxu55, r_29, k0_mxu53, r_28, k0_mxu51, r_26, k0_mxu49, r_25, k0_mxu47, r_24, k0_mxu45, r_23, k0_mxu43, r_22, k0_mxu41, r_21, k0_mxu39, r_20, k0_mxu37, r_19, k0_mxu35, r_18, k0_mxu33, r_17, k0_mxu31, r_16, k0_mxu29, r_14, k0_mxu27, r_13, k0_mxu25, r_12, k0_mxu23, r_11, k0_mxu21, r_10, k0_mxu19, r_9, k0_mxu17, r_8, k0_mxu15, r_7, k0_mxu13, r_6, k0_mxu11, r_5, k0_mxu9, r_3, k0_mxu7, r_2, k0_mxu5, r_1, k0_mxu3, r, v344_r0]
  simp (maxDischargeDepth := 1000) only [read_pass, read_pass_unit, read_pass_lo, read_pass_hi, read_pop, read_pop_unit, read_pop_lo, read_pop_hi, read_init, empty_init, empty_pop, empty_pass, Fin.isValue, Nat.reduceMul, Nat.reduceAdd, Nat.reduceLeDiff, ne_eq, zero_ne_one, one_ne_zero, not_false_eq_true, Fin.reduceEq]
  rfl

/-- The logits of the tokens from 512 on. -/
theorem lg512 : (r_112 (F := Ideal) c i arg2 harg2 arg3 harg3 arg5 harg5 arg6 harg6 arg10 harg10 arg12 x0 x1 x3 x4 xs0) = logitV (fun r => View.readAt (Elt Ideal) arg2.view r.toLoadRect (harg2.unread x0)) (fun r => View.readAt (Elt Ideal) arg10.view r.toLoadRect (harg10.unread xs0)) 512 (by decide) (r_4 (F := Ideal) c i arg3 harg3 x1) := by
  simp only [r_112, v697_r0, k0_mxu182, k0_mxu181, r_110, k0_mxu179, r_109, k0_mxu177, r_108, k0_mxu175, r_107, k0_mxu173, r_106, k0_mxu171, r_105, k0_mxu169, r_104, k0_mxu167, r_103, k0_mxu165, r_102, k0_mxu163, r_101, k0_mxu161, r_100, k0_mxu159, r_99, k0_mxu157, r_98, k0_mxu155, r_97, k0_mxu153, r_96, k0_mxu151, r_95, k0_mxu149, k0_mxu148, k0_mxu147, r_94, k0_mxu145, r_93, k0_mxu143, k0_mxu142, k0_mxu141, r_91, k0_mxu139, r_90, k0_mxu137, k0_mxu136, k0_mxu135, r_88, k0_mxu133, r_87, k0_mxu131, k0_mxu130, k0_mxu129, r_86, k0_mxu127, r_85, k0_mxu125, k0_mxu124, k0_mxu123, r_83, k0_mxu121, r_82, k0_mxu119, k0_mxu118, k0_mxu117, r_80, k0_mxu115, r_79, k0_mxu113, k0_mxu112, k0_mxu111, r_78, k0_mxu109, r_77, k0_mxu107, k0_mxu106, k0_mxu105, r_75, k0_mxu103, r_74, k0_mxu101, k0_mxu100, k0_mxu99, r_65, k0_mxu97, r_64, k0_mxu95, r_63, k0_mxu93, r_62, k0_mxu91, r_60, k0_mxu89, r_59, k0_mxu87, r_58, k0_mxu85, r_57, k0_mxu83, r_56, k0_mxu81, r_54, k0_mxu79, r_53, k0_mxu77, r_52, k0_mxu75, r_51, k0_mxu73, r_50, k0_mxu71, r_49, k0_mxu69, r_47, k0_mxu67, k0_mxu66, k0_mxu65, r_35, k0_mxu63, r_33, k0_mxu61, r_32, k0_mxu59, r_31, k0_mxu57, r_30, k0_mxu55, r_29, k0_mxu53, r_28, k0_mxu51, r_26, k0_mxu49, r_25, k0_mxu47, r_24, k0_mxu45, r_23, k0_mxu43, r_22, k0_mxu41, r_21, k0_mxu39, r_20, k0_mxu37, r_19, k0_mxu35, r_18, k0_mxu33, r_17, k0_mxu31, r_16, k0_mxu29, r_14, k0_mxu27, r_13, k0_mxu25, r_12, k0_mxu23, r_11, k0_mxu21, r_10, k0_mxu19, r_9, k0_mxu17, r_8, k0_mxu15, r_7, k0_mxu13, r_6, k0_mxu11, r_5, k0_mxu9, r_3, k0_mxu7, r_2, k0_mxu5, r_1, k0_mxu3, r, v696_r0]
  simp (maxDischargeDepth := 1000) only [read_pass, read_pass_unit, read_pass_lo, read_pass_hi, read_pop, read_pop_unit, read_pop_lo, read_pop_hi, read_init, empty_init, empty_pop, empty_pass, Fin.isValue, Nat.reduceMul, Nat.reduceAdd, Nat.reduceLeDiff, ne_eq, zero_ne_one, one_ne_zero, not_false_eq_true, Fin.reduceEq]
  rfl

/-- The logits of the tokens from 768 on. -/
theorem lg768 : (r_139 (F := Ideal) c i arg2 harg2 arg3 harg3 arg5 harg5 arg6 harg6 arg10 harg10 arg12 x0 x1 x3 x4 xs0) = logitV (fun r => View.readAt (Elt Ideal) arg2.view r.toLoadRect (harg2.unread x0)) (fun r => View.readAt (Elt Ideal) arg10.view r.toLoadRect (harg10.unread xs0)) 768 (by decide) (r_4 (F := Ideal) c i arg3 harg3 x1) := by
  simp only [r_139, v985_r0, k0_mxu232, k0_mxu231, k0_mxu230, k0_mxu229, r_137, k0_mxu227, r_136, k0_mxu225, k0_mxu224, k0_mxu223, r_135, k0_mxu221, r_134, k0_mxu219, k0_mxu218, k0_mxu217, r_133, k0_mxu215, r_132, k0_mxu213, k0_mxu212, k0_mxu211, r_131, k0_mxu209, r_130, k0_mxu207, k0_mxu206, k0_mxu205, r_129, k0_mxu203, r_128, k0_mxu201, k0_mxu200, k0_mxu199, r_127, k0_mxu197, r_126, k0_mxu195, k0_mxu194, k0_mxu193, r_125, k0_mxu191, r_124, k0_mxu189, k0_mxu188, k0_mxu187, r_123, k0_mxu185, r_122, k0_mxu183, k0_mxu182, k0_mxu181, r_110, k0_mxu179, r_109, k0_mxu177, r_108, k0_mxu175, r_107, k0_mxu173, r_106, k0_mxu171, r_105, k0_mxu169, r_104, k0_mxu167, r_103, k0_mxu165, r_102, k0_mxu163, r_101, k0_mxu161, r_100, k0_mxu159, r_99, k0_mxu157, r_98, k0_mxu155, r_97, k0_mxu153, r_96, k0_mxu151, r_95, k0_mxu149, k0_mxu148, k0_mxu147, r_94, k0_mxu145, r_93, k0_mxu143, k0_mxu142, k0_mxu141, r_91, k0_mxu139, r_90, k0_mxu137, k0_mxu136, k0_mxu135, r_88, k0_mxu133, r_87, k0_mxu131, k0_mxu130, k0_mxu129, r_86, k0_mxu127, r_85, k0_mxu125, k0_mxu124, k0_mxu123, r_83, k0_mxu121, r_82, k0_mxu119, k0_mxu118, k0_mxu117, r_80, k0_mxu115, r_79, k0_mxu113, k0_mxu112, k0_mxu111, r_78, k0_mxu109, r_77, k0_mxu107, k0_mxu106, k0_mxu105, r_75, k0_mxu103, r_74, k0_mxu101, k0_mxu100, k0_mxu99, r_65, k0_mxu97, r_64, k0_mxu95, r_63, k0_mxu93, r_62, k0_mxu91, r_60, k0_mxu89, r_59, k0_mxu87, r_58, k0_mxu85, r_57, k0_mxu83, r_56, k0_mxu81, r_54, k0_mxu79, r_53, k0_mxu77, r_52, k0_mxu75, r_51, k0_mxu73, r_50, k0_mxu71, r_49, k0_mxu69, r_47, k0_mxu67, k0_mxu66, k0_mxu65, r_35, k0_mxu63, r_33, k0_mxu61, r_32, k0_mxu59, r_31, k0_mxu57, r_30, k0_mxu55, r_29, k0_mxu53, r_28, k0_mxu51, r_26, k0_mxu49, r_25, k0_mxu47, r_24, k0_mxu45, r_23, k0_mxu43, r_22, k0_mxu41, r_21, k0_mxu39, r_20, k0_mxu37, r_19, k0_mxu35, r_18, k0_mxu33, r_17, k0_mxu31, r_16, k0_mxu29, r_14, k0_mxu27, r_13, k0_mxu25, r_12, k0_mxu23, r_11, k0_mxu21, r_10, k0_mxu19, r_9, k0_mxu17, r_8, k0_mxu15, r_7, k0_mxu13, r_6, k0_mxu11, r_5, k0_mxu9, r_3, k0_mxu7, r_2, k0_mxu5, r_1, k0_mxu3, r, v984_r0]
  simp (maxDischargeDepth := 1000) only [read_pass, read_pass_unit, read_pass_lo, read_pass_hi, read_pop, read_pop_unit, read_pop_lo, read_pop_hi, read_init, empty_init, empty_pop, empty_pass, Fin.isValue, Nat.reduceMul, Nat.reduceAdd, Nat.reduceLeDiff, ne_eq, zero_ne_one, one_ne_zero, not_false_eq_true, Fin.reduceEq]
  rfl

/-- The stores of the gradient of the logits. -/
theorem out7 : View.PiecesOf (fun y : S1x1024x128.Idx => (D (xs0) x0 (r_4 (F := Ideal) c i arg3 harg3 x1) x3 x4) (y 2) (y 1)) (kernelRun0_B (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.1 := by
  unfold kernelRun0_B
  dsimp only
  refine ⟨?_, ?_, ?_, ?_, trivial⟩
  · exact fun x => tile7L (R2 := (fun r => View.readAt (Elt Ideal) arg2.view r.toLoadRect (harg2.unread x0))) (R10 := (fun r => View.readAt (Elt Ideal) arg10.view r.toLoadRect (harg10.unread xs0))) (R3 := (fun r => View.readAt (Elt Ideal) arg5.view r.toLoadRect (harg5.unread x3))) (R4 := (fun r => View.readAt (Elt Ideal) arg6.view r.toLoadRect (harg6.unread x4))) (o := 768) (lg768 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) (readAt_unread _ harg2 x0) (readAt_unread _ harg10 xs0) (readAt_unread _ harg5 x3) (readAt_unread _ harg6 x4) (by decide) (by decide) x
  · exact fun x => tile7L (R2 := (fun r => View.readAt (Elt Ideal) arg2.view r.toLoadRect (harg2.unread x0))) (R10 := (fun r => View.readAt (Elt Ideal) arg10.view r.toLoadRect (harg10.unread xs0))) (R3 := (fun r => View.readAt (Elt Ideal) arg5.view r.toLoadRect (harg5.unread x3))) (R4 := (fun r => View.readAt (Elt Ideal) arg6.view r.toLoadRect (harg6.unread x4))) (o := 512) (lg512 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) (readAt_unread _ harg2 x0) (readAt_unread _ harg10 xs0) (readAt_unread _ harg5 x3) (readAt_unread _ harg6 x4) (by decide) (by decide) x
  · exact fun x => tile7L (R2 := (fun r => View.readAt (Elt Ideal) arg2.view r.toLoadRect (harg2.unread x0))) (R10 := (fun r => View.readAt (Elt Ideal) arg10.view r.toLoadRect (harg10.unread xs0))) (R3 := (fun r => View.readAt (Elt Ideal) arg5.view r.toLoadRect (harg5.unread x3))) (R4 := (fun r => View.readAt (Elt Ideal) arg6.view r.toLoadRect (harg6.unread x4))) (o := 256) (lg256 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) (readAt_unread _ harg2 x0) (readAt_unread _ harg10 xs0) (readAt_unread _ harg5 x3) (readAt_unread _ harg6 x4) (by decide) (by decide) x
  · exact fun x => tile7L (R2 := (fun r => View.readAt (Elt Ideal) arg2.view r.toLoadRect (harg2.unread x0))) (R10 := (fun r => View.readAt (Elt Ideal) arg10.view r.toLoadRect (harg10.unread xs0))) (R3 := (fun r => View.readAt (Elt Ideal) arg5.view r.toLoadRect (harg5.unread x3))) (R4 := (fun r => View.readAt (Elt Ideal) arg6.view r.toLoadRect (harg6.unread x4))) (o := 0) (lg0 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) (readAt_unread _ harg2 x0) (readAt_unread _ harg10 xs0) (readAt_unread _ harg5 x3) (readAt_unread _ harg6 x4) (by decide) (by decide) x

/-- The gradient kept for the features' product. -/
theorem hs2_2 : View.PiecesOf (fun y : S1024x128.Idx => (D (xs0) x0 (r_4 (F := Ideal) c i arg3 harg3 x1) x3 x4) (y 1) (y 0)) (HS2_2 (F := Ideal) c i arg2 harg2 arg3 harg3 arg5 harg5 arg6 harg6 arg10 harg10 x0 x1 x3 x4 xs0) := by
  unfold HS2_2
  refine ⟨?_, ?_, trivial⟩
  · exact fun x => tileH2L (R2 := (fun r => View.readAt (Elt Ideal) arg2.view r.toLoadRect (harg2.unread x0))) (R10 := (fun r => View.readAt (Elt Ideal) arg10.view r.toLoadRect (harg10.unread xs0))) (R3 := (fun r => View.readAt (Elt Ideal) arg5.view r.toLoadRect (harg5.unread x3))) (R4 := (fun r => View.readAt (Elt Ideal) arg6.view r.toLoadRect (harg6.unread x4))) (o := 256) (lg256 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) (readAt_unread _ harg2 x0) (readAt_unread _ harg10 xs0) (readAt_unread _ harg5 x3) (readAt_unread _ harg6 x4) (by decide) (by decide) x
  · exact fun x => tileH2L (R2 := (fun r => View.readAt (Elt Ideal) arg2.view r.toLoadRect (harg2.unread x0))) (R10 := (fun r => View.readAt (Elt Ideal) arg10.view r.toLoadRect (harg10.unread xs0))) (R3 := (fun r => View.readAt (Elt Ideal) arg5.view r.toLoadRect (harg5.unread x3))) (R4 := (fun r => View.readAt (Elt Ideal) arg6.view r.toLoadRect (harg6.unread x4))) (o := 0) (lg0 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) (readAt_unread _ harg2 x0) (readAt_unread _ harg10 xs0) (readAt_unread _ harg5 x3) (readAt_unread _ harg6 x4) (by decide) (by decide) x

theorem hs2_3 : View.PiecesOf (fun y : S1024x128.Idx => (D (xs0) x0 (r_4 (F := Ideal) c i arg3 harg3 x1) x3 x4) (y 1) (y 0)) (HS2_3 (F := Ideal) c i arg2 harg2 arg3 harg3 arg5 harg5 arg6 harg6 arg10 harg10 arg12 x0 x1 x3 x4 xs0) := by
  unfold HS2_3
  refine ⟨?_, hs2_2 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1⟩
  · exact fun x => tileH2L (R2 := (fun r => View.readAt (Elt Ideal) arg2.view r.toLoadRect (harg2.unread x0))) (R10 := (fun r => View.readAt (Elt Ideal) arg10.view r.toLoadRect (harg10.unread xs0))) (R3 := (fun r => View.readAt (Elt Ideal) arg5.view r.toLoadRect (harg5.unread x3))) (R4 := (fun r => View.readAt (Elt Ideal) arg6.view r.toLoadRect (harg6.unread x4))) (o := 512) (lg512 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) (readAt_unread _ harg2 x0) (readAt_unread _ harg10 xs0) (readAt_unread _ harg5 x3) (readAt_unread _ harg6 x4) (by decide) (by decide) x

theorem hs2_4 : View.PiecesOf (fun y : S1024x128.Idx => (D (xs0) x0 (r_4 (F := Ideal) c i arg3 harg3 x1) x3 x4) (y 1) (y 0)) (HS2_4 (F := Ideal) c i arg2 harg2 arg3 harg3 arg5 harg5 arg6 harg6 arg10 harg10 arg12 x0 x1 x3 x4 xs0) := by
  unfold HS2_4
  refine ⟨?_, hs2_3 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1⟩
  · exact fun x => tileH2L (R2 := (fun r => View.readAt (Elt Ideal) arg2.view r.toLoadRect (harg2.unread x0))) (R10 := (fun r => View.readAt (Elt Ideal) arg10.view r.toLoadRect (harg10.unread xs0))) (R3 := (fun r => View.readAt (Elt Ideal) arg5.view r.toLoadRect (harg5.unread x3))) (R4 := (fun r => View.readAt (Elt Ideal) arg6.view r.toLoadRect (harg6.unread x4))) (o := 768) (lg768 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) (readAt_unread _ harg2 x0) (readAt_unread _ harg10 xs0) (readAt_unread _ harg5 x3) (readAt_unread _ harg6 x4) (by decide) (by decide) x

/-- The gradient kept for the weights' product. -/
theorem hs3 : View.PiecesOf (fun y : S128x1024.Idx => (D (xs0) x0 (r_4 (F := Ideal) c i arg3 harg3 x1) x3 x4) (y 0) (y 1) * Wof (r_4 (F := Ideal) c i arg3 harg3 x1) (0 : Fin 1) (y 1)) (HS3_4 (F := Ideal) c i arg2 harg2 arg3 harg3 arg5 harg5 arg6 harg6 arg10 harg10 arg12 x0 x1 x3 x4 xs0) := by
  unfold HS3_4
  refine ⟨?_, ?_, ?_, ?_, trivial⟩
  · exact fun x => tileH3L (R2 := (fun r => View.readAt (Elt Ideal) arg2.view r.toLoadRect (harg2.unread x0))) (R10 := (fun r => View.readAt (Elt Ideal) arg10.view r.toLoadRect (harg10.unread xs0))) (R3 := (fun r => View.readAt (Elt Ideal) arg5.view r.toLoadRect (harg5.unread x3))) (R4 := (fun r => View.readAt (Elt Ideal) arg6.view r.toLoadRect (harg6.unread x4))) (o := 768) (lg768 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) (readAt_unread _ harg2 x0) (readAt_unread _ harg10 xs0) (readAt_unread _ harg5 x3) (readAt_unread _ harg6 x4) (by decide) (by decide) x
  · exact fun x => tileH3L (R2 := (fun r => View.readAt (Elt Ideal) arg2.view r.toLoadRect (harg2.unread x0))) (R10 := (fun r => View.readAt (Elt Ideal) arg10.view r.toLoadRect (harg10.unread xs0))) (R3 := (fun r => View.readAt (Elt Ideal) arg5.view r.toLoadRect (harg5.unread x3))) (R4 := (fun r => View.readAt (Elt Ideal) arg6.view r.toLoadRect (harg6.unread x4))) (o := 512) (lg512 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) (readAt_unread _ harg2 x0) (readAt_unread _ harg10 xs0) (readAt_unread _ harg5 x3) (readAt_unread _ harg6 x4) (by decide) (by decide) x
  · exact fun x => tileH3L (R2 := (fun r => View.readAt (Elt Ideal) arg2.view r.toLoadRect (harg2.unread x0))) (R10 := (fun r => View.readAt (Elt Ideal) arg10.view r.toLoadRect (harg10.unread xs0))) (R3 := (fun r => View.readAt (Elt Ideal) arg5.view r.toLoadRect (harg5.unread x3))) (R4 := (fun r => View.readAt (Elt Ideal) arg6.view r.toLoadRect (harg6.unread x4))) (o := 256) (lg256 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) (readAt_unread _ harg2 x0) (readAt_unread _ harg10 xs0) (readAt_unread _ harg5 x3) (readAt_unread _ harg6 x4) (by decide) (by decide) x
  · exact fun x => tileH3L (R2 := (fun r => View.readAt (Elt Ideal) arg2.view r.toLoadRect (harg2.unread x0))) (R10 := (fun r => View.readAt (Elt Ideal) arg10.view r.toLoadRect (harg10.unread xs0))) (R3 := (fun r => View.readAt (Elt Ideal) arg5.view r.toLoadRect (harg5.unread x3))) (R4 := (fun r => View.readAt (Elt Ideal) arg6.view r.toLoadRect (harg6.unread x4))) (o := 0) (lg0 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) (readAt_unread _ harg2 x0) (readAt_unread _ harg10 xs0) (readAt_unread _ harg5 x3) (readAt_unread _ harg6 x4) (by decide) (by decide) x

theorem rd0 (t : Fin 256) (e : Fin 128) : (v490_r0 (F := Ideal) c i arg2 harg2 arg3 harg3 arg5 harg5 arg6 harg6 arg10 harg10 arg12 x0 x1 x3 x4 xs0) (ix2 t e) = (D (xs0) x0 (r_4 (F := Ideal) c i arg3 harg3 x1) x3 x4) e ⟨0 + t.val, by omega⟩ := by
  refine (readCov_piece _ (hs2_2 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) _ ⟨_, List.mem_cons_of_mem _ List.mem_cons_self, rfl⟩ _).trans ?_
  exact congrArg₂ (D (xs0) x0 (r_4 (F := Ideal) c i arg3 harg3 x1) x3 x4) (Fin.ext (by show 0 + 1 * e.val = e.val; omega)) (Fin.ext (by show 0 + 1 * t.val = 0 + t.val; omega))

theorem rd256 (t : Fin 256) (e : Fin 128) : (v842_r0 (F := Ideal) c i arg2 harg2 arg3 harg3 arg5 harg5 arg6 harg6 arg10 harg10 arg12 x0 x1 x3 x4 xs0) (ix2 t e) = (D (xs0) x0 (r_4 (F := Ideal) c i arg3 harg3 x1) x3 x4) e ⟨256 + t.val, by omega⟩ := by
  refine (readCov_piece _ (hs2_3 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) _ ⟨_, List.mem_cons_of_mem _ List.mem_cons_self, rfl⟩ _).trans ?_
  exact congrArg₂ (D (xs0) x0 (r_4 (F := Ideal) c i arg3 harg3 x1) x3 x4) (Fin.ext (by show 0 + 1 * e.val = e.val; omega)) (Fin.ext (by show 256 + 1 * t.val = 256 + t.val; omega))

theorem rd512 (t : Fin 256) (e : Fin 128) : (v1130_r0 (F := Ideal) c i arg2 harg2 arg3 harg3 arg5 harg5 arg6 harg6 arg10 harg10 arg12 x0 x1 x3 x4 xs0) (ix2 t e) = (D (xs0) x0 (r_4 (F := Ideal) c i arg3 harg3 x1) x3 x4) e ⟨512 + t.val, by omega⟩ := by
  refine (readCov_piece _ (hs2_4 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) _ ⟨_, List.mem_cons_of_mem _ List.mem_cons_self, rfl⟩ _).trans ?_
  exact congrArg₂ (D (xs0) x0 (r_4 (F := Ideal) c i arg3 harg3 x1) x3 x4) (Fin.ext (by show 0 + 1 * e.val = e.val; omega)) (Fin.ext (by show 512 + 1 * t.val = 512 + t.val; omega))

theorem rd768 (t : Fin 256) (e : Fin 128) : (v1276_r0 (F := Ideal) c i arg2 harg2 arg3 harg3 arg5 harg5 arg6 harg6 arg10 harg10 arg12 x0 x1 x3 x4 xs0) (ix2 t e) = (D (xs0) x0 (r_4 (F := Ideal) c i arg3 harg3 x1) x3 x4) e ⟨768 + t.val, by omega⟩ := by
  refine (readCov_piece _ (hs2_4 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) _ ⟨_, List.mem_cons_self, rfl⟩ _).trans ?_
  exact congrArg₂ (D (xs0) x0 (r_4 (F := Ideal) c i arg3 harg3 x1) x3 x4) (Fin.ext (by show 0 + 1 * e.val = e.val; omega)) (Fin.ext (by show 768 + 1 * t.val = 768 + t.val; omega))

/-- The stores of the features' gradient. -/
theorem out5 : View.PiecesOf (fun y : S1x1024x4096.Idx => ∑ e, (D (xs0) x0 (r_4 (F := Ideal) c i arg3 harg3 x1) x3 x4) e (y 1) * Wof (xs0) e (y 2)) (kernelRun0_B (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).1 := by
  unfold kernelRun0_B
  dsimp only
  simp only [v496_r0, k0_mxu105, r_75, k0_mxu103, r_74, k0_mxu101, k0_mxu100, k0_mxu99, r_65, k0_mxu97, r_64, k0_mxu95, r_63, k0_mxu93, r_62, k0_mxu91, r_60, k0_mxu89, r_59, k0_mxu87, r_58, k0_mxu85, r_57, k0_mxu83, r_56, k0_mxu81, r_54, k0_mxu79, r_53, k0_mxu77, r_52, k0_mxu75, r_51, k0_mxu73, r_50, k0_mxu71, r_49, k0_mxu69, r_47, k0_mxu67, k0_mxu66, k0_mxu65, r_35, k0_mxu63, r_33, k0_mxu61, r_32, k0_mxu59, r_31, k0_mxu57, r_30, k0_mxu55, r_29, k0_mxu53, r_28, k0_mxu51, r_26, k0_mxu49, r_25, k0_mxu47, r_24, k0_mxu45, r_23, k0_mxu43, r_22, k0_mxu41, r_21, k0_mxu39, r_20, k0_mxu37, r_19, k0_mxu35, r_18, k0_mxu33, r_17, k0_mxu31, r_16, k0_mxu29, r_14, k0_mxu27, r_13, k0_mxu25, r_12, k0_mxu23, r_11, k0_mxu21, r_10, k0_mxu19, r_9, k0_mxu17, r_8, k0_mxu15, r_7, k0_mxu13, r_6, k0_mxu11, r_5, k0_mxu9, r_3, k0_mxu7, r_2, k0_mxu5, r_1, k0_mxu3, r, v501_r0, k0_mxu106, v514_r0, k0_mxu111, r_78, k0_mxu109, r_77, k0_mxu107, v519_r0, k0_mxu112, r_81, v532_r0, k0_mxu117, r_80, k0_mxu115, r_79, k0_mxu113, v537_r0, k0_mxu118, v550_r0, k0_mxu123, r_83, k0_mxu121, r_82, k0_mxu119, v555_r0, k0_mxu124, v568_r0, k0_mxu129, r_86, k0_mxu127, r_85, k0_mxu125, v573_r0, k0_mxu130, r_89, v586_r0, k0_mxu135, r_88, k0_mxu133, r_87, k0_mxu131, v591_r0, k0_mxu136, v604_r0, k0_mxu141, r_91, k0_mxu139, r_90, k0_mxu137, v609_r0, k0_mxu142, v622_r0, k0_mxu147, r_94, k0_mxu145, r_93, k0_mxu143, v627_r0, k0_mxu148, v848_r0, k0_mxu187, r_123, k0_mxu185, r_122, k0_mxu183, k0_mxu182, k0_mxu181, r_110, k0_mxu179, r_109, k0_mxu177, r_108, k0_mxu175, r_107, k0_mxu173, r_106, k0_mxu171, r_105, k0_mxu169, r_104, k0_mxu167, r_103, k0_mxu165, r_102, k0_mxu163, r_101, k0_mxu161, r_100, k0_mxu159, r_99, k0_mxu157, r_98, k0_mxu155, r_97, k0_mxu153, r_96, k0_mxu151, r_95, k0_mxu149, v853_r0, k0_mxu188, v866_r0, k0_mxu193, r_125, k0_mxu191, r_124, k0_mxu189, v871_r0, k0_mxu194, v884_r0, k0_mxu199, r_127, k0_mxu197, r_126, k0_mxu195, v889_r0, k0_mxu200, v902_r0, k0_mxu205, r_129, k0_mxu203, r_128, k0_mxu201, v907_r0, k0_mxu206, v920_r0, k0_mxu211, r_131, k0_mxu209, r_130, k0_mxu207, v925_r0, k0_mxu212, v938_r0, k0_mxu217, r_133, k0_mxu215, r_132, k0_mxu213, v943_r0, k0_mxu218, v956_r0, k0_mxu223, r_135, k0_mxu221, r_134, k0_mxu219, v961_r0, k0_mxu224, v974_r0, k0_mxu229, r_137, k0_mxu227, r_136, k0_mxu225, v979_r0, k0_mxu230, v1136_r0, k0_mxu237, r_148, k0_mxu235, r_147, k0_mxu233, k0_mxu232, k0_mxu231, v1141_r0, k0_mxu238, v1154_r0, k0_mxu243, r_150, k0_mxu241, r_149, k0_mxu239, v1159_r0, k0_mxu244, v1172_r0, k0_mxu249, r_152, k0_mxu247, r_151, k0_mxu245, r_153, v1177_r0, k0_mxu250, v1190_r0, k0_mxu255, r_155, k0_mxu253, r_154, k0_mxu251, v1195_r0, k0_mxu256, v1208_r0, k0_mxu261, r_157, k0_mxu259, r_156, k0_mxu257, v1213_r0, k0_mxu262, v1226_r0, k0_mxu267, r_159, k0_mxu265, r_158, k0_mxu263, r_160, v1231_r0, k0_mxu268, v1244_r0, k0_mxu273, r_162, k0_mxu271, r_161, k0_mxu269, v1249_r0, k0_mxu274, v1262_r0, k0_mxu279, r_164, k0_mxu277, r_163, k0_mxu275, v1267_r0, k0_mxu280, v1282_r0, k0_mxu285, r_166, k0_mxu283, r_165, k0_mxu281, v1287_r0, k0_mxu286, v1300_r0, k0_mxu291, r_168, k0_mxu289, r_167, k0_mxu287, v1305_r0, k0_mxu292, v1318_r0, k0_mxu297, r_170, k0_mxu295, r_169, k0_mxu293, v1323_r0, k0_mxu298, v1336_r0, k0_mxu303, r_172, k0_mxu301, r_171, k0_mxu299, v1341_r0, k0_mxu304, v1354_r0, k0_mxu309, r_174, k0_mxu307, r_173, k0_mxu305, v1359_r0, k0_mxu310, v1372_r0, k0_mxu315, r_176, k0_mxu313, r_175, k0_mxu311, v1377_r0, k0_mxu316, v1390_r0, k0_mxu321, r_178, k0_mxu319, r_177, k0_mxu317, v1395_r0, k0_mxu322, v1408_r0, k0_mxu327, r_180, k0_mxu325, r_179, k0_mxu323, v1413_r0, k0_mxu328]
  simp (maxDischargeDepth := 1000) only [read_pass, read_pass_unit, read_pass_lo, read_pass_hi, read_pop, read_pop_unit, read_pop_lo, read_pop_hi, read_init, empty_init, empty_pop, empty_pass, Fin.isValue, Nat.reduceMul, Nat.reduceAdd, Nat.reduceLeDiff, ne_eq, zero_ne_one, one_ne_zero, not_false_eq_true, Fin.reduceEq]
  iterate 16
    refine ⟨fun x => ?_, ?_⟩
    · exact tile5 (o := 768) (R10 := (fun r => View.readAt (Elt Ideal) arg10.view r.toLoadRect (harg10.unread xs0))) (by decide) (by decide) (by decide) (by decide) (readAt_unread _ harg10 xs0) _ (rd768 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) x
  iterate 16
    refine ⟨fun x => ?_, ?_⟩
    · exact tile5 (o := 512) (R10 := (fun r => View.readAt (Elt Ideal) arg10.view r.toLoadRect (harg10.unread xs0))) (by decide) (by decide) (by decide) (by decide) (readAt_unread _ harg10 xs0) _ (rd512 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) x
  iterate 16
    refine ⟨fun x => ?_, ?_⟩
    · exact tile5 (o := 256) (R10 := (fun r => View.readAt (Elt Ideal) arg10.view r.toLoadRect (harg10.unread xs0))) (by decide) (by decide) (by decide) (by decide) (readAt_unread _ harg10 xs0) _ (rd256 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) x
  iterate 16
    refine ⟨fun x => ?_, ?_⟩
    · exact tile5 (o := 0) (R10 := (fun r => View.readAt (Elt Ideal) arg10.view r.toLoadRect (harg10.unread xs0))) (by decide) (by decide) (by decide) (by decide) (readAt_unread _ harg10 xs0) _ (rd0 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) x
  exact trivial

theorem h13 (o : ℕ) (ho : o + 256 ≤ 1024) (h : o = 0 ∨ o = 256 ∨ o = 512 ∨ o = 768) (e : Fin 128) (t : Fin 256) :
    (fun r : Rect S128x1024 => arg13.view.readCov (HS3_4 (F := Ideal) c i arg2 harg2 arg3 harg3 arg5 harg5 arg6 harg6 arg10 harg10 arg12 x0 x1 x3 x4 xs0) r.toLoadRect) (Rect.unit (s := S128x1024) ![0, o] S128x256.size (hin o ho)) (ix2 e t) = (D (xs0) x0 (r_4 (F := Ideal) c i arg3 harg3 x1) x3 x4) e ⟨o + t.val, by omega⟩ * Wof (r_4 (F := Ideal) c i arg3 harg3 x1) (0 : Fin 1) ⟨o + t.val, by omega⟩ := by
  have hm : ∃ p ∈ (HS3_4 (F := Ideal) c i arg2 harg2 arg3 harg3 arg5 harg5 arg6 harg6 arg10 harg10 arg12 x0 x1 x3 x4 xs0), p.1 = Rect.unit (s := S128x1024) ![0, o] S128x256.size (hin o ho) := by
    rcases h with rfl | rfl | rfl | rfl
    · exact ⟨_, List.mem_cons_of_mem _ (List.mem_cons_of_mem _ (List.mem_cons_of_mem _ List.mem_cons_self)), rfl⟩
    · exact ⟨_, List.mem_cons_of_mem _ (List.mem_cons_of_mem _ List.mem_cons_self), rfl⟩
    · exact ⟨_, List.mem_cons_of_mem _ List.mem_cons_self, rfl⟩
    · exact ⟨_, List.mem_cons_self, rfl⟩
  refine (readCov_piece _ (hs3 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) _ hm _).trans ?_
  have h0 : (Rect.unit (s := S128x1024) ![0, o] S128x256.size (hin o ho)).emb (ix2 e t) = ix2 e (⟨o + t.val, by omega⟩ : Fin 1024) :=
    (emb2 (hin o ho) e t).trans (congrArg (fun i => ix2 i _) (Fin.ext (Nat.zero_add _)))
  rw [h0]

/-- The stores of the weights' gradient. -/
theorem acc1 : View.PiecesOf (addW xs1 (fun e t => (D (xs0) x0 (r_4 (F := Ideal) c i arg3 harg3 x1) x3 x4) e t * Wof (r_4 (F := Ideal) c i arg3 harg3 x1) (0 : Fin 1) t) x0) (kernelRun0_B (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.2.2.1 := by
  unfold kernelRun0_B
  dsimp only
  simp only [v1451_r0, k0_mxu345, r_189, k0_mxu343, r_188, k0_mxu341, r_186, k0_mxu339, r_185, k0_mxu337, r_184, k0_mxu335, r_183, k0_mxu333, r_182, k0_mxu331, r_181, k0_mxu329, k0_mxu328, k0_mxu327, r_180, k0_mxu325, r_179, k0_mxu323, k0_mxu322, k0_mxu321, r_178, k0_mxu319, r_177, k0_mxu317, k0_mxu316, k0_mxu315, r_176, k0_mxu313, r_175, k0_mxu311, k0_mxu310, k0_mxu309, r_174, k0_mxu307, r_173, k0_mxu305, k0_mxu304, k0_mxu303, r_172, k0_mxu301, r_171, k0_mxu299, k0_mxu298, k0_mxu297, r_170, k0_mxu295, r_169, k0_mxu293, k0_mxu292, k0_mxu291, r_168, k0_mxu289, r_167, k0_mxu287, k0_mxu286, k0_mxu285, r_166, k0_mxu283, r_165, k0_mxu281, k0_mxu280, k0_mxu279, r_164, k0_mxu277, r_163, k0_mxu275, k0_mxu274, k0_mxu273, r_162, k0_mxu271, r_161, k0_mxu269, k0_mxu268, k0_mxu267, r_159, k0_mxu265, r_158, k0_mxu263, k0_mxu262, k0_mxu261, r_157, k0_mxu259, r_156, k0_mxu257, k0_mxu256, k0_mxu255, r_155, k0_mxu253, r_154, k0_mxu251, k0_mxu250, k0_mxu249, r_152, k0_mxu247, r_151, k0_mxu245, k0_mxu244, k0_mxu243, r_150, k0_mxu241, r_149, k0_mxu239, k0_mxu238, k0_mxu237, r_148, k0_mxu235, r_147, k0_mxu233, k0_mxu232, k0_mxu231, k0_mxu230, k0_mxu229, r_137, k0_mxu227, r_136, k0_mxu225, k0_mxu224, k0_mxu223, r_135, k0_mxu221, r_134, k0_mxu219, k0_mxu218, k0_mxu217, r_133, k0_mxu215, r_132, k0_mxu213, k0_mxu212, k0_mxu211, r_131, k0_mxu209, r_130, k0_mxu207, k0_mxu206, k0_mxu205, r_129, k0_mxu203, r_128, k0_mxu201, k0_mxu200, k0_mxu199, r_127, k0_mxu197, r_126, k0_mxu195, k0_mxu194, k0_mxu193, r_125, k0_mxu191, r_124, k0_mxu189, k0_mxu188, k0_mxu187, r_123, k0_mxu185, r_122, k0_mxu183, k0_mxu182, k0_mxu181, r_110, k0_mxu179, r_109, k0_mxu177, r_108, k0_mxu175, r_107, k0_mxu173, r_106, k0_mxu171, r_105, k0_mxu169, r_104, k0_mxu167, r_103, k0_mxu165, r_102, k0_mxu163, r_101, k0_mxu161, r_100, k0_mxu159, r_99, k0_mxu157, r_98, k0_mxu155, r_97, k0_mxu153, r_96, k0_mxu151, r_95, k0_mxu149, k0_mxu148, k0_mxu147, r_94, k0_mxu145, r_93, k0_mxu143, k0_mxu142, k0_mxu141, r_91, k0_mxu139, r_90, k0_mxu137, k0_mxu136, k0_mxu135, r_88, k0_mxu133, r_87, k0_mxu131, k0_mxu130, k0_mxu129, r_86, k0_mxu127, r_85, k0_mxu125, k0_mxu124, k0_mxu123, r_83, k0_mxu121, r_82, k0_mxu119, k0_mxu118, k0_mxu117, r_80, k0_mxu115, r_79, k0_mxu113, k0_mxu112, k0_mxu111, r_78, k0_mxu109, r_77, k0_mxu107, k0_mxu106, k0_mxu105, r_75, k0_mxu103, r_74, k0_mxu101, k0_mxu100, k0_mxu99, r_65, k0_mxu97, r_64, k0_mxu95, r_63, k0_mxu93, r_62, k0_mxu91, r_60, k0_mxu89, r_59, k0_mxu87, r_58, k0_mxu85, r_57, k0_mxu83, r_56, k0_mxu81, r_54, k0_mxu79, r_53, k0_mxu77, r_52, k0_mxu75, r_51, k0_mxu73, r_50, k0_mxu71, r_49, k0_mxu69, r_47, k0_mxu67, k0_mxu66, k0_mxu65, r_35, k0_mxu63, r_33, k0_mxu61, r_32, k0_mxu59, r_31, k0_mxu57, r_30, k0_mxu55, r_29, k0_mxu53, r_28, k0_mxu51, r_26, k0_mxu49, r_25, k0_mxu47, r_24, k0_mxu45, r_23, k0_mxu43, r_22, k0_mxu41, r_21, k0_mxu39, r_20, k0_mxu37, r_19, k0_mxu35, r_18, k0_mxu33, r_17, k0_mxu31, r_16, k0_mxu29, r_14, k0_mxu27, r_13, k0_mxu25, r_12, k0_mxu23, r_11, k0_mxu21, r_10, k0_mxu19, r_9, k0_mxu17, r_8, k0_mxu15, r_7, k0_mxu13, r_6, k0_mxu11, r_5, k0_mxu9, r_3, k0_mxu7, r_2, k0_mxu5, r_1, k0_mxu3, r, v1457_r0, k0_mxu346, v1495_r0, k0_mxu363, r_197, k0_mxu361, r_196, k0_mxu359, r_195, k0_mxu357, r_194, k0_mxu355, r_193, k0_mxu353, r_192, k0_mxu351, r_191, k0_mxu349, r_190, k0_mxu347, v1501_r0, k0_mxu364, v1539_r0, k0_mxu381, r_206, k0_mxu379, r_205, k0_mxu377, r_204, k0_mxu375, r_203, k0_mxu373, r_202, k0_mxu371, r_201, k0_mxu369, r_199, k0_mxu367, r_198, k0_mxu365, v1545_r0, k0_mxu382, r_215, v1583_r0, k0_mxu399, r_214, k0_mxu397, r_213, k0_mxu395, r_212, k0_mxu393, r_211, k0_mxu391, r_210, k0_mxu389, r_209, k0_mxu387, r_208, k0_mxu385, r_207, k0_mxu383, v1589_r0, k0_mxu400, v1627_r0, k0_mxu417, r_223, k0_mxu415, r_222, k0_mxu413, r_221, k0_mxu411, r_220, k0_mxu409, r_219, k0_mxu407, r_218, k0_mxu405, r_217, k0_mxu403, r_216, k0_mxu401, v1633_r0, k0_mxu418, v1671_r0, k0_mxu435, r_231, k0_mxu433, r_230, k0_mxu431, r_229, k0_mxu429, r_228, k0_mxu427, r_227, k0_mxu425, r_226, k0_mxu423, r_225, k0_mxu421, r_224, k0_mxu419, v1677_r0, k0_mxu436, v1715_r0, k0_mxu453, r_240, k0_mxu451, r_239, k0_mxu449, r_238, k0_mxu447, r_236, k0_mxu445, r_235, k0_mxu443, r_234, k0_mxu441, r_233, k0_mxu439, r_232, k0_mxu437, v1721_r0, k0_mxu454, r_248, r_247, k0_mxu467, r_246, k0_mxu465, r_245, k0_mxu463, r_244, k0_mxu461, r_243, k0_mxu459, r_242, k0_mxu457, r_241, k0_mxu455]
  simp (maxDischargeDepth := 1000) only [read_pass, read_pass_unit, read_pass_lo, read_pass_hi, read_pop, read_pop_unit, read_pop_lo, read_pop_hi, read_init, empty_init, empty_pop, empty_pass, Fin.isValue, Nat.reduceMul, Nat.reduceAdd, Nat.reduceLeDiff, ne_eq, zero_ne_one, one_ne_zero, not_false_eq_true, Fin.reduceEq]
  iterate 16 refine ⟨fun x => tile1 (R2 := (fun r => View.readAt (Elt Ideal) arg2.view r.toLoadRect (harg2.unread x0))) (R13 := (fun r : Rect S128x1024 => arg13.view.readCov (HS3_4 (F := Ideal) c i arg2 harg2 arg3 harg3 arg5 harg5 arg6 harg6 arg10 harg10 arg12 x0 x1 x3 x4 xs0) r.toLoadRect)) (H := (fun e t => (D (xs0) x0 (r_4 (F := Ideal) c i arg3 harg3 x1) x3 x4) e t * Wof (r_4 (F := Ideal) c i arg3 harg3 x1) (0 : Fin 1) t)) (readAt_unread _ harg2 x0) (h13 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) (by decide) (by decide) _ (fun j => readAt_unread _ harg11 xs1 (Rect.unit (s := S128x4096) ![0, _] S128x256.size (by decide)) j) x, ?_⟩
  exact trivial

end Cert.Val.CaseB
-- ==== Proof.Val.CaseC.lean ====
/- What one point's run leaves in its buffers, as functions of the point's coordinates: case C. -/

module

public import proofs.«01_k».proof.Proof.Val.Tiles
public import proofs.«01_k».proof.Proof.RunKernelIdeal.RunC

@[expose] public section

set_option maxRecDepth 16384
set_option maxHeartbeats 4000000

noncomputable section

namespace Cert.Val.CaseC

open Idealize.ShloMosaic Idealize.ShloMosaic.ValueIdx Cert.Val Cert.KernelIdeal Cert.KernelIdeal.Gen Cert.KernelIdeal.Gen.kernelRun0_C.sl

variable (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : cond0_1 i) (x0 : Vec Ideal S1x1024x4096 .fp8e4m3) (x1 : Vec Ideal S4x1024 .f32) (x2 : Vec Ideal S4096x128 .bf16) (x3 : Vec Ideal S1x8x1024 .i32) (x4 : Vec Ideal S1x8x1024 .bf16) (xs0 : Vec Ideal S128x4096 .bf16) (xs1 : Vec Ideal S128x4096 .f32)
include c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1

/-- The logits of the tokens from 0 on. -/
theorem lg0 : (r_37 (F := Ideal) c i arg2 harg2 arg3 harg3 arg10 harg10 x0 x1 xs0) = logitV (fun r => View.readAt (Elt Ideal) arg2.view r.toLoadRect (harg2.unread x0)) (fun r => View.readAt (Elt Ideal) arg10.view r.toLoadRect (harg10.unread xs0)) 0 (by decide) (r_4 (F := Ideal) c i arg3 harg3 x1) := by
  simp only [r_37, v139_r0, k0_mxu66, k0_mxu65, r_35, k0_mxu63, r_33, k0_mxu61, r_32, k0_mxu59, r_31, k0_mxu57, r_30, k0_mxu55, r_29, k0_mxu53, r_28, k0_mxu51, r_26, k0_mxu49, r_25, k0_mxu47, r_24, k0_mxu45, r_23, k0_mxu43, r_22, k0_mxu41, r_21, k0_mxu39, r_20, k0_mxu37, r_19, k0_mxu35, r_18, k0_mxu33, r_17, k0_mxu31, r_16, k0_mxu29, r_14, k0_mxu27, r_13, k0_mxu25, r_12, k0_mxu23, r_11, k0_mxu21, r_10, k0_mxu19, r_9, k0_mxu17, r_8, k0_mxu15, r_7, k0_mxu13, r_6, k0_mxu11, r_5, k0_mxu9, r_3, k0_mxu7, r_2, k0_mxu5, r_1, k0_mxu3, r, v138_r0]
  simp (maxDischargeDepth := 1000) only [read_pass, read_pass_unit, read_pass_lo, read_pass_hi, read_pop, read_pop_unit, read_pop_lo, read_pop_hi, read_init, empty_init, empty_pop, empty_pass, Fin.isValue, Nat.reduceMul, Nat.reduceAdd, Nat.reduceLeDiff, ne_eq, zero_ne_one, one_ne_zero, not_false_eq_true, Fin.reduceEq]
  rfl

/-- The logits of the tokens from 256 on. -/
theorem lg256 : (r_67 (F := Ideal) c i arg2 harg2 arg3 harg3 arg10 harg10 x0 x1 xs0) = logitV (fun r => View.readAt (Elt Ideal) arg2.view r.toLoadRect (harg2.unread x0)) (fun r => View.readAt (Elt Ideal) arg10.view r.toLoadRect (harg10.unread xs0)) 256 (by decide) (r_4 (F := Ideal) c i arg3 harg3 x1) := by
  simp only [r_67, v345_r0, k0_mxu100, k0_mxu99, r_65, k0_mxu97, r_64, k0_mxu95, r_63, k0_mxu93, r_62, k0_mxu91, r_60, k0_mxu89, r_59, k0_mxu87, r_58, k0_mxu85, r_57, k0_mxu83, r_56, k0_mxu81, r_54, k0_mxu79, r_53, k0_mxu77, r_52, k0_mxu75, r_51, k0_mxu73, r_50, k0_mxu71, r_49, k0_mxu69, r_47, k0_mxu67, k0_mxu66, k0_mxu65, r_35, k0_mxu63, r_33, k0_mxu61, r_32, k0_mxu59, r_31, k0_mxu57, r_30, k0_mxu55, r_29, k0_mxu53, r_28, k0_mxu51, r_26, k0_mxu49, r_25, k0_mxu47, r_24, k0_mxu45, r_23, k0_mxu43, r_22, k0_mxu41, r_21, k0_mxu39, r_20, k0_mxu37, r_19, k0_mxu35, r_18, k0_mxu33, r_17, k0_mxu31, r_16, k0_mxu29, r_14, k0_mxu27, r_13, k0_mxu25, r_12, k0_mxu23, r_11, k0_mxu21, r_10, k0_mxu19, r_9, k0_mxu17, r_8, k0_mxu15, r_7, k0_mxu13, r_6, k0_mxu11, r_5, k0_mxu9, r_3, k0_mxu7, r_2, k0_mxu5, r_1, k0_mxu3, r, v344_r0]
  simp (maxDischargeDepth := 1000) only [read_pass, read_pass_unit, read_pass_lo, read_pass_hi, read_pop, read_pop_unit, read_pop_lo, read_pop_hi, read_init, empty_init, empty_pop, empty_pass, Fin.isValue, Nat.reduceMul, Nat.reduceAdd, Nat.reduceLeDiff, ne_eq, zero_ne_one, one_ne_zero, not_false_eq_true, Fin.reduceEq]
  rfl

/-- The logits of the tokens from 512 on. -/
theorem lg512 : (r_112 (F := Ideal) c i arg2 harg2 arg3 harg3 arg5 harg5 arg6 harg6 arg10 harg10 arg12 x0 x1 x3 x4 xs0) = logitV (fun r => View.readAt (Elt Ideal) arg2.view r.toLoadRect (harg2.unread x0)) (fun r => View.readAt (Elt Ideal) arg10.view r.toLoadRect (harg10.unread xs0)) 512 (by decide) (r_4 (F := Ideal) c i arg3 harg3 x1) := by
  simp only [r_112, v697_r0, k0_mxu182, k0_mxu181, r_110, k0_mxu179, r_109, k0_mxu177, r_108, k0_mxu175, r_107, k0_mxu173, r_106, k0_mxu171, r_105, k0_mxu169, r_104, k0_mxu167, r_103, k0_mxu165, r_102, k0_mxu163, r_101, k0_mxu161, r_100, k0_mxu159, r_99, k0_mxu157, r_98, k0_mxu155, r_97, k0_mxu153, r_96, k0_mxu151, r_95, k0_mxu149, k0_mxu148, k0_mxu147, r_94, k0_mxu145, r_93, k0_mxu143, k0_mxu142, k0_mxu141, r_91, k0_mxu139, r_90, k0_mxu137, k0_mxu136, k0_mxu135, r_88, k0_mxu133, r_87, k0_mxu131, k0_mxu130, k0_mxu129, r_86, k0_mxu127, r_85, k0_mxu125, k0_mxu124, k0_mxu123, r_83, k0_mxu121, r_82, k0_mxu119, k0_mxu118, k0_mxu117, r_80, k0_mxu115, r_79, k0_mxu113, k0_mxu112, k0_mxu111, r_78, k0_mxu109, r_77, k0_mxu107, k0_mxu106, k0_mxu105, r_75, k0_mxu103, r_74, k0_mxu101, k0_mxu100, k0_mxu99, r_65, k0_mxu97, r_64, k0_mxu95, r_63, k0_mxu93, r_62, k0_mxu91, r_60, k0_mxu89, r_59, k0_mxu87, r_58, k0_mxu85, r_57, k0_mxu83, r_56, k0_mxu81, r_54, k0_mxu79, r_53, k0_mxu77, r_52, k0_mxu75, r_51, k0_mxu73, r_50, k0_mxu71, r_49, k0_mxu69, r_47, k0_mxu67, k0_mxu66, k0_mxu65, r_35, k0_mxu63, r_33, k0_mxu61, r_32, k0_mxu59, r_31, k0_mxu57, r_30, k0_mxu55, r_29, k0_mxu53, r_28, k0_mxu51, r_26, k0_mxu49, r_25, k0_mxu47, r_24, k0_mxu45, r_23, k0_mxu43, r_22, k0_mxu41, r_21, k0_mxu39, r_20, k0_mxu37, r_19, k0_mxu35, r_18, k0_mxu33, r_17, k0_mxu31, r_16, k0_mxu29, r_14, k0_mxu27, r_13, k0_mxu25, r_12, k0_mxu23, r_11, k0_mxu21, r_10, k0_mxu19, r_9, k0_mxu17, r_8, k0_mxu15, r_7, k0_mxu13, r_6, k0_mxu11, r_5, k0_mxu9, r_3, k0_mxu7, r_2, k0_mxu5, r_1, k0_mxu3, r, v696_r0]
  simp (maxDischargeDepth := 1000) only [read_pass, read_pass_unit, read_pass_lo, read_pass_hi, read_pop, read_pop_unit, read_pop_lo, read_pop_hi, read_init, empty_init, empty_pop, empty_pass, Fin.isValue, Nat.reduceMul, Nat.reduceAdd, Nat.reduceLeDiff, ne_eq, zero_ne_one, one_ne_zero, not_false_eq_true, Fin.reduceEq]
  rfl

/-- The logits of the tokens from 768 on. -/
theorem lg768 : (r_139 (F := Ideal) c i arg2 harg2 arg3 harg3 arg5 harg5 arg6 harg6 arg10 harg10 arg12 x0 x1 x3 x4 xs0) = logitV (fun r => View.readAt (Elt Ideal) arg2.view r.toLoadRect (harg2.unread x0)) (fun r => View.readAt (Elt Ideal) arg10.view r.toLoadRect (harg10.unread xs0)) 768 (by decide) (r_4 (F := Ideal) c i arg3 harg3 x1) := by
  simp only [r_139, v985_r0, k0_mxu232, k0_mxu231, k0_mxu230, k0_mxu229, r_137, k0_mxu227, r_136, k0_mxu225, k0_mxu224, k0_mxu223, r_135, k0_mxu221, r_134, k0_mxu219, k0_mxu218, k0_mxu217, r_133, k0_mxu215, r_132, k0_mxu213, k0_mxu212, k0_mxu211, r_131, k0_mxu209, r_130, k0_mxu207, k0_mxu206, k0_mxu205, r_129, k0_mxu203, r_128, k0_mxu201, k0_mxu200, k0_mxu199, r_127, k0_mxu197, r_126, k0_mxu195, k0_mxu194, k0_mxu193, r_125, k0_mxu191, r_124, k0_mxu189, k0_mxu188, k0_mxu187, r_123, k0_mxu185, r_122, k0_mxu183, k0_mxu182, k0_mxu181, r_110, k0_mxu179, r_109, k0_mxu177, r_108, k0_mxu175, r_107, k0_mxu173, r_106, k0_mxu171, r_105, k0_mxu169, r_104, k0_mxu167, r_103, k0_mxu165, r_102, k0_mxu163, r_101, k0_mxu161, r_100, k0_mxu159, r_99, k0_mxu157, r_98, k0_mxu155, r_97, k0_mxu153, r_96, k0_mxu151, r_95, k0_mxu149, k0_mxu148, k0_mxu147, r_94, k0_mxu145, r_93, k0_mxu143, k0_mxu142, k0_mxu141, r_91, k0_mxu139, r_90, k0_mxu137, k0_mxu136, k0_mxu135, r_88, k0_mxu133, r_87, k0_mxu131, k0_mxu130, k0_mxu129, r_86, k0_mxu127, r_85, k0_mxu125, k0_mxu124, k0_mxu123, r_83, k0_mxu121, r_82, k0_mxu119, k0_mxu118, k0_mxu117, r_80, k0_mxu115, r_79, k0_mxu113, k0_mxu112, k0_mxu111, r_78, k0_mxu109, r_77, k0_mxu107, k0_mxu106, k0_mxu105, r_75, k0_mxu103, r_74, k0_mxu101, k0_mxu100, k0_mxu99, r_65, k0_mxu97, r_64, k0_mxu95, r_63, k0_mxu93, r_62, k0_mxu91, r_60, k0_mxu89, r_59, k0_mxu87, r_58, k0_mxu85, r_57, k0_mxu83, r_56, k0_mxu81, r_54, k0_mxu79, r_53, k0_mxu77, r_52, k0_mxu75, r_51, k0_mxu73, r_50, k0_mxu71, r_49, k0_mxu69, r_47, k0_mxu67, k0_mxu66, k0_mxu65, r_35, k0_mxu63, r_33, k0_mxu61, r_32, k0_mxu59, r_31, k0_mxu57, r_30, k0_mxu55, r_29, k0_mxu53, r_28, k0_mxu51, r_26, k0_mxu49, r_25, k0_mxu47, r_24, k0_mxu45, r_23, k0_mxu43, r_22, k0_mxu41, r_21, k0_mxu39, r_20, k0_mxu37, r_19, k0_mxu35, r_18, k0_mxu33, r_17, k0_mxu31, r_16, k0_mxu29, r_14, k0_mxu27, r_13, k0_mxu25, r_12, k0_mxu23, r_11, k0_mxu21, r_10, k0_mxu19, r_9, k0_mxu17, r_8, k0_mxu15, r_7, k0_mxu13, r_6, k0_mxu11, r_5, k0_mxu9, r_3, k0_mxu7, r_2, k0_mxu5, r_1, k0_mxu3, r, v984_r0]
  simp (maxDischargeDepth := 1000) only [read_pass, read_pass_unit, read_pass_lo, read_pass_hi, read_pop, read_pop_unit, read_pop_lo, read_pop_hi, read_init, empty_init, empty_pop, empty_pass, Fin.isValue, Nat.reduceMul, Nat.reduceAdd, Nat.reduceLeDiff, ne_eq, zero_ne_one, one_ne_zero, not_false_eq_true, Fin.reduceEq]
  rfl

/-- The stores of the gradient of the logits. -/
theorem out7 : View.PiecesOf (fun y : S1x1024x128.Idx => (D (xs0) x0 (r_4 (F := Ideal) c i arg3 harg3 x1) x3 x4) (y 2) (y 1)) (kernelRun0_C (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.1 := by
  unfold kernelRun0_C
  dsimp only
  refine ⟨?_, ?_, ?_, ?_, trivial⟩
  · exact fun x => tile7L (R2 := (fun r => View.readAt (Elt Ideal) arg2.view r.toLoadRect (harg2.unread x0))) (R10 := (fun r => View.readAt (Elt Ideal) arg10.view r.toLoadRect (harg10.unread xs0))) (R3 := (fun r => View.readAt (Elt Ideal) arg5.view r.toLoadRect (harg5.unread x3))) (R4 := (fun r => View.readAt (Elt Ideal) arg6.view r.toLoadRect (harg6.unread x4))) (o := 768) (lg768 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) (readAt_unread _ harg2 x0) (readAt_unread _ harg10 xs0) (readAt_unread _ harg5 x3) (readAt_unread _ harg6 x4) (by decide) (by decide) x
  · exact fun x => tile7L (R2 := (fun r => View.readAt (Elt Ideal) arg2.view r.toLoadRect (harg2.unread x0))) (R10 := (fun r => View.readAt (Elt Ideal) arg10.view r.toLoadRect (harg10.unread xs0))) (R3 := (fun r => View.readAt (Elt Ideal) arg5.view r.toLoadRect (harg5.unread x3))) (R4 := (fun r => View.readAt (Elt Ideal) arg6.view r.toLoadRect (harg6.unread x4))) (o := 512) (lg512 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) (readAt_unread _ harg2 x0) (readAt_unread _ harg10 xs0) (readAt_unread _ harg5 x3) (readAt_unread _ harg6 x4) (by decide) (by decide) x
  · exact fun x => tile7L (R2 := (fun r => View.readAt (Elt Ideal) arg2.view r.toLoadRect (harg2.unread x0))) (R10 := (fun r => View.readAt (Elt Ideal) arg10.view r.toLoadRect (harg10.unread xs0))) (R3 := (fun r => View.readAt (Elt Ideal) arg5.view r.toLoadRect (harg5.unread x3))) (R4 := (fun r => View.readAt (Elt Ideal) arg6.view r.toLoadRect (harg6.unread x4))) (o := 256) (lg256 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) (readAt_unread _ harg2 x0) (readAt_unread _ harg10 xs0) (readAt_unread _ harg5 x3) (readAt_unread _ harg6 x4) (by decide) (by decide) x
  · exact fun x => tile7L (R2 := (fun r => View.readAt (Elt Ideal) arg2.view r.toLoadRect (harg2.unread x0))) (R10 := (fun r => View.readAt (Elt Ideal) arg10.view r.toLoadRect (harg10.unread xs0))) (R3 := (fun r => View.readAt (Elt Ideal) arg5.view r.toLoadRect (harg5.unread x3))) (R4 := (fun r => View.readAt (Elt Ideal) arg6.view r.toLoadRect (harg6.unread x4))) (o := 0) (lg0 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) (readAt_unread _ harg2 x0) (readAt_unread _ harg10 xs0) (readAt_unread _ harg5 x3) (readAt_unread _ harg6 x4) (by decide) (by decide) x

/-- The gradient kept for the features' product. -/
theorem hs2_2 : View.PiecesOf (fun y : S1024x128.Idx => (D (xs0) x0 (r_4 (F := Ideal) c i arg3 harg3 x1) x3 x4) (y 1) (y 0)) (HS2_2 (F := Ideal) c i arg2 harg2 arg3 harg3 arg5 harg5 arg6 harg6 arg10 harg10 x0 x1 x3 x4 xs0) := by
  unfold HS2_2
  refine ⟨?_, ?_, trivial⟩
  · exact fun x => tileH2L (R2 := (fun r => View.readAt (Elt Ideal) arg2.view r.toLoadRect (harg2.unread x0))) (R10 := (fun r => View.readAt (Elt Ideal) arg10.view r.toLoadRect (harg10.unread xs0))) (R3 := (fun r => View.readAt (Elt Ideal) arg5.view r.toLoadRect (harg5.unread x3))) (R4 := (fun r => View.readAt (Elt Ideal) arg6.view r.toLoadRect (harg6.unread x4))) (o := 256) (lg256 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) (readAt_unread _ harg2 x0) (readAt_unread _ harg10 xs0) (readAt_unread _ harg5 x3) (readAt_unread _ harg6 x4) (by decide) (by decide) x
  · exact fun x => tileH2L (R2 := (fun r => View.readAt (Elt Ideal) arg2.view r.toLoadRect (harg2.unread x0))) (R10 := (fun r => View.readAt (Elt Ideal) arg10.view r.toLoadRect (harg10.unread xs0))) (R3 := (fun r => View.readAt (Elt Ideal) arg5.view r.toLoadRect (harg5.unread x3))) (R4 := (fun r => View.readAt (Elt Ideal) arg6.view r.toLoadRect (harg6.unread x4))) (o := 0) (lg0 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) (readAt_unread _ harg2 x0) (readAt_unread _ harg10 xs0) (readAt_unread _ harg5 x3) (readAt_unread _ harg6 x4) (by decide) (by decide) x

theorem hs2_3 : View.PiecesOf (fun y : S1024x128.Idx => (D (xs0) x0 (r_4 (F := Ideal) c i arg3 harg3 x1) x3 x4) (y 1) (y 0)) (HS2_3 (F := Ideal) c i arg2 harg2 arg3 harg3 arg5 harg5 arg6 harg6 arg10 harg10 arg12 x0 x1 x3 x4 xs0) := by
  unfold HS2_3
  refine ⟨?_, hs2_2 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1⟩
  · exact fun x => tileH2L (R2 := (fun r => View.readAt (Elt Ideal) arg2.view r.toLoadRect (harg2.unread x0))) (R10 := (fun r => View.readAt (Elt Ideal) arg10.view r.toLoadRect (harg10.unread xs0))) (R3 := (fun r => View.readAt (Elt Ideal) arg5.view r.toLoadRect (harg5.unread x3))) (R4 := (fun r => View.readAt (Elt Ideal) arg6.view r.toLoadRect (harg6.unread x4))) (o := 512) (lg512 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) (readAt_unread _ harg2 x0) (readAt_unread _ harg10 xs0) (readAt_unread _ harg5 x3) (readAt_unread _ harg6 x4) (by decide) (by decide) x

theorem hs2_4 : View.PiecesOf (fun y : S1024x128.Idx => (D (xs0) x0 (r_4 (F := Ideal) c i arg3 harg3 x1) x3 x4) (y 1) (y 0)) (HS2_4 (F := Ideal) c i arg2 harg2 arg3 harg3 arg5 harg5 arg6 harg6 arg10 harg10 arg12 x0 x1 x3 x4 xs0) := by
  unfold HS2_4
  refine ⟨?_, hs2_3 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1⟩
  · exact fun x => tileH2L (R2 := (fun r => View.readAt (Elt Ideal) arg2.view r.toLoadRect (harg2.unread x0))) (R10 := (fun r => View.readAt (Elt Ideal) arg10.view r.toLoadRect (harg10.unread xs0))) (R3 := (fun r => View.readAt (Elt Ideal) arg5.view r.toLoadRect (harg5.unread x3))) (R4 := (fun r => View.readAt (Elt Ideal) arg6.view r.toLoadRect (harg6.unread x4))) (o := 768) (lg768 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) (readAt_unread _ harg2 x0) (readAt_unread _ harg10 xs0) (readAt_unread _ harg5 x3) (readAt_unread _ harg6 x4) (by decide) (by decide) x

/-- The gradient kept for the weights' product. -/
theorem hs3 : View.PiecesOf (fun y : S128x1024.Idx => (D (xs0) x0 (r_4 (F := Ideal) c i arg3 harg3 x1) x3 x4) (y 0) (y 1) * Wof (r_4 (F := Ideal) c i arg3 harg3 x1) (0 : Fin 1) (y 1)) (HS3_4 (F := Ideal) c i arg2 harg2 arg3 harg3 arg5 harg5 arg6 harg6 arg10 harg10 arg12 x0 x1 x3 x4 xs0) := by
  unfold HS3_4
  refine ⟨?_, ?_, ?_, ?_, trivial⟩
  · exact fun x => tileH3L (R2 := (fun r => View.readAt (Elt Ideal) arg2.view r.toLoadRect (harg2.unread x0))) (R10 := (fun r => View.readAt (Elt Ideal) arg10.view r.toLoadRect (harg10.unread xs0))) (R3 := (fun r => View.readAt (Elt Ideal) arg5.view r.toLoadRect (harg5.unread x3))) (R4 := (fun r => View.readAt (Elt Ideal) arg6.view r.toLoadRect (harg6.unread x4))) (o := 768) (lg768 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) (readAt_unread _ harg2 x0) (readAt_unread _ harg10 xs0) (readAt_unread _ harg5 x3) (readAt_unread _ harg6 x4) (by decide) (by decide) x
  · exact fun x => tileH3L (R2 := (fun r => View.readAt (Elt Ideal) arg2.view r.toLoadRect (harg2.unread x0))) (R10 := (fun r => View.readAt (Elt Ideal) arg10.view r.toLoadRect (harg10.unread xs0))) (R3 := (fun r => View.readAt (Elt Ideal) arg5.view r.toLoadRect (harg5.unread x3))) (R4 := (fun r => View.readAt (Elt Ideal) arg6.view r.toLoadRect (harg6.unread x4))) (o := 512) (lg512 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) (readAt_unread _ harg2 x0) (readAt_unread _ harg10 xs0) (readAt_unread _ harg5 x3) (readAt_unread _ harg6 x4) (by decide) (by decide) x
  · exact fun x => tileH3L (R2 := (fun r => View.readAt (Elt Ideal) arg2.view r.toLoadRect (harg2.unread x0))) (R10 := (fun r => View.readAt (Elt Ideal) arg10.view r.toLoadRect (harg10.unread xs0))) (R3 := (fun r => View.readAt (Elt Ideal) arg5.view r.toLoadRect (harg5.unread x3))) (R4 := (fun r => View.readAt (Elt Ideal) arg6.view r.toLoadRect (harg6.unread x4))) (o := 256) (lg256 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) (readAt_unread _ harg2 x0) (readAt_unread _ harg10 xs0) (readAt_unread _ harg5 x3) (readAt_unread _ harg6 x4) (by decide) (by decide) x
  · exact fun x => tileH3L (R2 := (fun r => View.readAt (Elt Ideal) arg2.view r.toLoadRect (harg2.unread x0))) (R10 := (fun r => View.readAt (Elt Ideal) arg10.view r.toLoadRect (harg10.unread xs0))) (R3 := (fun r => View.readAt (Elt Ideal) arg5.view r.toLoadRect (harg5.unread x3))) (R4 := (fun r => View.readAt (Elt Ideal) arg6.view r.toLoadRect (harg6.unread x4))) (o := 0) (lg0 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) (readAt_unread _ harg2 x0) (readAt_unread _ harg10 xs0) (readAt_unread _ harg5 x3) (readAt_unread _ harg6 x4) (by decide) (by decide) x

theorem rd0 (t : Fin 256) (e : Fin 128) : (v490_r0 (F := Ideal) c i arg2 harg2 arg3 harg3 arg5 harg5 arg6 harg6 arg10 harg10 arg12 x0 x1 x3 x4 xs0) (ix2 t e) = (D (xs0) x0 (r_4 (F := Ideal) c i arg3 harg3 x1) x3 x4) e ⟨0 + t.val, by omega⟩ := by
  refine (readCov_piece _ (hs2_2 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) _ ⟨_, List.mem_cons_of_mem _ List.mem_cons_self, rfl⟩ _).trans ?_
  exact congrArg₂ (D (xs0) x0 (r_4 (F := Ideal) c i arg3 harg3 x1) x3 x4) (Fin.ext (by show 0 + 1 * e.val = e.val; omega)) (Fin.ext (by show 0 + 1 * t.val = 0 + t.val; omega))

theorem rd256 (t : Fin 256) (e : Fin 128) : (v842_r0 (F := Ideal) c i arg2 harg2 arg3 harg3 arg5 harg5 arg6 harg6 arg10 harg10 arg12 x0 x1 x3 x4 xs0) (ix2 t e) = (D (xs0) x0 (r_4 (F := Ideal) c i arg3 harg3 x1) x3 x4) e ⟨256 + t.val, by omega⟩ := by
  refine (readCov_piece _ (hs2_3 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) _ ⟨_, List.mem_cons_of_mem _ List.mem_cons_self, rfl⟩ _).trans ?_
  exact congrArg₂ (D (xs0) x0 (r_4 (F := Ideal) c i arg3 harg3 x1) x3 x4) (Fin.ext (by show 0 + 1 * e.val = e.val; omega)) (Fin.ext (by show 256 + 1 * t.val = 256 + t.val; omega))

theorem rd512 (t : Fin 256) (e : Fin 128) : (v1130_r0 (F := Ideal) c i arg2 harg2 arg3 harg3 arg5 harg5 arg6 harg6 arg10 harg10 arg12 x0 x1 x3 x4 xs0) (ix2 t e) = (D (xs0) x0 (r_4 (F := Ideal) c i arg3 harg3 x1) x3 x4) e ⟨512 + t.val, by omega⟩ := by
  refine (readCov_piece _ (hs2_4 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) _ ⟨_, List.mem_cons_of_mem _ List.mem_cons_self, rfl⟩ _).trans ?_
  exact congrArg₂ (D (xs0) x0 (r_4 (F := Ideal) c i arg3 harg3 x1) x3 x4) (Fin.ext (by show 0 + 1 * e.val = e.val; omega)) (Fin.ext (by show 512 + 1 * t.val = 512 + t.val; omega))

theorem rd768 (t : Fin 256) (e : Fin 128) : (v1276_r0 (F := Ideal) c i arg2 harg2 arg3 harg3 arg5 harg5 arg6 harg6 arg10 harg10 arg12 x0 x1 x3 x4 xs0) (ix2 t e) = (D (xs0) x0 (r_4 (F := Ideal) c i arg3 harg3 x1) x3 x4) e ⟨768 + t.val, by omega⟩ := by
  refine (readCov_piece _ (hs2_4 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) _ ⟨_, List.mem_cons_self, rfl⟩ _).trans ?_
  exact congrArg₂ (D (xs0) x0 (r_4 (F := Ideal) c i arg3 harg3 x1) x3 x4) (Fin.ext (by show 0 + 1 * e.val = e.val; omega)) (Fin.ext (by show 768 + 1 * t.val = 768 + t.val; omega))

/-- The stores of the features' gradient. -/
theorem out5 : View.PiecesOf (fun y : S1x1024x4096.Idx => ∑ e, (D (xs0) x0 (r_4 (F := Ideal) c i arg3 harg3 x1) x3 x4) e (y 1) * Wof (xs0) e (y 2)) (kernelRun0_C (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).1 := by
  unfold kernelRun0_C
  dsimp only
  simp only [v496_r0, k0_mxu105, r_75, k0_mxu103, r_74, k0_mxu101, k0_mxu100, k0_mxu99, r_65, k0_mxu97, r_64, k0_mxu95, r_63, k0_mxu93, r_62, k0_mxu91, r_60, k0_mxu89, r_59, k0_mxu87, r_58, k0_mxu85, r_57, k0_mxu83, r_56, k0_mxu81, r_54, k0_mxu79, r_53, k0_mxu77, r_52, k0_mxu75, r_51, k0_mxu73, r_50, k0_mxu71, r_49, k0_mxu69, r_47, k0_mxu67, k0_mxu66, k0_mxu65, r_35, k0_mxu63, r_33, k0_mxu61, r_32, k0_mxu59, r_31, k0_mxu57, r_30, k0_mxu55, r_29, k0_mxu53, r_28, k0_mxu51, r_26, k0_mxu49, r_25, k0_mxu47, r_24, k0_mxu45, r_23, k0_mxu43, r_22, k0_mxu41, r_21, k0_mxu39, r_20, k0_mxu37, r_19, k0_mxu35, r_18, k0_mxu33, r_17, k0_mxu31, r_16, k0_mxu29, r_14, k0_mxu27, r_13, k0_mxu25, r_12, k0_mxu23, r_11, k0_mxu21, r_10, k0_mxu19, r_9, k0_mxu17, r_8, k0_mxu15, r_7, k0_mxu13, r_6, k0_mxu11, r_5, k0_mxu9, r_3, k0_mxu7, r_2, k0_mxu5, r_1, k0_mxu3, r, v501_r0, k0_mxu106, v514_r0, k0_mxu111, r_78, k0_mxu109, r_77, k0_mxu107, v519_r0, k0_mxu112, r_81, v532_r0, k0_mxu117, r_80, k0_mxu115, r_79, k0_mxu113, v537_r0, k0_mxu118, v550_r0, k0_mxu123, r_83, k0_mxu121, r_82, k0_mxu119, v555_r0, k0_mxu124, v568_r0, k0_mxu129, r_86, k0_mxu127, r_85, k0_mxu125, v573_r0, k0_mxu130, r_89, v586_r0, k0_mxu135, r_88, k0_mxu133, r_87, k0_mxu131, v591_r0, k0_mxu136, v604_r0, k0_mxu141, r_91, k0_mxu139, r_90, k0_mxu137, v609_r0, k0_mxu142, v622_r0, k0_mxu147, r_94, k0_mxu145, r_93, k0_mxu143, v627_r0, k0_mxu148, v848_r0, k0_mxu187, r_123, k0_mxu185, r_122, k0_mxu183, k0_mxu182, k0_mxu181, r_110, k0_mxu179, r_109, k0_mxu177, r_108, k0_mxu175, r_107, k0_mxu173, r_106, k0_mxu171, r_105, k0_mxu169, r_104, k0_mxu167, r_103, k0_mxu165, r_102, k0_mxu163, r_101, k0_mxu161, r_100, k0_mxu159, r_99, k0_mxu157, r_98, k0_mxu155, r_97, k0_mxu153, r_96, k0_mxu151, r_95, k0_mxu149, v853_r0, k0_mxu188, v866_r0, k0_mxu193, r_125, k0_mxu191, r_124, k0_mxu189, v871_r0, k0_mxu194, v884_r0, k0_mxu199, r_127, k0_mxu197, r_126, k0_mxu195, v889_r0, k0_mxu200, v902_r0, k0_mxu205, r_129, k0_mxu203, r_128, k0_mxu201, v907_r0, k0_mxu206, v920_r0, k0_mxu211, r_131, k0_mxu209, r_130, k0_mxu207, v925_r0, k0_mxu212, v938_r0, k0_mxu217, r_133, k0_mxu215, r_132, k0_mxu213, v943_r0, k0_mxu218, v956_r0, k0_mxu223, r_135, k0_mxu221, r_134, k0_mxu219, v961_r0, k0_mxu224, v974_r0, k0_mxu229, r_137, k0_mxu227, r_136, k0_mxu225, v979_r0, k0_mxu230, v1136_r0, k0_mxu237, r_148, k0_mxu235, r_147, k0_mxu233, k0_mxu232, k0_mxu231, v1141_r0, k0_mxu238, v1154_r0, k0_mxu243, r_150, k0_mxu241, r_149, k0_mxu239, v1159_r0, k0_mxu244, v1172_r0, k0_mxu249, r_152, k0_mxu247, r_151, k0_mxu245, r_153, v1177_r0, k0_mxu250, v1190_r0, k0_mxu255, r_155, k0_mxu253, r_154, k0_mxu251, v1195_r0, k0_mxu256, v1208_r0, k0_mxu261, r_157, k0_mxu259, r_156, k0_mxu257, v1213_r0, k0_mxu262, v1226_r0, k0_mxu267, r_159, k0_mxu265, r_158, k0_mxu263, r_160, v1231_r0, k0_mxu268, v1244_r0, k0_mxu273, r_162, k0_mxu271, r_161, k0_mxu269, v1249_r0, k0_mxu274, v1262_r0, k0_mxu279, r_164, k0_mxu277, r_163, k0_mxu275, v1267_r0, k0_mxu280, v1282_r0, k0_mxu285, r_166, k0_mxu283, r_165, k0_mxu281, v1287_r0, k0_mxu286, v1300_r0, k0_mxu291, r_168, k0_mxu289, r_167, k0_mxu287, v1305_r0, k0_mxu292, v1318_r0, k0_mxu297, r_170, k0_mxu295, r_169, k0_mxu293, v1323_r0, k0_mxu298, v1336_r0, k0_mxu303, r_172, k0_mxu301, r_171, k0_mxu299, v1341_r0, k0_mxu304, v1354_r0, k0_mxu309, r_174, k0_mxu307, r_173, k0_mxu305, v1359_r0, k0_mxu310, v1372_r0, k0_mxu315, r_176, k0_mxu313, r_175, k0_mxu311, v1377_r0, k0_mxu316, v1390_r0, k0_mxu321, r_178, k0_mxu319, r_177, k0_mxu317, v1395_r0, k0_mxu322, v1408_r0, k0_mxu327, r_180, k0_mxu325, r_179, k0_mxu323, v1413_r0, k0_mxu328]
  simp (maxDischargeDepth := 1000) only [read_pass, read_pass_unit, read_pass_lo, read_pass_hi, read_pop, read_pop_unit, read_pop_lo, read_pop_hi, read_init, empty_init, empty_pop, empty_pass, Fin.isValue, Nat.reduceMul, Nat.reduceAdd, Nat.reduceLeDiff, ne_eq, zero_ne_one, one_ne_zero, not_false_eq_true, Fin.reduceEq]
  iterate 16
    refine ⟨fun x => ?_, ?_⟩
    · exact tile5 (o := 768) (R10 := (fun r => View.readAt (Elt Ideal) arg10.view r.toLoadRect (harg10.unread xs0))) (by decide) (by decide) (by decide) (by decide) (readAt_unread _ harg10 xs0) _ (rd768 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) x
  iterate 16
    refine ⟨fun x => ?_, ?_⟩
    · exact tile5 (o := 512) (R10 := (fun r => View.readAt (Elt Ideal) arg10.view r.toLoadRect (harg10.unread xs0))) (by decide) (by decide) (by decide) (by decide) (readAt_unread _ harg10 xs0) _ (rd512 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) x
  iterate 16
    refine ⟨fun x => ?_, ?_⟩
    · exact tile5 (o := 256) (R10 := (fun r => View.readAt (Elt Ideal) arg10.view r.toLoadRect (harg10.unread xs0))) (by decide) (by decide) (by decide) (by decide) (readAt_unread _ harg10 xs0) _ (rd256 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) x
  iterate 16
    refine ⟨fun x => ?_, ?_⟩
    · exact tile5 (o := 0) (R10 := (fun r => View.readAt (Elt Ideal) arg10.view r.toLoadRect (harg10.unread xs0))) (by decide) (by decide) (by decide) (by decide) (readAt_unread _ harg10 xs0) _ (rd0 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) x
  exact trivial

theorem h13 (o : ℕ) (ho : o + 256 ≤ 1024) (h : o = 0 ∨ o = 256 ∨ o = 512 ∨ o = 768) (e : Fin 128) (t : Fin 256) :
    (fun r : Rect S128x1024 => arg13.view.readCov (HS3_4 (F := Ideal) c i arg2 harg2 arg3 harg3 arg5 harg5 arg6 harg6 arg10 harg10 arg12 x0 x1 x3 x4 xs0) r.toLoadRect) (Rect.unit (s := S128x1024) ![0, o] S128x256.size (hin o ho)) (ix2 e t) = (D (xs0) x0 (r_4 (F := Ideal) c i arg3 harg3 x1) x3 x4) e ⟨o + t.val, by omega⟩ * Wof (r_4 (F := Ideal) c i arg3 harg3 x1) (0 : Fin 1) ⟨o + t.val, by omega⟩ := by
  have hm : ∃ p ∈ (HS3_4 (F := Ideal) c i arg2 harg2 arg3 harg3 arg5 harg5 arg6 harg6 arg10 harg10 arg12 x0 x1 x3 x4 xs0), p.1 = Rect.unit (s := S128x1024) ![0, o] S128x256.size (hin o ho) := by
    rcases h with rfl | rfl | rfl | rfl
    · exact ⟨_, List.mem_cons_of_mem _ (List.mem_cons_of_mem _ (List.mem_cons_of_mem _ List.mem_cons_self)), rfl⟩
    · exact ⟨_, List.mem_cons_of_mem _ (List.mem_cons_of_mem _ List.mem_cons_self), rfl⟩
    · exact ⟨_, List.mem_cons_of_mem _ List.mem_cons_self, rfl⟩
    · exact ⟨_, List.mem_cons_self, rfl⟩
  refine (readCov_piece _ (hs3 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) _ hm _).trans ?_
  have h0 : (Rect.unit (s := S128x1024) ![0, o] S128x256.size (hin o ho)).emb (ix2 e t) = ix2 e (⟨o + t.val, by omega⟩ : Fin 1024) :=
    (emb2 (hin o ho) e t).trans (congrArg (fun i => ix2 i _) (Fin.ext (Nat.zero_add _)))
  rw [h0]

theorem hs1 : View.PiecesOf (addW xs1 (fun e t => (D (xs0) x0 (r_4 (F := Ideal) c i arg3 harg3 x1) x3 x4) e t * Wof (r_4 (F := Ideal) c i arg3 harg3 x1) (0 : Fin 1) t) x0) (HS1_16 (F := Ideal) c i arg2 harg2 arg3 harg3 arg5 harg5 arg6 harg6 arg10 harg10 arg11 harg11 arg12 arg13 x0 x1 x3 x4 xs0 xs1) := by
  unfold HS1_16
  simp only [v1451_r0, k0_mxu345, r_189, k0_mxu343, r_188, k0_mxu341, r_186, k0_mxu339, r_185, k0_mxu337, r_184, k0_mxu335, r_183, k0_mxu333, r_182, k0_mxu331, r_181, k0_mxu329, k0_mxu328, k0_mxu327, r_180, k0_mxu325, r_179, k0_mxu323, k0_mxu322, k0_mxu321, r_178, k0_mxu319, r_177, k0_mxu317, k0_mxu316, k0_mxu315, r_176, k0_mxu313, r_175, k0_mxu311, k0_mxu310, k0_mxu309, r_174, k0_mxu307, r_173, k0_mxu305, k0_mxu304, k0_mxu303, r_172, k0_mxu301, r_171, k0_mxu299, k0_mxu298, k0_mxu297, r_170, k0_mxu295, r_169, k0_mxu293, k0_mxu292, k0_mxu291, r_168, k0_mxu289, r_167, k0_mxu287, k0_mxu286, k0_mxu285, r_166, k0_mxu283, r_165, k0_mxu281, k0_mxu280, k0_mxu279, r_164, k0_mxu277, r_163, k0_mxu275, k0_mxu274, k0_mxu273, r_162, k0_mxu271, r_161, k0_mxu269, k0_mxu268, k0_mxu267, r_159, k0_mxu265, r_158, k0_mxu263, k0_mxu262, k0_mxu261, r_157, k0_mxu259, r_156, k0_mxu257, k0_mxu256, k0_mxu255, r_155, k0_mxu253, r_154, k0_mxu251, k0_mxu250, k0_mxu249, r_152, k0_mxu247, r_151, k0_mxu245, k0_mxu244, k0_mxu243, r_150, k0_mxu241, r_149, k0_mxu239, k0_mxu238, k0_mxu237, r_148, k0_mxu235, r_147, k0_mxu233, k0_mxu232, k0_mxu231, k0_mxu230, k0_mxu229, r_137, k0_mxu227, r_136, k0_mxu225, k0_mxu224, k0_mxu223, r_135, k0_mxu221, r_134, k0_mxu219, k0_mxu218, k0_mxu217, r_133, k0_mxu215, r_132, k0_mxu213, k0_mxu212, k0_mxu211, r_131, k0_mxu209, r_130, k0_mxu207, k0_mxu206, k0_mxu205, r_129, k0_mxu203, r_128, k0_mxu201, k0_mxu200, k0_mxu199, r_127, k0_mxu197, r_126, k0_mxu195, k0_mxu194, k0_mxu193, r_125, k0_mxu191, r_124, k0_mxu189, k0_mxu188, k0_mxu187, r_123, k0_mxu185, r_122, k0_mxu183, k0_mxu182, k0_mxu181, r_110, k0_mxu179, r_109, k0_mxu177, r_108, k0_mxu175, r_107, k0_mxu173, r_106, k0_mxu171, r_105, k0_mxu169, r_104, k0_mxu167, r_103, k0_mxu165, r_102, k0_mxu163, r_101, k0_mxu161, r_100, k0_mxu159, r_99, k0_mxu157, r_98, k0_mxu155, r_97, k0_mxu153, r_96, k0_mxu151, r_95, k0_mxu149, k0_mxu148, k0_mxu147, r_94, k0_mxu145, r_93, k0_mxu143, k0_mxu142, k0_mxu141, r_91, k0_mxu139, r_90, k0_mxu137, k0_mxu136, k0_mxu135, r_88, k0_mxu133, r_87, k0_mxu131, k0_mxu130, k0_mxu129, r_86, k0_mxu127, r_85, k0_mxu125, k0_mxu124, k0_mxu123, r_83, k0_mxu121, r_82, k0_mxu119, k0_mxu118, k0_mxu117, r_80, k0_mxu115, r_79, k0_mxu113, k0_mxu112, k0_mxu111, r_78, k0_mxu109, r_77, k0_mxu107, k0_mxu106, k0_mxu105, r_75, k0_mxu103, r_74, k0_mxu101, k0_mxu100, k0_mxu99, r_65, k0_mxu97, r_64, k0_mxu95, r_63, k0_mxu93, r_62, k0_mxu91, r_60, k0_mxu89, r_59, k0_mxu87, r_58, k0_mxu85, r_57, k0_mxu83, r_56, k0_mxu81, r_54, k0_mxu79, r_53, k0_mxu77, r_52, k0_mxu75, r_51, k0_mxu73, r_50, k0_mxu71, r_49, k0_mxu69, r_47, k0_mxu67, k0_mxu66, k0_mxu65, r_35, k0_mxu63, r_33, k0_mxu61, r_32, k0_mxu59, r_31, k0_mxu57, r_30, k0_mxu55, r_29, k0_mxu53, r_28, k0_mxu51, r_26, k0_mxu49, r_25, k0_mxu47, r_24, k0_mxu45, r_23, k0_mxu43, r_22, k0_mxu41, r_21, k0_mxu39, r_20, k0_mxu37, r_19, k0_mxu35, r_18, k0_mxu33, r_17, k0_mxu31, r_16, k0_mxu29, r_14, k0_mxu27, r_13, k0_mxu25, r_12, k0_mxu23, r_11, k0_mxu21, r_10, k0_mxu19, r_9, k0_mxu17, r_8, k0_mxu15, r_7, k0_mxu13, r_6, k0_mxu11, r_5, k0_mxu9, r_3, k0_mxu7, r_2, k0_mxu5, r_1, k0_mxu3, r, v1457_r0, k0_mxu346, v1495_r0, k0_mxu363, r_197, k0_mxu361, r_196, k0_mxu359, r_195, k0_mxu357, r_194, k0_mxu355, r_193, k0_mxu353, r_192, k0_mxu351, r_191, k0_mxu349, r_190, k0_mxu347, v1501_r0, k0_mxu364, v1539_r0, k0_mxu381, r_206, k0_mxu379, r_205, k0_mxu377, r_204, k0_mxu375, r_203, k0_mxu373, r_202, k0_mxu371, r_201, k0_mxu369, r_199, k0_mxu367, r_198, k0_mxu365, v1545_r0, k0_mxu382, r_215, v1583_r0, k0_mxu399, r_214, k0_mxu397, r_213, k0_mxu395, r_212, k0_mxu393, r_211, k0_mxu391, r_210, k0_mxu389, r_209, k0_mxu387, r_208, k0_mxu385, r_207, k0_mxu383, v1589_r0, k0_mxu400, v1627_r0, k0_mxu417, r_223, k0_mxu415, r_222, k0_mxu413, r_221, k0_mxu411, r_220, k0_mxu409, r_219, k0_mxu407, r_218, k0_mxu405, r_217, k0_mxu403, r_216, k0_mxu401, v1633_r0, k0_mxu418, v1671_r0, k0_mxu435, r_231, k0_mxu433, r_230, k0_mxu431, r_229, k0_mxu429, r_228, k0_mxu427, r_227, k0_mxu425, r_226, k0_mxu423, r_225, k0_mxu421, r_224, k0_mxu419, v1677_r0, k0_mxu436, v1715_r0, k0_mxu453, r_240, k0_mxu451, r_239, k0_mxu449, r_238, k0_mxu447, r_236, k0_mxu445, r_235, k0_mxu443, r_234, k0_mxu441, r_233, k0_mxu439, r_232, k0_mxu437, v1721_r0, k0_mxu454, r_248, r_247, k0_mxu467, r_246, k0_mxu465, r_245, k0_mxu463, r_244, k0_mxu461, r_243, k0_mxu459, r_242, k0_mxu457, r_241, k0_mxu455]
  simp (maxDischargeDepth := 1000) only [read_pass, read_pass_unit, read_pass_lo, read_pass_hi, read_pop, read_pop_unit, read_pop_lo, read_pop_hi, read_init, empty_init, empty_pop, empty_pass, Fin.isValue, Nat.reduceMul, Nat.reduceAdd, Nat.reduceLeDiff, ne_eq, zero_ne_one, one_ne_zero, not_false_eq_true, Fin.reduceEq]
  iterate 16 refine ⟨fun x => tile1 (R2 := (fun r => View.readAt (Elt Ideal) arg2.view r.toLoadRect (harg2.unread x0))) (R13 := (fun r : Rect S128x1024 => arg13.view.readCov (HS3_4 (F := Ideal) c i arg2 harg2 arg3 harg3 arg5 harg5 arg6 harg6 arg10 harg10 arg12 x0 x1 x3 x4 xs0) r.toLoadRect)) (H := (fun e t => (D (xs0) x0 (r_4 (F := Ideal) c i arg3 harg3 x1) x3 x4) e t * Wof (r_4 (F := Ideal) c i arg3 harg3 x1) (0 : Fin 1) t)) (readAt_unread _ harg2 x0) (h13 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) (by decide) (by decide) _ (fun j => readAt_unread _ harg11 xs1 (Rect.unit (s := S128x4096) ![0, _] S128x256.size (by decide)) j) x, ?_⟩
  exact trivial

/-- The stores of the weights' gradient. -/
theorem acc1 : View.PiecesOf (addW xs1 (fun e t => (D (xs0) x0 (r_4 (F := Ideal) c i arg3 harg3 x1) x3 x4) e t * Wof (r_4 (F := Ideal) c i arg3 harg3 x1) (0 : Fin 1) t) x0) (kernelRun0_C (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.2.2.1 := hs1 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1

/-- The stores of the weights' gradient's own result. -/
theorem out6 : View.PiecesOf (fun y : S4096x128.Idx => addW xs1 (fun e t => (D (xs0) x0 (r_4 (F := Ideal) c i arg3 harg3 x1) x3 x4) e t * Wof (r_4 (F := Ideal) c i arg3 harg3 x1) (0 : Fin 1) t) x0 (ix2 (y 1) (y 0))) (kernelRun0_C (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.1 := by
  unfold kernelRun0_C
  dsimp only
  have hc := View.cover_of_tiledL (HS1_16 (F := Ideal) c i arg2 harg2 arg3 harg3 arg5 harg5 arg6 harg6 arg10 harg10 arg11 harg11 arg12 arg13 x0 x1 x3 x4 xs0 xs1) ![128,256] (by sl_kernel_rfl)
  iterate 16
    refine ⟨fun x => ?_, ?_⟩
    · exact tile6 (by decide) (by decide) _ (fun j => readCov_all arg11.view (hs1 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) hc (Rect.unit (s := S128x4096) ![0, _] S128x256.size (by decide)) j) x
  exact trivial

end Cert.Val.CaseC
-- ==== Proof.Val.Points.lean ====
/- What the kernel's run leaves in its results: every point's contents, the scratch carried from point to point, and the
   three arrays by their indices. -/

module

public import proofs.«01_k».proof.Proof.Val.CaseA
public import proofs.«01_k».proof.Proof.Val.CaseB
public import proofs.«01_k».proof.Proof.Val.CaseC
public import proofs.«01_k».proof.Proof.RunKernelIdeal.Value

@[expose] public section

set_option maxRecDepth 16384

noncomputable section

namespace Cert.Val

open Idealize.ShloMosaic Idealize.ShloMosaic.ValueIdx Cert.KernelIdeal Cert.KernelIdeal.Gen
open scoped BigOperators

/-- The five buffers a point leaves. -/
abbrev Outs : Type := Vec Ideal S1x1024x4096 .bf16 × Vec Ideal S4096x128 .f32 × Vec Ideal S1x1024x128 .f32 × Vec Ideal S128x4096 .bf16 × Vec Ideal S128x4096 .f32

/-- What a point leaves, given the weights it works with and the sum it adds to. -/
structure After (W : Vec Ideal S128x4096 .bf16) (acc : S128x4096.Idx → EReal) (x0 : Vec Ideal S1x1024x4096 .fp8e4m3) (sc : Vec Ideal S1x1024 .f32)
    (x3 : Vec Ideal S1x8x1024 .i32) (x4 : Vec Ideal S1x8x1024 .bf16) (o : Outs) : Prop where
  dx : ∀ y, o.1 y = ∑ e, D W x0 sc x3 x4 e (y 1) * Wof W e (y 2)
  dl : ∀ y, o.2.2.1 y = D W x0 sc x3 x4 (y 2) (y 1)
  wt : o.2.2.2.1 = W
  dw : ∀ y, o.2.2.2.2 y = addW acc (fun e t => D W x0 sc x3 x4 e t * Wof sc (0 : Fin 1) t) x0 y

theorem read_pieces {sig : RefSig} {κ : Kind} {sp : Space} {s : Shape} {e : EltTy} (v : View sig κ sp s e) {G : s.Idx → Elt Ideal e} {L : List (View.Piece (Elt Ideal) s e)}
    (hp : View.PiecesOf G L) (y : s.Idx) (hy : ∃ pc ∈ L, y ∈ pc.1.set) :
    v.read (Elt Ideal) (v.writes (Elt Ideal) v.junk L) y = G y :=
  (congrFun (View.read_writes_junk_eq_canon v L) y).trans (View.canon_apply_of_pieces G L hp.mem y hy)

theorem p5A (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : cond0_0 i) (hc1 : ¬cond0_1 i) (x0 : Vec Ideal S1x1024x4096 .fp8e4m3) (x1 : Vec Ideal S4x1024 .f32) (x2 : Vec Ideal S4096x128 .bf16) (x3 : Vec Ideal S1x8x1024 .i32) (x4 : Vec Ideal S1x8x1024 .bf16) (y : S1x1024x4096.Idx) : out0_A_5 c i arg2 harg2 arg3 harg3 arg4 harg4 arg5 harg5 arg6 harg6 arg7 harg7 arg8 harg8 arg9 harg9 arg10 harg10 arg11 harg11 arg12 harg12 arg13 harg13 hc0 hc1 x0 x1 x2 x3 x4 y = ∑ e, D (wtOf x2) x0 (kernelRun0_A.sl.r_4 (F := Ideal) c i arg3 harg3 x1) x3 x4 e (y 1) * Wof (wtOf x2) e (y 2) := by
  unfold out0_A_5
  exact read_pieces VO0_5 (CaseA.out5 c i arg2 harg2 arg3 harg3 arg4 harg4 arg5 harg5 arg6 harg6 arg7 harg7 arg8 harg8 arg9 harg9 arg10 harg10 arg11 harg11 arg12 harg12 arg13 harg13 hc0 hc1 x0 x1 x2 x3 x4) y (cover0_A_5 c i arg2 harg2 arg3 harg3 arg4 harg4 arg5 harg5 arg6 harg6 arg7 harg7 arg8 harg8 arg9 harg9 arg10 harg10 arg11 harg11 arg12 harg12 arg13 harg13 hc0 hc1 x0 x1 x2 x3 x4 y)

theorem p7A (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : cond0_0 i) (hc1 : ¬cond0_1 i) (x0 : Vec Ideal S1x1024x4096 .fp8e4m3) (x1 : Vec Ideal S4x1024 .f32) (x2 : Vec Ideal S4096x128 .bf16) (x3 : Vec Ideal S1x8x1024 .i32) (x4 : Vec Ideal S1x8x1024 .bf16) (y : S1x1024x128.Idx) : out0_A_7 c i arg2 harg2 arg3 harg3 arg4 harg4 arg5 harg5 arg6 harg6 arg7 harg7 arg8 harg8 arg9 harg9 arg10 harg10 arg11 harg11 arg12 harg12 arg13 harg13 hc0 hc1 x0 x1 x2 x3 x4 y = D (wtOf x2) x0 (kernelRun0_A.sl.r_4 (F := Ideal) c i arg3 harg3 x1) x3 x4 (y 2) (y 1) := by
  unfold out0_A_7
  exact read_pieces VO0_7 (CaseA.out7 c i arg2 harg2 arg3 harg3 arg4 harg4 arg5 harg5 arg6 harg6 arg7 harg7 arg8 harg8 arg9 harg9 arg10 harg10 arg11 harg11 arg12 harg12 arg13 harg13 hc0 hc1 x0 x1 x2 x3 x4) y (cover0_A_7 c i arg2 harg2 arg3 harg3 arg4 harg4 arg5 harg5 arg6 harg6 arg7 harg7 arg8 harg8 arg9 harg9 arg10 harg10 arg11 harg11 arg12 harg12 arg13 harg13 hc0 hc1 x0 x1 x2 x3 x4 y)

theorem s1A (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : cond0_0 i) (hc1 : ¬cond0_1 i) (x0 : Vec Ideal S1x1024x4096 .fp8e4m3) (x1 : Vec Ideal S4x1024 .f32) (x2 : Vec Ideal S4096x128 .bf16) (x3 : Vec Ideal S1x8x1024 .i32) (x4 : Vec Ideal S1x8x1024 .bf16) (y : S128x4096.Idx) : sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 y = addW (fun _ => 0) (fun e t => D (wtOf x2) x0 (kernelRun0_A.sl.r_4 (F := Ideal) c i arg3 harg3 x1) x3 x4 e t * Wof (kernelRun0_A.sl.r_4 (F := Ideal) c i arg3 harg3 x1) (0 : Fin 1) t) x0 y := by
  unfold sout0_A_1
  exact (congrFun (View.read_writes_junk_eq_canon VS0_1 _) y).trans (CaseA.acc1 c i arg2 harg2 arg3 harg3 arg4 harg4 arg5 harg5 arg6 harg6 arg7 harg7 arg8 harg8 arg9 harg9 arg10 harg10 arg11 harg11 arg12 harg12 arg13 harg13 hc0 hc1 x0 x1 x2 x3 x4 y)

theorem s0A (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : cond0_0 i) (hc1 : ¬cond0_1 i) (x0 : Vec Ideal S1x1024x4096 .fp8e4m3) (x1 : Vec Ideal S4x1024 .f32) (x2 : Vec Ideal S4096x128 .bf16) (x3 : Vec Ideal S1x8x1024 .i32) (x4 : Vec Ideal S1x8x1024 .bf16) : sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 = (wtOf x2) := by
  unfold sout0_A_0
  exact funext fun y => read_pieces VS0_0 (show View.PiecesOf (wtOf x2) _ from CaseA.hs0 c i arg2 harg2 arg3 harg3 arg4 harg4 arg5 harg5 arg6 harg6 arg7 harg7 arg8 harg8 arg9 harg9 arg10 harg10 arg11 harg11 arg12 harg12 arg13 harg13 hc0 hc1 x0 x1 x2 x3 x4) y (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 y)

theorem p5B (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : ¬cond0_1 i) (x0 : Vec Ideal S1x1024x4096 .fp8e4m3) (x1 : Vec Ideal S4x1024 .f32) (x2 : Vec Ideal S4096x128 .bf16) (x3 : Vec Ideal S1x8x1024 .i32) (x4 : Vec Ideal S1x8x1024 .bf16) (xs0 : Vec Ideal S128x4096 .bf16) (xs1 : Vec Ideal S128x4096 .f32) (y : S1x1024x4096.Idx) : out0_B_5 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 y = ∑ e, D xs0 x0 (kernelRun0_B.sl.r_4 (F := Ideal) c i arg3 harg3 x1) x3 x4 e (y 1) * Wof xs0 e (y 2) := by
  unfold out0_B_5
  exact read_pieces VO0_5 (CaseB.out5 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) y (cover0_B_5 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 y)

theorem p7B (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : ¬cond0_1 i) (x0 : Vec Ideal S1x1024x4096 .fp8e4m3) (x1 : Vec Ideal S4x1024 .f32) (x2 : Vec Ideal S4096x128 .bf16) (x3 : Vec Ideal S1x8x1024 .i32) (x4 : Vec Ideal S1x8x1024 .bf16) (xs0 : Vec Ideal S128x4096 .bf16) (xs1 : Vec Ideal S128x4096 .f32) (y : S1x1024x128.Idx) : out0_B_7 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 y = D xs0 x0 (kernelRun0_B.sl.r_4 (F := Ideal) c i arg3 harg3 x1) x3 x4 (y 2) (y 1) := by
  unfold out0_B_7
  exact read_pieces VO0_7 (CaseB.out7 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) y (cover0_B_7 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 y)

theorem s1B (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : ¬cond0_1 i) (x0 : Vec Ideal S1x1024x4096 .fp8e4m3) (x1 : Vec Ideal S4x1024 .f32) (x2 : Vec Ideal S4096x128 .bf16) (x3 : Vec Ideal S1x8x1024 .i32) (x4 : Vec Ideal S1x8x1024 .bf16) (xs0 : Vec Ideal S128x4096 .bf16) (xs1 : Vec Ideal S128x4096 .f32) (y : S128x4096.Idx) : sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 y = addW xs1 (fun e t => D xs0 x0 (kernelRun0_B.sl.r_4 (F := Ideal) c i arg3 harg3 x1) x3 x4 e t * Wof (kernelRun0_B.sl.r_4 (F := Ideal) c i arg3 harg3 x1) (0 : Fin 1) t) x0 y := by
  unfold sout0_B_1
  exact read_pieces VS0_1 (CaseB.acc1 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) y (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 y)

theorem s0B (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : ¬cond0_1 i) (x0 : Vec Ideal S1x1024x4096 .fp8e4m3) (x1 : Vec Ideal S4x1024 .f32) (x2 : Vec Ideal S4096x128 .bf16) (x3 : Vec Ideal S1x8x1024 .i32) (x4 : Vec Ideal S1x8x1024 .bf16) (xs0 : Vec Ideal S128x4096 .bf16) (xs1 : Vec Ideal S128x4096 .f32) : sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 = xs0 := by
  unfold sout0_B_0
  rfl

theorem p5C (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : cond0_1 i) (x0 : Vec Ideal S1x1024x4096 .fp8e4m3) (x1 : Vec Ideal S4x1024 .f32) (x2 : Vec Ideal S4096x128 .bf16) (x3 : Vec Ideal S1x8x1024 .i32) (x4 : Vec Ideal S1x8x1024 .bf16) (xs0 : Vec Ideal S128x4096 .bf16) (xs1 : Vec Ideal S128x4096 .f32) (y : S1x1024x4096.Idx) : out0_C_5 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 y = ∑ e, D xs0 x0 (kernelRun0_C.sl.r_4 (F := Ideal) c i arg3 harg3 x1) x3 x4 e (y 1) * Wof xs0 e (y 2) := by
  unfold out0_C_5
  exact read_pieces VO0_5 (CaseC.out5 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) y (cover0_C_5 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 y)

theorem p7C (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : cond0_1 i) (x0 : Vec Ideal S1x1024x4096 .fp8e4m3) (x1 : Vec Ideal S4x1024 .f32) (x2 : Vec Ideal S4096x128 .bf16) (x3 : Vec Ideal S1x8x1024 .i32) (x4 : Vec Ideal S1x8x1024 .bf16) (xs0 : Vec Ideal S128x4096 .bf16) (xs1 : Vec Ideal S128x4096 .f32) (y : S1x1024x128.Idx) : out0_C_7 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 y = D xs0 x0 (kernelRun0_C.sl.r_4 (F := Ideal) c i arg3 harg3 x1) x3 x4 (y 2) (y 1) := by
  unfold out0_C_7
  exact read_pieces VO0_7 (CaseC.out7 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) y (cover0_C_7 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 y)

theorem s1C (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : cond0_1 i) (x0 : Vec Ideal S1x1024x4096 .fp8e4m3) (x1 : Vec Ideal S4x1024 .f32) (x2 : Vec Ideal S4096x128 .bf16) (x3 : Vec Ideal S1x8x1024 .i32) (x4 : Vec Ideal S1x8x1024 .bf16) (xs0 : Vec Ideal S128x4096 .bf16) (xs1 : Vec Ideal S128x4096 .f32) (y : S128x4096.Idx) : sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 y = addW xs1 (fun e t => D xs0 x0 (kernelRun0_C.sl.r_4 (F := Ideal) c i arg3 harg3 x1) x3 x4 e t * Wof (kernelRun0_C.sl.r_4 (F := Ideal) c i arg3 harg3 x1) (0 : Fin 1) t) x0 y := by
  unfold sout0_C_1
  exact read_pieces VS0_1 (CaseC.acc1 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) y (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 y)

theorem s0C (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : cond0_1 i) (x0 : Vec Ideal S1x1024x4096 .fp8e4m3) (x1 : Vec Ideal S4x1024 .f32) (x2 : Vec Ideal S4096x128 .bf16) (x3 : Vec Ideal S1x8x1024 .i32) (x4 : Vec Ideal S1x8x1024 .bf16) (xs0 : Vec Ideal S128x4096 .bf16) (xs1 : Vec Ideal S128x4096 .f32) : sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 = xs0 := by
  unfold sout0_C_0
  rfl

theorem after6 (c : Dev nD) (i : grid0.Coords) (arg2 : Memref sig .tc .vmem S1x1024x4096 .fp8e4m3) (harg2 : arg2.IsWhole) (arg3 : Memref sig .tc .vmem S4x1024 .f32) (harg3 : arg3.IsWhole) (arg4 : Memref sig .tc .vmem S4096x128 .bf16) (harg4 : arg4.IsWhole) (arg5 : Memref sig .tc .vmem S1x8x1024 .i32) (harg5 : arg5.IsWhole) (arg6 : Memref sig .tc .vmem S1x8x1024 .bf16) (harg6 : arg6.IsWhole) (arg7 : Memref sig .tc .vmem S1x1024x4096 .bf16) (harg7 : arg7.IsWhole) (arg8 : Memref sig .tc .vmem S4096x128 .f32) (harg8 : arg8.IsWhole) (arg9 : Memref sig .tc .vmem S1x1024x128 .f32) (harg9 : arg9.IsWhole) (arg10 : Memref sig .tc .vmem S128x4096 .bf16) (harg10 : arg10.IsWhole) (arg11 : Memref sig .tc .vmem S128x4096 .f32) (harg11 : arg11.IsWhole) (arg12 : Memref sig .tc .vmem S1024x128 .bf16) (harg12 : arg12.IsWhole) (arg13 : Memref sig .tc .vmem S128x1024 .bf16) (harg13 : arg13.IsWhole) (hc0 : ¬cond0_0 i) (hc1 : cond0_1 i) (x0 : Vec Ideal S1x1024x4096 .fp8e4m3) (x1 : Vec Ideal S4x1024 .f32) (x2 : Vec Ideal S4096x128 .bf16) (x3 : Vec Ideal S1x8x1024 .i32) (x4 : Vec Ideal S1x8x1024 .bf16) (xs0 : Vec Ideal S128x4096 .bf16) (xs1 : Vec Ideal S128x4096 .f32) (y : S4096x128.Idx) :
    out0_C_6 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 y = addW xs1 (fun e t => D xs0 x0 (kernelRun0_C.sl.r_4 (F := Ideal) c i arg3 harg3 x1) x3 x4 e t * Wof (kernelRun0_C.sl.r_4 (F := Ideal) c i arg3 harg3 x1) (0 : Fin 1) t) x0 (ix2 (y 1) (y 0)) := by
  unfold out0_C_6
  exact read_pieces VO0_6 (CaseC.out6 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1) y (cover0_C_6 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 y)

/-! ## The points' blocks -/

variable (m : (ℓ : Loc nD τ sig) → Buf (Elt Ideal) ℓ) (c : Dev nD)

/-- The scales of the point's tokens. -/
def scAt (t : Fin cfg0.N) : Vec Ideal S1x1024 .f32 :=
  fun j => iblk m c 1 t (ix2 (⟨t.val / 16, by have := lt_of_lt_of_eq t.isLt (show cfg0.N = 64 from N_0); omega⟩ : Fin 4) (⟨(j 1).val, (j 1).isLt⟩ : Fin 1024))

theorem off1_eq : ∀ t : Fin cfg0.N, k0_off1 (grid0.coords t) 0 = t.val / 16 ∧ k0_off1 (grid0.coords t) 1 = 0 :=
  (by decide +kernel : ∀ t : Fin grid0.N, _)

theorem sc_eq (t : Fin cfg0.N) (a : Memref sig .tc .vmem S4x1024 .f32) (ha : a.IsWhole) (h : ∀ b, k0_off1 (grid0.coords t) b + S1x1024.size b ≤ S4x1024.size b) :
    (View.readAt (Elt Ideal) a.view (Rect.unit (s := S4x1024) (k0_off1 (grid0.coords t)) S1x1024.size h).toLoadRect (ha.unread (iblk m c 1 t)) : S1x1024.Idx → EReal) = scAt m c t := by
  funext j
  refine (readAt_unread a ha (iblk m c 1 t) (Rect.unit (s := S4x1024) (k0_off1 (grid0.coords t)) S1x1024.size h) j).trans ?_
  unfold scAt
  refine congrArg (iblk m c 1 t) ?_
  obtain ⟨e0, e1⟩ := off1_eq t
  funext b; apply Fin.ext
  match b with
  | ⟨0, _⟩ =>
    show k0_off1 (grid0.coords t) 0 + 1 * (j 0).val = t.val / 16
    have : (j 0).val < 1 := (j 0).isLt
    omega
  | ⟨1, _⟩ => show k0_off1 (grid0.coords t) 1 + 1 * (j 1).val = (j 1).val; omega

theorem scA (t : Fin cfg0.N) (a : Memref sig .tc .vmem S4x1024 .f32) (ha : a.IsWhole) :
    kernelRun0_A.sl.r_4 (F := Ideal) c (grid0.coords t) a ha (iblk m c 1 t) = scAt m c t := by
  unfold kernelRun0_A.sl.r_4
  exact sc_eq m c t a ha _

theorem atA (t : Fin cfg0.N) (h0 : t.val % 64 = 0) (h1 : ¬t.val % 64 = 63) :
    After (wtOf (iblk m c 2 t)) (fun _ => 0) (iblk m c 0 t) (scAt m c t) (iblk m c 3 t) (iblk m c 4 t) (outsAt0 m c t.val t.isLt) := by
  rw [outsAt0_A m c t h0 h1]
  have h5 := p5A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t)
  have h7 := p7A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t)
  have hw := s1A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t)
  rw [scA] at h5 h7 hw
  have hz := s0A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t)
  refine ⟨?_, ?_, ?_, ?_⟩
  · dsimp only; exact h5
  · dsimp only; exact h7
  · dsimp only; exact hz
  · dsimp only; exact hw

theorem scB (t : Fin cfg0.N) (a : Memref sig .tc .vmem S4x1024 .f32) (ha : a.IsWhole) :
    kernelRun0_B.sl.r_4 (F := Ideal) c (grid0.coords t) a ha (iblk m c 1 t) = scAt m c t := by
  unfold kernelRun0_B.sl.r_4
  exact sc_eq m c t a ha _

theorem atB (t : Fin cfg0.N) (h0 : ¬t.val % 64 = 0) (h1 : ¬t.val % 64 = 63) :
    After (outsAt0 m c (t.val - 1) (lt_of_le_of_lt (Nat.sub_le _ _) t.isLt)).2.2.2.1 (outsAt0 m c (t.val - 1) (lt_of_le_of_lt (Nat.sub_le _ _) t.isLt)).2.2.2.2 (iblk m c 0 t) (scAt m c t) (iblk m c 3 t) (iblk m c 4 t) (outsAt0 m c t.val t.isLt) := by
  rw [outsAt0_B m c t h0 h1]
  have h5 := p5B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (lt_of_le_of_lt (Nat.sub_le _ _) t.isLt)).2.2.2.1 (outsAt0 m c (t.val - 1) (lt_of_le_of_lt (Nat.sub_le _ _) t.isLt)).2.2.2.2
  have h7 := p7B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (lt_of_le_of_lt (Nat.sub_le _ _) t.isLt)).2.2.2.1 (outsAt0 m c (t.val - 1) (lt_of_le_of_lt (Nat.sub_le _ _) t.isLt)).2.2.2.2
  have hw := s1B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (lt_of_le_of_lt (Nat.sub_le _ _) t.isLt)).2.2.2.1 (outsAt0 m c (t.val - 1) (lt_of_le_of_lt (Nat.sub_le _ _) t.isLt)).2.2.2.2
  rw [scB] at h5 h7 hw
  have hz := s0B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (lt_of_le_of_lt (Nat.sub_le _ _) t.isLt)).2.2.2.1 (outsAt0 m c (t.val - 1) (lt_of_le_of_lt (Nat.sub_le _ _) t.isLt)).2.2.2.2
  refine ⟨?_, ?_, ?_, ?_⟩
  · dsimp only; exact h5
  · dsimp only; exact h7
  · dsimp only; exact hz
  · dsimp only; exact hw

theorem scC (t : Fin cfg0.N) (a : Memref sig .tc .vmem S4x1024 .f32) (ha : a.IsWhole) :
    kernelRun0_C.sl.r_4 (F := Ideal) c (grid0.coords t) a ha (iblk m c 1 t) = scAt m c t := by
  unfold kernelRun0_C.sl.r_4
  exact sc_eq m c t a ha _

theorem atC (t : Fin cfg0.N) (h0 : ¬t.val % 64 = 0) (h1 : t.val % 64 = 63) :
    After (outsAt0 m c (t.val - 1) (lt_of_le_of_lt (Nat.sub_le _ _) t.isLt)).2.2.2.1 (outsAt0 m c (t.val - 1) (lt_of_le_of_lt (Nat.sub_le _ _) t.isLt)).2.2.2.2 (iblk m c 0 t) (scAt m c t) (iblk m c 3 t) (iblk m c 4 t) (outsAt0 m c t.val t.isLt) := by
  rw [outsAt0_C m c t h0 h1]
  have h5 := p5C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (lt_of_le_of_lt (Nat.sub_le _ _) t.isLt)).2.2.2.1 (outsAt0 m c (t.val - 1) (lt_of_le_of_lt (Nat.sub_le _ _) t.isLt)).2.2.2.2
  have h7 := p7C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (lt_of_le_of_lt (Nat.sub_le _ _) t.isLt)).2.2.2.1 (outsAt0 m c (t.val - 1) (lt_of_le_of_lt (Nat.sub_le _ _) t.isLt)).2.2.2.2
  have hw := s1C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (lt_of_le_of_lt (Nat.sub_le _ _) t.isLt)).2.2.2.1 (outsAt0 m c (t.val - 1) (lt_of_le_of_lt (Nat.sub_le _ _) t.isLt)).2.2.2.2
  rw [scC] at h5 h7 hw
  have hz := s0C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (lt_of_le_of_lt (Nat.sub_le _ _) t.isLt)).2.2.2.1 (outsAt0 m c (t.val - 1) (lt_of_le_of_lt (Nat.sub_le _ _) t.isLt)).2.2.2.2
  refine ⟨?_, ?_, ?_, ?_⟩
  · dsimp only; exact h5
  · dsimp only; exact h7
  · dsimp only; exact hz
  · dsimp only; exact hw

theorem at6 (t : Fin cfg0.N) (h0 : ¬t.val % 64 = 0) (h1 : t.val % 64 = 63) (y : S4096x128.Idx) :
    (outsAt0 m c t.val t.isLt).2.1 y = (outsAt0 m c t.val t.isLt).2.2.2.2 (ix2 (y 1) (y 0)) := by
  rw [outsAt0_C m c t h0 h1]; dsimp only
  exact (after6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (lt_of_le_of_lt (Nat.sub_le _ _) t.isLt)).2.2.2.1 (outsAt0 m c (t.val - 1) (lt_of_le_of_lt (Nat.sub_le _ _) t.isLt)).2.2.2.2 y).trans (s1C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (lt_of_le_of_lt (Nat.sub_le _ _) t.isLt)).2.2.2.1 (outsAt0 m c (t.val - 1) (lt_of_le_of_lt (Nat.sub_le _ _) t.isLt)).2.2.2.2 (ix2 (y 1) (y 0))).symm

end Cert.Val

end
-- ==== Proof.Val.Spec.lean ====
/- The three results by their indices, as functions of the five arguments. -/

module

public import proofs.«01_k».proof.Proof.Val.Tiles

@[expose] public section

noncomputable section

namespace Cert.Val

open Idealize.ShloMosaic Idealize.ShloMosaic.ValueIdx Cert.KernelIdeal
open scoped BigOperators

/-- The five arguments. -/
structure Args where
  x : S4x16384x4096.Idx → EReal
  sc : S4x16384.Idx → EReal
  w : S4096x128.Idx → EReal
  ids : S4x16384x8.Idx → BitVec 32
  dg : S4x16384x8.Idx → EReal

variable (A : Args)

/-- A logit. -/
def Args.logit (b : Fin 4) (s : Fin 16384) (e : Fin 128) : EReal := (∑ d, A.w (ix2 d e) * A.x (ix3 b s d)) * A.sc (ix2 b s)
/-- The gradient of a logit. -/
def Args.dlog (b : Fin 4) (s : Fin 16384) (e : Fin 128) : EReal :=
  dlogit (A.logit b s) (scat (fun k => A.ids (ix3 b s k)) fun k => A.dg (ix3 b s k)) e
/-- The gradient of a feature. -/
def Args.dx (b : Fin 4) (s : Fin 16384) (d : Fin 4096) : EReal := ∑ e, A.dlog b s e * A.w (ix2 d e)
/-- The gradient of a weight. -/
def Args.dw (d : Fin 4096) (e : Fin 128) : EReal := ∑ b, ∑ s, A.dlog b s e * A.sc (ix2 b s) * A.x (ix3 b s d)

end Cert.Val

end
-- ==== Proof.Val.Arrays.lean ====
/- The kernel's three results by their indices: each point's blocks read off the arguments, and the scratch carried through
   the points summed. -/

module

public import proofs.«01_k».proof.Proof.Val.Points
public import proofs.«01_k».proof.Proof.Val.Spec

@[expose] public section

set_option maxRecDepth 16384

noncomputable section

namespace Cert.Val

open Idealize.ShloMosaic Idealize.ShloMosaic.ValueIdx Cert.KernelIdeal Cert.KernelIdeal.Gen
open scoped BigOperators

variable (m : (ℓ : Loc nD τ sig) → Buf (Elt Ideal) ℓ) (c : Dev nD)

/-- The kernel's arguments. -/
def kargs : Args where
  x := m ((c.tc : Thread nD τ).loc main_arg0)
  sc := m ((c.tc : Thread nD τ).loc main_arg1)
  w := m ((c.tc : Thread nD τ).loc main_arg2)
  ids := m ((c.tc : Thread nD τ).loc main_arg3)
  dg := m ((c.tc : Thread nD τ).loc main_arg4)

/-- The batch a point works on. -/
def bat (n : ℕ) : Fin 4 := ⟨n / 16 % 4, Nat.mod_lt _ (by decide)⟩
/-- A token of a point. -/
def tok (n : ℕ) (s : Fin 1024) : Fin 16384 := ⟨1024 * (n % 16) + s.val, by omega⟩

theorem tN (t : Fin cfg0.N) : t.val < 64 := lt_of_lt_of_eq t.isLt (show cfg0.N = 64 from N_0)

theorem idx0 : ∀ t : Fin cfg0.N, win0_0.index t (0 : Fin 3) = t.val / 16 % 4 ∧ win0_0.index t (1 : Fin 3) = t.val % 16 ∧ win0_0.index t (2 : Fin 3) = 0 :=
  (by decide +kernel : ∀ t : Fin grid0.N, _)
theorem idx1 : ∀ t : Fin cfg0.N, win0_1.index t (0 : Fin 2) = 0 ∧ win0_1.index t (1 : Fin 2) = t.val % 16 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 3) = t.val / 16 % 4 ∧ win0_3.index t (1 : Fin 3) = 0 ∧ win0_3.index t (2 : Fin 3) = t.val % 16 :=
  (by decide +kernel : ∀ t : Fin grid0.N, _)
theorem idx4 : ∀ t : Fin cfg0.N, win0_4.index t (0 : Fin 3) = t.val / 16 % 4 ∧ win0_4.index t (1 : Fin 3) = 0 ∧ win0_4.index t (2 : Fin 3) = t.val % 16 :=
  (by decide +kernel : ∀ t : Fin grid0.N, _)

theorem x_at (t : Fin cfg0.N) (s : Fin 1024) (d : Fin 4096) : Xof (iblk m c 0 t) s d = (kargs m c).x (ix3 (bat t.val) (tok t.val s) d) := by
  obtain ⟨e0, e1, e2⟩ := idx0 t
  refine Eq.trans ?_ (congrFun (V_main_arg0 m c) _)
  show V m c main_arg0 (((cfg0.win 0).blk t).view.emb (ix3 (0 : Fin 1) s d)) = _
  refine congrArg (V m c main_arg0) ?_
  funext a; apply Fin.ext
  match a with
  | ⟨0, _⟩ => show win0_0.index t (0 : Fin 3) * 1 + 1 * 0 = t.val / 16 % 4; omega
  | ⟨1, _⟩ => show win0_0.index t (1 : Fin 3) * 1024 + 1 * s.val = 1024 * (t.val % 16) + s.val; omega
  | ⟨2, _⟩ => show win0_0.index t (2 : Fin 3) * 4096 + 1 * d.val = d.val; omega

theorem s_at (t : Fin cfg0.N) (s : Fin 1024) : Wof (scAt m c t) (0 : Fin 1) s = (kargs m c).sc (ix2 (bat t.val) (tok t.val s)) := by
  obtain ⟨e0, e1⟩ := idx1 t
  have hN := tN t
  refine Eq.trans ?_ (congrFun (V_main_arg1 m c) _)
  show V m c main_arg1 (((cfg0.win 1).blk t).view.emb (ix2 (⟨t.val / 16, _⟩ : Fin 4) (⟨s.val, _⟩ : Fin 1024))) = _
  refine congrArg (V m c main_arg1) ?_
  funext a; apply Fin.ext
  match a with
  | ⟨0, _⟩ => show win0_1.index t (0 : Fin 2) * 4 + 1 * (t.val / 16) = t.val / 16 % 4; omega
  | ⟨1, _⟩ => show win0_1.index t (1 : Fin 2) * 1024 + 1 * s.val = 1024 * (t.val % 16) + s.val; omega

theorem w_at (t : Fin cfg0.N) : (iblk m c 2 t : S4096x128.Idx → EReal) = (kargs m c).w := by
  obtain ⟨e0, e1⟩ := idx2 t
  funext y
  refine Eq.trans ?_ (congrFun (V_main_arg2 m c) _)
  show V m c main_arg2 (((cfg0.win 2).blk t).view.emb y) = _
  refine congrArg (V m c main_arg2) ?_
  funext a; apply Fin.ext
  match a with
  | ⟨0, _⟩ => show win0_2.index t (0 : Fin 2) * 4096 + 1 * (y 0).val = (y 0).val; omega
  | ⟨1, _⟩ => show win0_2.index t (1 : Fin 2) * 128 + 1 * (y 1).val = (y 1).val; omega

theorem V_v0 (b : Fin 4) (k : Fin 8) (s : Fin 16384) : (V m c main_v0 : S4x8x16384.Idx → BitVec 32) (ix3 b k s) = (kargs m c).ids (ix3 b s k) := by
  have h : V m c main_v0 = transpose S4x8x16384 [0, 2, 1] (m ((c.tc : Thread nD τ).loc main_arg3)) transposes_S4x16384x8_S4x8x16384_0_2_1 := by
    unfold V; after_results <;> rfl
  rw [h]
  refine congrArg (kargs m c).ids ?_
  funext a; apply Fin.ext
  match a with
  | ⟨0, _⟩ => rfl
  | ⟨1, _⟩ => rfl
  | ⟨2, _⟩ => rfl

theorem V_v1 (b : Fin 4) (k : Fin 8) (s : Fin 16384) : (V m c main_v1 : S4x8x16384.Idx → EReal) (ix3 b k s) = (kargs m c).dg (ix3 b s k) := by
  have h : V m c main_v1 = transpose S4x8x16384 [0, 2, 1] (m ((c.tc : Thread nD τ).loc main_arg4)) transposes_S4x16384x8_S4x8x16384_0_2_1 := by
    unfold V; after_results <;> rfl
  rw [h]
  refine congrArg (kargs m c).dg ?_
  funext a; apply Fin.ext
  match a with
  | ⟨0, _⟩ => rfl
  | ⟨1, _⟩ => rfl
  | ⟨2, _⟩ => rfl

theorem i_at (t : Fin cfg0.N) (k : Fin 8) (s : Fin 1024) : Kof (iblk m c 3 t) k s = (kargs m c).ids (ix3 (bat t.val) (tok t.val s) k) := by
  obtain ⟨e0, e1, e2⟩ := idx3 t
  rw [← V_v0]
  show V m c main_v0 (((cfg0.win 3).blk t).view.emb (ix3 (0 : Fin 1) k s)) = _
  refine congrArg (V m c main_v0) ?_
  funext a; apply Fin.ext
  match a with
  | ⟨0, _⟩ => show win0_3.index t (0 : Fin 3) * 1 + 1 * 0 = t.val / 16 % 4; omega
  | ⟨1, _⟩ => show win0_3.index t (1 : Fin 3) * 8 + 1 * k.val = k.val; omega
  | ⟨2, _⟩ => show win0_3.index t (2 : Fin 3) * 1024 + 1 * s.val = 1024 * (t.val % 16) + s.val; omega

theorem g_at (t : Fin cfg0.N) (k : Fin 8) (s : Fin 1024) : Kof (iblk m c 4 t) k s = (kargs m c).dg (ix3 (bat t.val) (tok t.val s) k) := by
  obtain ⟨e0, e1, e2⟩ := idx4 t
  rw [← V_v1]
  show V m c main_v1 (((cfg0.win 4).blk t).view.emb (ix3 (0 : Fin 1) k s)) = _
  refine congrArg (V m c main_v1) ?_
  funext a; apply Fin.ext
  match a with
  | ⟨0, _⟩ => show win0_4.index t (0 : Fin 3) * 1 + 1 * 0 = t.val / 16 % 4; omega
  | ⟨1, _⟩ => show win0_4.index t (1 : Fin 3) * 8 + 1 * k.val = k.val; omega
  | ⟨2, _⟩ => show win0_4.index t (2 : Fin 3) * 1024 + 1 * s.val = 1024 * (t.val % 16) + s.val; omega

/-- The gradient of the logits at a point. -/
theorem D_at (t : Fin cfg0.N) (e : Fin 128) (s : Fin 1024) :
    D (wtOf (kargs m c).w) (iblk m c 0 t) (scAt m c t) (iblk m c 3 t) (iblk m c 4 t) e s = (kargs m c).dlog (bat t.val) (tok t.val s) e := by
  unfold D DL Args.dlog
  have hl : (fun e => LG (Wof (wtOf (kargs m c).w)) (Xof (iblk m c 0 t)) (Wof (scAt m c t) (0 : Fin 1)) e s) = (kargs m c).logit (bat t.val) (tok t.val s) := by
    funext e
    unfold LG Args.logit
    rw [s_at]
    simp only [x_at]
    rfl
  rw [hl]
  simp only [i_at, g_at]

/-- What a point adds to a weight's gradient. -/
def part (n : ℕ) (y : S128x4096.Idx) : EReal :=
  ∑ s, (kargs m c).dlog (bat n) (tok n s) (y 0) * (kargs m c).sc (ix2 (bat n) (tok n s)) * (kargs m c).x (ix3 (bat n) (tok n s) (y 1))

theorem part_eq (t : Fin cfg0.N) (acc : S128x4096.Idx → EReal) (y : S128x4096.Idx) :
    addW acc (fun e s => D (wtOf (kargs m c).w) (iblk m c 0 t) (scAt m c t) (iblk m c 3 t) (iblk m c 4 t) e s * Wof (scAt m c t) (0 : Fin 1) s) (iblk m c 0 t) y
      = acc y + part m c t.val y := by
  unfold addW part
  exact congrArg (acc y + ·) (Finset.sum_congr rfl fun s _ => congrArg₂ (· * ·) (congrArg₂ (· * ·) (D_at m c t (y 0) s) (s_at m c t s)) (x_at m c t s (y 1)))

/-- The weights and the sum as they are carried through the points. -/
theorem carried : ∀ (n : ℕ) (hn : n < cfg0.N), (outsAt0 m c n hn).2.2.2.1 = wtOf (kargs m c).w
    ∧ ∀ y, (outsAt0 m c n hn).2.2.2.2 y = ∑ k ∈ Finset.range (n + 1), part m c k y := by
  intro n
  induction n with
  | zero =>
    intro hn
    have h := atA m c ⟨0, hn⟩ (Nat.zero_mod _) (by show ¬ 0 % 64 = 63; decide)
    rw [w_at] at h
    refine ⟨h.wt, fun y => (h.dw y).trans ?_⟩
    rw [part_eq, Finset.sum_range_one, zero_add]
  | succ n ih =>
    intro hn
    obtain ⟨ihw, ihd⟩ := ih (by omega)
    have hN := tN ⟨n + 1, hn⟩
    have h : After (outsAt0 m c n (by omega)).2.2.2.1 (outsAt0 m c n (by omega)).2.2.2.2 (iblk m c 0 ⟨n + 1, hn⟩) (scAt m c ⟨n + 1, hn⟩) (iblk m c 3 ⟨n + 1, hn⟩) (iblk m c 4 ⟨n + 1, hn⟩)
        (outsAt0 m c (n + 1) hn) := by
      by_cases h1 : (n + 1) % 64 = 63
      · exact atC m c ⟨n + 1, hn⟩ (by dsimp only; omega) h1
      · exact atB m c ⟨n + 1, hn⟩ (by dsimp only at hN ⊢; omega) h1
    rw [ihw] at h
    refine ⟨h.wt, fun y => (h.dw y).trans ?_⟩
    rw [part_eq, ihd]
    exact (Finset.sum_range_succ (fun k => part m c k y) (n + 1)).symm

/-- Every point's gradient of the logits and of the features. -/
theorem point (t : Fin cfg0.N) : (∀ y, (outsAt0 m c t.val t.isLt).1 y = ∑ e, (kargs m c).dlog (bat t.val) (tok t.val (y 1)) e * (kargs m c).w (ix2 (y 2) e))
    ∧ ∀ y, (outsAt0 m c t.val t.isLt).2.2.1 y = (kargs m c).dlog (bat t.val) (tok t.val (y 1)) (y 2) := by
  have hN := tN t
  have key : ∀ acc, After (wtOf (kargs m c).w) acc (iblk m c 0 t) (scAt m c t) (iblk m c 3 t) (iblk m c 4 t) (outsAt0 m c t.val t.isLt) →
      (∀ y, (outsAt0 m c t.val t.isLt).1 y = ∑ e, (kargs m c).dlog (bat t.val) (tok t.val (y 1)) e * (kargs m c).w (ix2 (y 2) e))
      ∧ ∀ y, (outsAt0 m c t.val t.isLt).2.2.1 y = (kargs m c).dlog (bat t.val) (tok t.val (y 1)) (y 2) := by
    intro acc h
    exact ⟨fun y => (h.dx y).trans (Finset.sum_congr rfl fun e _ => congrArg (· * _) (D_at m c t e (y 1))), fun y => (h.dl y).trans (D_at m c t _ _)⟩
  by_cases h0 : t.val % 64 = 0
  · have h := atA m c t h0 (by omega)
    rw [w_at] at h
    exact key _ h
  · have hw := (carried m c (t.val - 1) (lt_of_le_of_lt (Nat.sub_le _ _) t.isLt)).1
    by_cases h1 : t.val % 64 = 63
    · have h := atC m c t h0 h1
      rw [hw] at h
      exact key _ h
    · have h := atB m c t h0 h1
      rw [hw] at h
      exact key _ h

/-! ## The three results -/

open Cert.KernelIdeal.Value

theorem bat_at (b : Fin 4) (s : ℕ) (hs : s < 16384) : bat (16 * b.val + s / 1024) = b := by
  apply Fin.ext; show (16 * b.val + s / 1024) / 16 % 4 = b.val; omega

theorem tok_at (b : Fin 4) (s : Fin 16384) (h : s.val % 1024 < 1024) : tok (16 * b.val + s.val / 1024) ⟨s.val % 1024, h⟩ = s := by
  apply Fin.ext; show 1024 * ((16 * b.val + s.val / 1024) % 16) + s.val % 1024 = s.val; omega

theorem G7_at (b : Fin 4) (s : Fin 16384) (e : Fin 128) : (G7 m c : S4x16384x128.Idx → EReal) (ix3 b s e) = (kargs m c).dlog b s e := by
  have hp : pt7Of (ix3 b s e) = 16 * b.val + s.val / 1024 := by
    show 16 * (b.val / 1 - 0) + 1 * (s.val / 1024 - 0) + 1 * (e.val / 128 - 0) = _
    omega
  have hlt : 16 * b.val + s.val / 1024 < cfg0.N := lt_of_lt_of_eq (by omega) (show cfg0.N = 64 from N_0).symm
  unfold G7
  rw [dif_pos (by rw [hp]; exact hlt), fold0_congr m c _ _ (16 * b.val + s.val / 1024) (by omega) hp, ← outsAt0_sweep m c _ hlt]
  refine ((point m c ⟨_, hlt⟩).2 _).trans ?_
  show (kargs m c).dlog (bat (16 * b.val + s.val / 1024)) (tok (16 * b.val + s.val / 1024) ⟨s.val % 1024, _⟩) ⟨e.val % 128, _⟩ = _
  rw [bat_at b s.val s.isLt, tok_at]
  exact congrArg _ (Fin.ext (Nat.mod_eq_of_lt e.isLt))

theorem G5_at (b : Fin 4) (s : Fin 16384) (d : Fin 4096) : (G5 m c : S4x16384x4096.Idx → EReal) (ix3 b s d) = (kargs m c).dx b s d := by
  have hp : pt5Of (ix3 b s d) = 16 * b.val + s.val / 1024 := by
    show 16 * (b.val / 1 - 0) + 1 * (s.val / 1024 - 0) + 1 * (d.val / 4096 - 0) = _
    omega
  have hlt : 16 * b.val + s.val / 1024 < cfg0.N := lt_of_lt_of_eq (by omega) (show cfg0.N = 64 from N_0).symm
  unfold G5
  rw [dif_pos (by rw [hp]; exact hlt), fold0_congr m c _ _ (16 * b.val + s.val / 1024) (by omega) hp, ← outsAt0_sweep m c _ hlt]
  refine ((point m c ⟨_, hlt⟩).1 _).trans ?_
  show ∑ e, (kargs m c).dlog (bat (16 * b.val + s.val / 1024)) (tok (16 * b.val + s.val / 1024) ⟨s.val % 1024, _⟩) e * (kargs m c).w (ix2 ⟨d.val % 4096, _⟩ e) = _
  rw [bat_at b s.val s.isLt, tok_at]
  have hd : (⟨d.val % 4096, Nat.mod_lt _ (by decide)⟩ : Fin 4096) = d := Fin.ext (Nat.mod_eq_of_lt d.isLt)
  rw [hd]; rfl

/-- A sum over the points and their tokens is one over the batches and theirs. -/
theorem sum_points (f : Fin 4 → Fin 16384 → EReal) : ∑ k ∈ Finset.range 64, ∑ s, f (bat k) (tok k s) = ∑ b, ∑ s, f b s := by
  rw [Finset.sum_range (n := 64) fun k => ∑ s, f (bat k) (tok k s)]
  refine (sum_blocks 4 16 fun k : Fin (4 * 16) => ∑ s, f (bat k.val) (tok k.val s)).trans (Finset.sum_congr rfl fun b _ => ?_)
  refine Eq.trans (Finset.sum_congr rfl fun j _ => Finset.sum_congr rfl fun s _ => ?_) (sum_blocks 16 1024 fun s : Fin (16 * 1024) => f b s).symm
  have h : (finProdFinEquiv (b, j) : Fin (4 * 16)).val = j.val + 16 * b.val := rfl
  have h' : (finProdFinEquiv (j, s) : Fin (16 * 1024)).val = s.val + 1024 * j.val := rfl
  refine congrArg₂ f (Fin.ext ?_) (Fin.ext ?_)
  · show (finProdFinEquiv (b, j) : Fin (4 * 16)).val / 16 % 4 = b.val
    rw [h]; omega
  · show 1024 * ((finProdFinEquiv (b, j) : Fin (4 * 16)).val % 16) + s.val = (finProdFinEquiv (j, s) : Fin (16 * 1024)).val
    rw [h, h']; omega

theorem last (t : Fin cfg0.N) (h0 : ¬t.val % 64 = 0) (h1 : t.val % 64 = 63) (d : Fin 4096) (e : Fin 128) :
    (outsAt0 m c t.val t.isLt).2.1 (ix2 d e) = ∑ k ∈ Finset.range (t.val + 1), part m c k (ix2 e d) :=
  (at6 m c t h0 h1 (ix2 d e)).trans ((carried m c t.val t.isLt).2 _)

theorem sum_parts (d : Fin 4096) (e : Fin 128) : ∑ k ∈ Finset.range 64, part m c k (ix2 e d) = (kargs m c).dw d e := by
  unfold part Args.dw
  exact sum_points fun b s => (kargs m c).dlog b s e * (kargs m c).sc (ix2 b s) * (kargs m c).x (ix3 b s d)

theorem lastN (n : ℕ) (hn : n < cfg0.N) (h0 : ¬n % 64 = 0) (h1 : n % 64 = 63) (d : Fin 4096) (e : Fin 128) :
    (outsAt0 m c n hn).2.1 (ix2 d e) = ∑ k ∈ Finset.range (n + 1), part m c k (ix2 e d) := last m c ⟨n, hn⟩ h0 h1 d e

theorem G6_at (d : Fin 4096) (e : Fin 128) : (G6 m c : S4096x128.Idx → EReal) (ix2 d e) = (kargs m c).dw d e := by
  have hlt : 63 < cfg0.N := lt_of_lt_of_eq (by decide) (show cfg0.N = 64 from N_0).symm
  have h := lastN m c 63 hlt (by decide) (by decide) d e
  have hg : G6 m c = (outsAt0 m c 63 hlt).2.1 := by rw [G6_last, ← outsAt0_sweep m c 63 hlt]
  rw [hg, h]
  exact sum_parts m c d e

end Cert.Val

end
-- ==== Proof.Val.Routed.lean ====
/- What the precondition says of one token: its experts are distinct and in range, and no gradient is the mark. -/

module

public import proofs.«01_k».proof.Proof.Gen.Pre_routed
public import proofs.«01_k».proof.Proof.Val.Tiles
public import Idealize.ShloMosaic.Lib.ReduceAll
public import Idealize.ShloMosaic.Lib.IdealHost

@[expose] public section

set_option maxRecDepth 16384

noncomputable section

namespace Cert.Ref

open Idealize.ShloMosaic Idealize.ShloMosaic.ValueIdx Cert.Pre_routed

section Bcast
variable {α : Type}
theorem pbR (x : S4x16384x8.Idx → α) (b : Fin 4) (s : Fin 16384) (j k : Fin 8) :
    broadcastInDim S4x16384x8x8 ![0, 1, 2, 3] Facts.bcast_S4x16384x8x1_S4x16384x8x8_0_1_2_3
      (broadcastInDim S4x16384x8x1 ![0, 1, 2] Facts.bcast_S4x16384x8_S4x16384x8x1_0_1_2 x) (ix4 b s j k) = x (ix3 b s j) :=
  (broadcastInDim_apply _ _ _ _ (ix4 b s j (0 : Fin 1)) fun a => by fin_cases a <;> rfl).trans
    (broadcastInDim_apply _ _ x _ _ fun a => by fin_cases a <;> rfl)
theorem pbC (x : S4x16384x8.Idx → α) (b : Fin 4) (s : Fin 16384) (j k : Fin 8) :
    broadcastInDim S4x16384x8x8 ![0, 1, 2, 3] Facts.bcast_S4x16384x1x8_S4x16384x8x8_0_1_2_3
      (broadcastInDim S4x16384x1x8 ![0, 1, 3] Facts.bcast_S4x16384x8_S4x16384x1x8_0_1_3 x) (ix4 b s j k) = x (ix3 b s k) :=
  (broadcastInDim_apply _ _ _ _ (ix4 b s (0 : Fin 1) k) fun a => by fin_cases a <;> rfl).trans
    (broadcastInDim_apply _ _ x _ _ fun a => by fin_cases a <;> rfl)
theorem pbM (x : S8x8.Idx → α) (b : Fin 4) (s : Fin 16384) (j k : Fin 8) :
    broadcastInDim S4x16384x8x8 ![0, 1, 2, 3] Facts.bcast_S1x1x8x8_S4x16384x8x8_0_1_2_3
      (broadcastInDim S1x1x8x8 ![2, 3] Facts.bcast_S8x8_S1x1x8x8_2_3 x) (ix4 b s j k) = x (ix2 j k) :=
  (broadcastInDim_apply _ _ _ _ (ix4 (0 : Fin 1) (0 : Fin 1) j k) fun a => by fin_cases a <;> rfl).trans
    (broadcastInDim_apply _ _ x _ _ fun a => by fin_cases a <;> rfl)
theorem pbL (x : S8.Idx → α) (j k : Fin 8) :
    broadcastInDim S8x8 ![0, 1] Facts.bcast_S8x1_S8x8_0_1 (broadcastInDim S8x1 ![0] Facts.bcast_S8_S8x1_0 x) (ix2 j k) = x (ix1 j) :=
  (broadcastInDim_apply _ _ _ _ (ix2 j (0 : Fin 1)) fun a => by fin_cases a <;> rfl).trans
    (broadcastInDim_apply _ _ x _ _ fun a => by fin_cases a; rfl)
theorem pbT (x : S8.Idx → α) (j k : Fin 8) :
    broadcastInDim S8x8 ![0, 1] Facts.bcast_S1x8_S8x8_0_1 (broadcastInDim S1x8 ![1] Facts.bcast_S8_S1x8_1 x) (ix2 j k) = x (ix1 k) :=
  (broadcastInDim_apply _ _ _ _ (ix2 (0 : Fin 1) k) fun a => by fin_cases a <;> rfl).trans
    (broadcastInDim_apply _ _ x _ _ fun a => by fin_cases a; rfl)
end Bcast

instance : Subsingleton S_.Idx := ⟨fun a b => funext fun i => i.elim0⟩

variable (x : FVec Ideal S4x16384x4096 .fp8e4m3) (sc : FVec Ideal S4x16384 .f32) (w : FVec Ideal S4096x128 .bf16)
  (ids : IVec S4x16384x8 32) (dg : FVec Ideal S4x16384x8 .bf16)

/-- The three conjuncts, each at every index. -/
theorem routed_split (h : fn (F := Ideal) x sc w ids dg = fun _ => 1#1) :
    (∀ b s k, IntOp.andi (IntOp.cmpi .sge (ids (ix3 b s k)) 0#32) (IntOp.cmpi .slt (ids (ix3 b s k)) 128#32) = 1#1)
    ∧ (∀ b s j k, IntOp.andi (IntOp.cmpi .eq (ids (ix3 b s j)) (ids (ix3 b s k))) (IntOp.cmpi .slt (BitVec.ofNat 32 (j : Fin 8).val) (BitVec.ofNat 32 (k : Fin 8).val)) = 0#1)
    ∧ (∀ b s k, Ideal.cmp .une (dg (ix3 b s k)) Cert.Val.NS = 1#1) := by
  have e := congrFun h ix0
  dsimp only [fn, fn_part1] at e
  obtain ⟨e1, e3⟩ := IntOp.andi_eq_one.1 e
  obtain ⟨e1, e2⟩ := IntOp.andi_eq_one.1 e1
  refine ⟨fun b s k => ?_, fun b s j k => ?_, fun b s k => ?_⟩
  · exact Host.reduce_andi_all _ _ _ _ _ e1 (ix3 b s k)
  · have h := Host.reduce_andi_all _ _ _ _ _ e2 (ix4 b s j k)
    have h1 : ~~~ (IntOp.andi (IntOp.cmpi .eq (ids (ix3 b s j)) (ids (ix3 b s k))) (IntOp.cmpi .slt (BitVec.ofNat 32 (j : Fin 8).val) (BitVec.ofNat 32 (k : Fin 8).val))) = 1#1 := by
      rw [← h]
      refine congrArg (fun t : BitVec 1 => ~~~ t) (congrArg₂ IntOp.andi (congrArg₂ (IntOp.cmpi .eq) (pbR ids b s j k) (pbC ids b s j k)) ?_).symm
      refine (pbM _ b s j k).trans (congrArg₂ (IntOp.cmpi .slt) (pbL _ j k) (pbT _ j k))
    exact (by decide : ∀ t : BitVec 1, ~~~ t = 1#1 → t = 0#1) _ h1
  · exact Host.reduce_andi_all _ _ _ _ _ e3 (ix3 b s k)

theorem ofBool_one {p : Bool} (h : BitVec.ofBool p = 1#1) : p = true := by cases p with | false => exact absurd h (by decide) | true => rfl
theorem in_range (a : BitVec 32) (h : IntOp.andi (IntOp.cmpi .sge a 0#32) (IntOp.cmpi .slt a 128#32) = 1#1) : a.toNat < 128 := by
  obtain ⟨h1, h2⟩ := IntOp.andi_eq_one.1 h
  have h1 : (0#32).sle a = true := ofBool_one h1
  have h2 : a.slt 128#32 = true := ofBool_one h2
  rw [BitVec.sle_iff_toInt_le] at h1
  rw [BitVec.slt_iff_toInt_lt] at h2
  have e0 : (0#32).toInt = 0 := by decide
  have e1 : (128#32).toInt = 128 := by decide
  rw [e0] at h1
  rw [e1] at h2
  have := BitVec.toInt_eq_toNat_cond a
  have := a.isLt
  split at * <;> omega

/-- Each token's identifiers name distinct experts, and none of its gradients is the mark. -/
theorem routed_tok (h : fn (F := Ideal) x sc w ids dg = fun _ => 1#1) (b : Fin 4) (s : Fin 16384) :
    ∃ ι : Fin 8 → Fin 128, (∀ k, ids (ix3 b s k) = BitVec.ofNat 32 (ι k).val) ∧ Function.Injective ι ∧ ∀ k, dg (ix3 b s k) ≠ Cert.Val.NS := by
  obtain ⟨h1, h2, h3⟩ := routed_split x sc w ids dg h
  have hr : ∀ k, (ids (ix3 b s k)).toNat < 128 := fun k => in_range _ (h1 b s k)
  have hlt : ∀ j k : Fin 8, j < k → ids (ix3 b s j) ≠ ids (ix3 b s k) := by
    intro j k hjk he
    have h := h2 b s j k
    rw [he] at h
    have hc : IntOp.cmpi .eq (ids (ix3 b s k)) (ids (ix3 b s k)) = 1#1 := congrArg BitVec.ofBool (beq_self_eq_true _)
    have hs : IntOp.cmpi .slt (BitVec.ofNat 32 j.val) (BitVec.ofNat 32 k.val) = 1#1 := by
      exact (by decide : ∀ j k : Fin 8, j < k → IntOp.cmpi .slt (BitVec.ofNat 32 j.val) (BitVec.ofNat 32 k.val) = 1#1) j k hjk
    rw [hc, hs] at h
    exact absurd h (by decide)
  refine ⟨fun k => ⟨(ids (ix3 b s k)).toNat, hr k⟩, fun k => ?_, fun j k hjk => ?_, fun k hk => ?_⟩
  · exact BitVec.eq_of_toNat_eq (by rw [BitVec.toNat_ofNat, Nat.mod_eq_of_lt (ids (ix3 b s k)).isLt])
  · have he : ids (ix3 b s j) = ids (ix3 b s k) := BitVec.eq_of_toNat_eq (Fin.mk.inj hjk)
    rcases lt_trichotomy j k with hl | hl | hl
    · exact absurd he (hlt j k hl)
    · exact hl
    · exact absurd he.symm (hlt k j hl)
  · have := ofBool_one (h3 b s k)
    exact of_decide_eq_true this hk

end Cert.Ref

end

end
-- ==== Proof.Val.RefHost.lean ====
/- The reference's host program, step by step: what each of its last operations holds as a function of the arguments. -/

module

public import proofs.«01_k».proof.Proof.Gen.ReferenceIdeal.Frame
public import proofs.«01_k».proof.Proof.Val.Spec
public import Idealize.ShloMosaic.Lib.Pipeline.Value
public import Idealize.ShloMosaic.Lib.ValueLayout

@[expose] public section

set_option maxRecDepth 16384

noncomputable section

namespace Cert.Ref

open Idealize.ShloMosaic Idealize.ShloMosaic.TcCoe Idealize.ShloMosaic.ValueIdx Cert.ReferenceIdeal Cert.ReferenceIdeal.Gen

/-- The logits. -/
def aLogit (x : FVec Ideal S4x16384x4096 .bf16) (w : FVec Ideal S4096x128 .bf16) (sc : FVec Ideal S4x16384 .f32) : FVec Ideal S4x16384x128 .f32 :=
  mulf (Host.dotGeneral dot_S4x16384x4096_S4096x128_S4x16384x128_2_0_01_1_n_n none x w)
    (broadcastInDim S4x16384x128 ![0, 1, 2] bcast_S4x16384x1_S4x16384x128_0_1_2 (broadcastInDim S4x16384x1 ![0, 1] bcast_S4x16384_S4x16384x1_0_1 sc))

/-- Which expert each of a token's eight identifiers names. -/
def aSel (ids : IVec S4x16384x8 32) : IVec S4x16384x8x128 1 :=
  cmpi .eq (broadcastInDim S4x16384x8x128 ![0, 1, 2, 3] bcast_S4x16384x8x1_S4x16384x8x128_0_1_2_3 (broadcastInDim S4x16384x8x1 ![0, 1, 2] bcast_S4x16384x8_S4x16384x8x1_0_1_2 ids))
    (broadcastInDim S4x16384x8x128 ![0, 1, 2, 3] bcast_S1x1x1x128_S4x16384x8x128_0_1_2_3 (broadcastInDim S1x1x1x128 ![3] bcast_S128_S1x1x1x128_3 (iotaInDim S128 32 0)))

/-- Zero over the experts. -/
def aZero : FVec Ideal S4x16384x8x128 .f32 := broadcastInDim S4x16384x8x128 ![] bcast_S_S4x16384x8x128 (constant S_ .f32 0x00000000#32)

/-- The chosen experts' logits. -/
def aPick (sel : IVec S4x16384x8x128 1) (l : FVec Ideal S4x16384x128 .f32) : FVec Ideal S4x16384x8 .f32 :=
  Host.reduceAdd (select sel (broadcastInDim S4x16384x8x128 ![0, 1, 2, 3] bcast_S4x16384x1x128_S4x16384x8x128_0_1_2_3
    (broadcastInDim S4x16384x1x128 ![0, 1, 3] bcast_S4x16384x128_S4x16384x1x128_0_1_3 l)) aZero)
    (constant S_ .f32 0x00000000#32) reducesTo_S4x16384x8x128_S4x16384x8_d3 h_S_

/-- A shift where it is a number, and zero elsewhere. -/
def aShift (r : FVec Ideal S4x16384x1 .f32) : FVec Ideal S4x16384x1 .f32 :=
  select (cmpf .olt (Host.absf r) (broadcastInDim S4x16384x1 ![] bcast_S_S4x16384x1 (constant S_ .f32 0x7F800000#32))) r
    (broadcastInDim S4x16384x1 ![] bcast_S_S4x16384x1 (constant S_ .f32 0x00000000#32))

/-- The shift of the eight chosen logits. -/
def aTop8 (u : FVec Ideal S4x16384x8 .f32) : FVec Ideal S4x16384x1 .f32 :=
  aShift (broadcastInDim S4x16384x1 ![0, 1] bcast_S4x16384_S4x16384x1_0_1
    (Host.reduce FloatOps.maximumf u (constant S_ .f32 0xFF800000#32) reducesTo_S4x16384x8_S4x16384_d2 h_S_))

/-- The logarithm of the sum of the exponentials of eight. -/
def aLse8 (u : FVec Ideal S4x16384x8 .f32) : FVec Ideal S4x16384x1 .f32 :=
  addf (Host.log (broadcastInDim S4x16384x1 ![0, 1] bcast_S4x16384_S4x16384x1_0_1
    (Host.reduceAdd (Host.exp (subf u (broadcastInDim S4x16384x8 ![0, 1, 2] bcast_S4x16384x1_S4x16384x8_0_1_2 (aTop8 u))))
      (constant S_ .f32 0x00000000#32) reducesTo_S4x16384x8_S4x16384_d2 h_S_))) (aTop8 u)

/-- The gates. -/
def aGate (u : FVec Ideal S4x16384x8 .f32) : FVec Ideal S4x16384x8 .f32 :=
  Host.exp (subf u (broadcastInDim S4x16384x8 ![0, 1, 2] bcast_S4x16384x1_S4x16384x8_0_1_2 (aLse8 u)))

/-- The gradient of the chosen logits through the gates. -/
def aDsel (g dg : FVec Ideal S4x16384x8 .f32) : FVec Ideal S4x16384x8 .f32 :=
  mulf g (subf dg (broadcastInDim S4x16384x8 ![0, 1, 2] bcast_S4x16384x1_S4x16384x8_0_1_2 (broadcastInDim S4x16384x1 ![0, 1] bcast_S4x16384_S4x16384x1_0_1
    (Host.reduceAdd (mulf g dg) (constant S_ .f32 0x00000000#32) reducesTo_S4x16384x8_S4x16384_d2 h_S_))))

/-- The shift of all logits. -/
def aTop (u : FVec Ideal S4x16384x128 .f32) : FVec Ideal S4x16384x1 .f32 :=
  aShift (broadcastInDim S4x16384x1 ![0, 1] bcast_S4x16384_S4x16384x1_0_1
    (Host.reduce FloatOps.maximumf u (constant S_ .f32 0xFF800000#32) reducesTo_S4x16384x128_S4x16384_d2 h_S_))

/-- The logarithm of the sum of the exponentials of all logits. -/
def aLse (u : FVec Ideal S4x16384x128 .f32) : FVec Ideal S4x16384x1 .f32 :=
  addf (Host.log (broadcastInDim S4x16384x1 ![0, 1] bcast_S4x16384_S4x16384x1_0_1
    (Host.reduceAdd (Host.exp (subf u (broadcastInDim S4x16384x128 ![0, 1, 2] bcast_S4x16384x1_S4x16384x128_0_1_2 (aTop u))))
      (constant S_ .f32 0x00000000#32) reducesTo_S4x16384x128_S4x16384_d2 h_S_))) (aTop u)

/-- The gradient of the z-loss. -/
def aDz (u : FVec Ideal S4x16384x128 .f32) : FVec Ideal S4x16384x128 .f32 :=
  mulf (broadcastInDim S4x16384x128 ![0, 1, 2] bcast_S4x16384x1_S4x16384x128_0_1_2
      (mulf (broadcastInDim S4x16384x1 ![] bcast_S_S4x16384x1 (constant S_ .f32 0x3CA3D70A#32)) (aLse u)))
    (Host.exp (subf u (broadcastInDim S4x16384x128 ![0, 1, 2] bcast_S4x16384x1_S4x16384x128_0_1_2 (aLse u))))

/-- The gradient of the logits. -/
def aDlog (sel : IVec S4x16384x8x128 1) (u : FVec Ideal S4x16384x128 .f32) (ds : FVec Ideal S4x16384x8 .f32) : FVec Ideal S4x16384x128 .f32 :=
  addf (aDz u) (Host.reduceAdd (select sel (broadcastInDim S4x16384x8x128 ![0, 1, 2, 3] bcast_S4x16384x8x1_S4x16384x8x128_0_1_2_3
    (broadcastInDim S4x16384x8x1 ![0, 1, 2] bcast_S4x16384x8_S4x16384x8x1_0_1_2 ds)) aZero)
    (constant S_ .f32 0x00000000#32) reducesTo_S4x16384x8x128_S4x16384x128_d2 h_S_)

/-- The gradient of the activations. -/
def aDx (d : FVec Ideal S4x16384x128 .f32) (w : FVec Ideal S4096x128 .bf16) : FVec Ideal S4x16384x4096 .bf16 :=
  truncf .bf16 (Host.dotGeneral (φ₁ := .bf16) dot_S4x16384x128_S4096x128_S4x16384x4096_2_1_01_0_n_n none (truncf .bf16 d bitsLt_bf16_f32) w : FVec Ideal S4x16384x4096 .f32) bitsLt_bf16_f32

/-- The gradient of the router's weights. -/
def aDw (x : FVec Ideal S4x16384x4096 .bf16) (d : FVec Ideal S4x16384x128 .f32) (sc : FVec Ideal S4x16384 .f32) : FVec Ideal S4096x128 .f32 :=
  Host.dotGeneral (φ₂ := .bf16) dot_S4x16384x4096_S4x16384x128_S4096x128_01_01_2_2_n_n none x
    (mulf (truncf .bf16 d bitsLt_bf16_f32 : FVec Ideal S4x16384x128 .bf16)
      (broadcastInDim S4x16384x128 ![0, 1, 2] bcast_S4x16384x1_S4x16384x128_0_1_2
        (truncf .bf16 (broadcastInDim S4x16384x1 ![0, 1] bcast_S4x16384_S4x16384x1_0_1 sc) bitsLt_bf16_f32)))

variable (V : Valuation τ sig (Elt Ideal))

/-! ## Each line of the program -/

theorem l0_v4 : StableHlo.after (hostOps1 (F := Ideal)) V (Proc.devRef .tc main_v4) = aLogit (V (Proc.devRef .tc main_v0)) (V (Proc.devRef .tc main_arg2)) (V (Proc.devRef .tc main_arg1)) := by
  after_results <;> rfl
theorem l0_v10 : StableHlo.after (hostOps1 (F := Ideal)) V (Proc.devRef .tc main_v10) = aSel (V (Proc.devRef .tc main_arg3)) := by
  after_results <;> rfl
theorem l0_v11 : StableHlo.after (hostOps1 (F := Ideal)) V (Proc.devRef .tc main_v11) = broadcastInDim S4x16384x1x128 ![0, 1, 3] bcast_S4x16384x128_S4x16384x1x128_0_1_3 (aLogit (V (Proc.devRef .tc main_v0)) (V (Proc.devRef .tc main_arg2)) (V (Proc.devRef .tc main_arg1))) := by
  after_results <;> rfl
theorem l0_cst : StableHlo.after (hostOps1 (F := Ideal)) V (Proc.devRef .tc main_cst) = constant (F := Ideal) S_ .f32 0x00000000#32 := by
  after_results <;> rfl

theorem l1_v12 : StableHlo.after (hostOps1_1 (F := Ideal)) V (Proc.devRef .tc main_v12) = select (V (Proc.devRef .tc main_v10)) (broadcastInDim S4x16384x8x128 ![0, 1, 2, 3] bcast_S4x16384x1x128_S4x16384x8x128_0_1_2_3 (V (Proc.devRef .tc main_v11)))
    (broadcastInDim S4x16384x8x128 ![] bcast_S_S4x16384x8x128 (V (Proc.devRef .tc main_cst))) := by
  after_results <;> rfl

theorem l2_v13 : StableHlo.after (hostOps1_2 (F := Ideal)) V (Proc.devRef .tc main_v13) = Host.reduceAdd (F := Ideal) (φ := .f32) (V (Proc.devRef .tc main_v12)) (constant S_ .f32 0x00000000#32) reducesTo_S4x16384x8x128_S4x16384x8_d3 h_S_ := by
  after_results <;> rfl
theorem l2_v15 : StableHlo.after (hostOps1_2 (F := Ideal)) V (Proc.devRef .tc main_v15) = broadcastInDim S4x16384x1 ![0, 1] bcast_S4x16384_S4x16384x1_0_1
    (Host.reduce FloatOps.maximumf (Host.reduceAdd (F := Ideal) (φ := .f32) (V (Proc.devRef .tc main_v12)) (constant S_ .f32 0x00000000#32) reducesTo_S4x16384x8x128_S4x16384x8_d3 h_S_) (constant S_ .f32 0xFF800000#32) reducesTo_S4x16384x8_S4x16384_d2 h_S_) := by
  after_results <;> rfl
theorem l2_v18 : StableHlo.after (hostOps1_2 (F := Ideal)) V (Proc.devRef .tc main_v18) = cmpf .olt (Host.absf (broadcastInDim S4x16384x1 ![0, 1] bcast_S4x16384_S4x16384x1_0_1
    (Host.reduce FloatOps.maximumf (Host.reduceAdd (F := Ideal) (φ := .f32) (V (Proc.devRef .tc main_v12)) (constant S_ .f32 0x00000000#32) reducesTo_S4x16384x8x128_S4x16384x8_d3 h_S_) (constant S_ .f32 0xFF800000#32) reducesTo_S4x16384x8_S4x16384_d2 h_S_)))
      (broadcastInDim S4x16384x1 ![] bcast_S_S4x16384x1 (constant S_ .f32 0x7F800000#32)) := by
  after_results <;> rfl
theorem l2_cst_3 : StableHlo.after (hostOps1_2 (F := Ideal)) V (Proc.devRef .tc main_cst_3) = constant (F := Ideal) S_ .f32 0x00000000#32 := by
  after_results <;> rfl

theorem l3_v19 : StableHlo.after (hostOps1_3 (F := Ideal)) V (Proc.devRef .tc main_v19) = select (V (Proc.devRef .tc main_v18)) (V (Proc.devRef .tc main_v15)) (broadcastInDim S4x16384x1 ![] bcast_S_S4x16384x1 (V (Proc.devRef .tc main_cst_3))) := by
  after_results <;> rfl

theorem l4_v36 (u : FVec Ideal S4x16384x8 .f32) (hu : V (Proc.devRef .tc main_v13) = u) (ht : V (Proc.devRef .tc main_v19) = aTop8 u) :
    StableHlo.after (hostOps1_4 (F := Ideal)) V (Proc.devRef .tc main_v36) = aDsel (aGate u) (extf .f32 (V (Proc.devRef .tc main_arg4) : FVec Ideal S4x16384x8 .bf16) bitsLt_bf16_f32) := by
  after_results
  rw [hu, ht]; rfl
theorem l4_v38 : StableHlo.after (hostOps1_4 (F := Ideal)) V (Proc.devRef .tc main_v38) = broadcastInDim S4x16384x1 ![0, 1] bcast_S4x16384_S4x16384x1_0_1
    (Host.reduce (FloatOps.maximumf (F := Ideal) (φ := .f32)) (V (Proc.devRef .tc main_v4)) (constant S_ .f32 0xFF800000#32) reducesTo_S4x16384x128_S4x16384_d2 h_S_) := by
  after_results <;> rfl
theorem l4_v41 : StableHlo.after (hostOps1_4 (F := Ideal)) V (Proc.devRef .tc main_v41) = cmpf .olt (Host.absf (broadcastInDim S4x16384x1 ![0, 1] bcast_S4x16384_S4x16384x1_0_1
    (Host.reduce (FloatOps.maximumf (F := Ideal) (φ := .f32)) (V (Proc.devRef .tc main_v4)) (constant S_ .f32 0xFF800000#32) reducesTo_S4x16384x128_S4x16384_d2 h_S_)))
      (broadcastInDim S4x16384x1 ![] bcast_S_S4x16384x1 (constant S_ .f32 0x7F800000#32)) := by
  after_results <;> rfl
theorem l4_cst_8 : StableHlo.after (hostOps1_4 (F := Ideal)) V (Proc.devRef .tc main_cst_8) = constant (F := Ideal) S_ .f32 0x00000000#32 := by
  after_results <;> rfl

theorem l5_v42 : StableHlo.after (hostOps1_5 (F := Ideal)) V (Proc.devRef .tc main_v42) = select (V (Proc.devRef .tc main_v41)) (V (Proc.devRef .tc main_v38)) (broadcastInDim S4x16384x1 ![] bcast_S_S4x16384x1 (V (Proc.devRef .tc main_cst_8))) := by
  after_results <;> rfl

theorem l6_v56 (u : FVec Ideal S4x16384x128 .f32) (hu : V (Proc.devRef .tc main_v4) = u) (ht : V (Proc.devRef .tc main_v42) = aTop u) : StableHlo.after (hostOps1_6 (F := Ideal)) V (Proc.devRef .tc main_v56) = aDz u := by
  after_results
  rw [hu, ht]; rfl
theorem l6_v57 : StableHlo.after (hostOps1_6 (F := Ideal)) V (Proc.devRef .tc main_v57) = broadcastInDim S4x16384x8x1 ![0, 1, 2] bcast_S4x16384x8_S4x16384x8x1_0_1_2 (V (Proc.devRef .tc main_v36)) := by
  after_results <;> rfl
theorem l6_cst_11 : StableHlo.after (hostOps1_6 (F := Ideal)) V (Proc.devRef .tc main_cst_11) = constant (F := Ideal) S_ .f32 0x00000000#32 := by
  after_results <;> rfl

theorem l7_v58 : StableHlo.after (hostOps1_7 (F := Ideal)) V (Proc.devRef .tc main_v58) = select (V (Proc.devRef .tc main_v10)) (broadcastInDim S4x16384x8x128 ![0, 1, 2, 3] bcast_S4x16384x8x1_S4x16384x8x128_0_1_2_3 (V (Proc.devRef .tc main_v57)))
    (broadcastInDim S4x16384x8x128 ![] bcast_S_S4x16384x8x128 (V (Proc.devRef .tc main_cst_11))) := by
  after_results <;> rfl

theorem l8_v60 : StableHlo.after (hostOps1_8 (F := Ideal)) V (Proc.devRef .tc main_v60) = addf (F := Ideal) (φ := .f32) (V (Proc.devRef .tc main_v56)) (Host.reduceAdd (F := Ideal) (φ := .f32) (V (Proc.devRef .tc main_v58)) (constant S_ .f32 0x00000000#32) reducesTo_S4x16384x8x128_S4x16384x128_d2 h_S_) := by
  after_results <;> rfl
theorem l8_v63 : StableHlo.after (hostOps1_8 (F := Ideal)) V (Proc.devRef .tc main_v63) = aDx (addf (F := Ideal) (φ := .f32) (V (Proc.devRef .tc main_v56)) (Host.reduceAdd (F := Ideal) (φ := .f32) (V (Proc.devRef .tc main_v58)) (constant S_ .f32 0x00000000#32) reducesTo_S4x16384x8x128_S4x16384x128_d2 h_S_)) (V (Proc.devRef .tc main_arg2)) := by
  after_results <;> rfl
theorem l8_v68 : StableHlo.after (hostOps1_8 (F := Ideal)) V (Proc.devRef .tc main_v68) = aDw (V (Proc.devRef .tc main_v0)) (addf (F := Ideal) (φ := .f32) (V (Proc.devRef .tc main_v56)) (Host.reduceAdd (F := Ideal) (φ := .f32) (V (Proc.devRef .tc main_v58)) (constant S_ .f32 0x00000000#32) reducesTo_S4x16384x8x128_S4x16384x128_d2 h_S_)) (V (Proc.devRef .tc main_arg1)) := by
  after_results <;> rfl

/-! ## The program from its first line to its last -/

/-- The contents after the first lines. -/
def W1 := StableHlo.after (hostOps1 (F := Ideal)) V
def W2 := StableHlo.after (hostOps1_1 (F := Ideal)) (W1 V)
def W3 := StableHlo.after (hostOps1_2 (F := Ideal)) (W2 V)
def W4 := StableHlo.after (hostOps1_3 (F := Ideal)) (W3 V)
def W5 := StableHlo.after (hostOps1_4 (F := Ideal)) (W4 V)
def W6 := StableHlo.after (hostOps1_5 (F := Ideal)) (W5 V)
def W7 := StableHlo.after (hostOps1_6 (F := Ideal)) (W6 V)
def W8 := StableHlo.after (hostOps1_7 (F := Ideal)) (W7 V)
def W9 := StableHlo.after (hostOps1_8 (F := Ideal)) (W8 V)

theorem after_all : StableHlo.after (List.flatten [hostOps1 (F := Ideal), hostOps1_1, hostOps1_2, hostOps1_3, hostOps1_4, hostOps1_5, hostOps1_6, hostOps1_7, hostOps1_8]) V = W9 V := by
  simp only [List.flatten_cons, List.flatten_nil, List.append_nil, StableHlo.after_append]
  rfl

/-- A buffer no line writes keeps its contents. -/
theorem keep {r : Ref sig .tc} (h0 : r ∉ hostOps1_W) (h1 : r ∉ hostOps1_1_W) (h2 : r ∉ hostOps1_2_W) (h3 : r ∉ hostOps1_3_W) (h4 : r ∉ hostOps1_4_W)
    (h5 : r ∉ hostOps1_5_W) (h6 : r ∉ hostOps1_6_W) (h7 : r ∉ hostOps1_7_W) : W8 V (Proc.devRef .tc r) = V (Proc.devRef .tc r) := by
  unfold W8 W7 W6 W5 W4 W3 W2 W1
  rw [StableHlo.after_of_writes_sub (r := r) hostOps1_7 _ hostOps1_7_writes h7,
    StableHlo.after_of_writes_sub (r := r) hostOps1_6 _ hostOps1_6_writes h6,
    StableHlo.after_of_writes_sub (r := r) hostOps1_5 _ hostOps1_5_writes h5,
    StableHlo.after_of_writes_sub (r := r) hostOps1_4 _ hostOps1_4_writes h4,
    StableHlo.after_of_writes_sub (r := r) hostOps1_3 _ hostOps1_3_writes h3,
    StableHlo.after_of_writes_sub (r := r) hostOps1_2 _ hostOps1_2_writes h2,
    StableHlo.after_of_writes_sub (r := r) hostOps1_1 _ hostOps1_1_writes h1,
    StableHlo.after_of_writes_sub (r := r) hostOps1 _ hostOps1_writes h0]
theorem w1_v4 : W1 V (Proc.devRef .tc main_v4) = aLogit (V (Proc.devRef .tc main_v0)) (V (Proc.devRef .tc main_arg2)) (V (Proc.devRef .tc main_arg1)) := by
  exact l0_v4 V
theorem w1_v10 : W1 V (Proc.devRef .tc main_v10) = aSel (V (Proc.devRef .tc main_arg3)) := by
  exact l0_v10 V
theorem w2_v12 : W2 V (Proc.devRef .tc main_v12) = select (aSel (V (Proc.devRef .tc main_arg3))) (broadcastInDim S4x16384x8x128 ![0, 1, 2, 3] bcast_S4x16384x1x128_S4x16384x8x128_0_1_2_3 (broadcastInDim S4x16384x1x128 ![0, 1, 3] bcast_S4x16384x128_S4x16384x1x128_0_1_3 (aLogit (V (Proc.devRef .tc main_v0)) (V (Proc.devRef .tc main_arg2)) (V (Proc.devRef .tc main_arg1))))) aZero := by
  refine (l1_v12 (W1 V)).trans ?_
  rw [show W1 V (Proc.devRef .tc main_v10) = _ from l0_v10 V, show W1 V (Proc.devRef .tc main_v11) = _ from l0_v11 V, show W1 V (Proc.devRef .tc main_cst) = _ from l0_cst V]
  rfl
theorem w3_v13 : W3 V (Proc.devRef .tc main_v13) = aPick (aSel (V (Proc.devRef .tc main_arg3))) (aLogit (V (Proc.devRef .tc main_v0)) (V (Proc.devRef .tc main_arg2)) (V (Proc.devRef .tc main_arg1))) := by
  refine (l2_v13 (W2 V)).trans ?_
  rw [w2_v12]; rfl
theorem w4_v19 : W4 V (Proc.devRef .tc main_v19) = aTop8 (aPick (aSel (V (Proc.devRef .tc main_arg3))) (aLogit (V (Proc.devRef .tc main_v0)) (V (Proc.devRef .tc main_arg2)) (V (Proc.devRef .tc main_arg1)))) := by
  refine (l3_v19 (W3 V)).trans ?_
  rw [show W3 V (Proc.devRef .tc main_v18) = _ from l2_v18 (W2 V), show W3 V (Proc.devRef .tc main_v15) = _ from l2_v15 (W2 V), show W3 V (Proc.devRef .tc main_cst_3) = _ from l2_cst_3 (W2 V), w2_v12]
  rfl
theorem w4_v13 : W4 V (Proc.devRef .tc main_v13) = aPick (aSel (V (Proc.devRef .tc main_arg3))) (aLogit (V (Proc.devRef .tc main_v0)) (V (Proc.devRef .tc main_arg2)) (V (Proc.devRef .tc main_arg1))) := by
  show StableHlo.after (hostOps1_3 (F := Ideal)) (W3 V) _ = _
  rw [StableHlo.after_of_writes_sub (r := main_v13) hostOps1_3 _ hostOps1_3_writes (by decide +kernel)]
  exact w3_v13 V
theorem w4_arg4 : W4 V (Proc.devRef .tc main_arg4) = V (Proc.devRef .tc main_arg4) := by
  show StableHlo.after (hostOps1_3 (F := Ideal)) (W3 V) _ = _
  rw [StableHlo.after_of_writes_sub (r := main_arg4) hostOps1_3 _ hostOps1_3_writes (by decide +kernel)]
  show StableHlo.after (hostOps1_2 (F := Ideal)) (W2 V) _ = _
  rw [StableHlo.after_of_writes_sub (r := main_arg4) hostOps1_2 _ hostOps1_2_writes (by decide +kernel)]
  show StableHlo.after (hostOps1_1 (F := Ideal)) (W1 V) _ = _
  rw [StableHlo.after_of_writes_sub (r := main_arg4) hostOps1_1 _ hostOps1_1_writes (by decide +kernel)]
  show StableHlo.after (hostOps1 (F := Ideal)) (V) _ = _
  rw [StableHlo.after_of_writes_sub (r := main_arg4) hostOps1 _ hostOps1_writes (by decide +kernel)]

theorem w4_v4 : W4 V (Proc.devRef .tc main_v4) = aLogit (V (Proc.devRef .tc main_v0)) (V (Proc.devRef .tc main_arg2)) (V (Proc.devRef .tc main_arg1)) := by
  show StableHlo.after (hostOps1_3 (F := Ideal)) (W3 V) _ = _
  rw [StableHlo.after_of_writes_sub (r := main_v4) hostOps1_3 _ hostOps1_3_writes (by decide +kernel)]
  show StableHlo.after (hostOps1_2 (F := Ideal)) (W2 V) _ = _
  rw [StableHlo.after_of_writes_sub (r := main_v4) hostOps1_2 _ hostOps1_2_writes (by decide +kernel)]
  show StableHlo.after (hostOps1_1 (F := Ideal)) (W1 V) _ = _
  rw [StableHlo.after_of_writes_sub (r := main_v4) hostOps1_1 _ hostOps1_1_writes (by decide +kernel)]
  exact w1_v4 V
theorem w5_v36 : W5 V (Proc.devRef .tc main_v36) = aDsel (aGate (aPick (aSel (V (Proc.devRef .tc main_arg3))) (aLogit (V (Proc.devRef .tc main_v0)) (V (Proc.devRef .tc main_arg2)) (V (Proc.devRef .tc main_arg1))))) (extf .f32 (V (Proc.devRef .tc main_arg4) : FVec Ideal S4x16384x8 .bf16) bitsLt_bf16_f32) := by
  refine (l4_v36 (W4 V) (aPick (aSel (V (Proc.devRef .tc main_arg3))) (aLogit (V (Proc.devRef .tc main_v0)) (V (Proc.devRef .tc main_arg2)) (V (Proc.devRef .tc main_arg1)))) (w4_v13 V) (w4_v19 V)).trans ?_
  rw [w4_arg4]
theorem w6_v42 : W6 V (Proc.devRef .tc main_v42) = aTop (aLogit (V (Proc.devRef .tc main_v0)) (V (Proc.devRef .tc main_arg2)) (V (Proc.devRef .tc main_arg1))) := by
  refine (l5_v42 (W5 V)).trans ?_
  rw [show W5 V (Proc.devRef .tc main_v41) = _ from l4_v41 (W4 V), show W5 V (Proc.devRef .tc main_v38) = _ from l4_v38 (W4 V), show W5 V (Proc.devRef .tc main_cst_8) = _ from l4_cst_8 (W4 V), w4_v4]
  rfl
theorem w6_v4 : W6 V (Proc.devRef .tc main_v4) = aLogit (V (Proc.devRef .tc main_v0)) (V (Proc.devRef .tc main_arg2)) (V (Proc.devRef .tc main_arg1)) := by
  show StableHlo.after (hostOps1_5 (F := Ideal)) (W5 V) _ = _
  rw [StableHlo.after_of_writes_sub (r := main_v4) hostOps1_5 _ hostOps1_5_writes (by decide +kernel)]
  show StableHlo.after (hostOps1_4 (F := Ideal)) (W4 V) _ = _
  rw [StableHlo.after_of_writes_sub (r := main_v4) hostOps1_4 _ hostOps1_4_writes (by decide +kernel)]
  exact w4_v4 V
theorem w6_v36 : W6 V (Proc.devRef .tc main_v36) = aDsel (aGate (aPick (aSel (V (Proc.devRef .tc main_arg3))) (aLogit (V (Proc.devRef .tc main_v0)) (V (Proc.devRef .tc main_arg2)) (V (Proc.devRef .tc main_arg1))))) (extf .f32 (V (Proc.devRef .tc main_arg4) : FVec Ideal S4x16384x8 .bf16) bitsLt_bf16_f32) := by
  show StableHlo.after (hostOps1_5 (F := Ideal)) (W5 V) _ = _
  rw [StableHlo.after_of_writes_sub (r := main_v36) hostOps1_5 _ hostOps1_5_writes (by decide +kernel)]
  exact w5_v36 V
theorem w7_v56 : W7 V (Proc.devRef .tc main_v56) = aDz (aLogit (V (Proc.devRef .tc main_v0)) (V (Proc.devRef .tc main_arg2)) (V (Proc.devRef .tc main_arg1))) := by
  exact l6_v56 (W6 V) (aLogit (V (Proc.devRef .tc main_v0)) (V (Proc.devRef .tc main_arg2)) (V (Proc.devRef .tc main_arg1))) (w6_v4 V) (w6_v42 V)
theorem w7_v10 : W7 V (Proc.devRef .tc main_v10) = aSel (V (Proc.devRef .tc main_arg3)) := by
  show StableHlo.after (hostOps1_6 (F := Ideal)) (W6 V) _ = _
  rw [StableHlo.after_of_writes_sub (r := main_v10) hostOps1_6 _ hostOps1_6_writes (by decide +kernel)]
  show StableHlo.after (hostOps1_5 (F := Ideal)) (W5 V) _ = _
  rw [StableHlo.after_of_writes_sub (r := main_v10) hostOps1_5 _ hostOps1_5_writes (by decide +kernel)]
  show StableHlo.after (hostOps1_4 (F := Ideal)) (W4 V) _ = _
  rw [StableHlo.after_of_writes_sub (r := main_v10) hostOps1_4 _ hostOps1_4_writes (by decide +kernel)]
  show StableHlo.after (hostOps1_3 (F := Ideal)) (W3 V) _ = _
  rw [StableHlo.after_of_writes_sub (r := main_v10) hostOps1_3 _ hostOps1_3_writes (by decide +kernel)]
  show StableHlo.after (hostOps1_2 (F := Ideal)) (W2 V) _ = _
  rw [StableHlo.after_of_writes_sub (r := main_v10) hostOps1_2 _ hostOps1_2_writes (by decide +kernel)]
  show StableHlo.after (hostOps1_1 (F := Ideal)) (W1 V) _ = _
  rw [StableHlo.after_of_writes_sub (r := main_v10) hostOps1_1 _ hostOps1_1_writes (by decide +kernel)]
  exact w1_v10 V
theorem w8_v58 : W8 V (Proc.devRef .tc main_v58) = select (aSel (V (Proc.devRef .tc main_arg3))) (broadcastInDim S4x16384x8x128 ![0, 1, 2, 3] bcast_S4x16384x8x1_S4x16384x8x128_0_1_2_3 (broadcastInDim S4x16384x8x1 ![0, 1, 2] bcast_S4x16384x8_S4x16384x8x1_0_1_2 (aDsel (aGate (aPick (aSel (V (Proc.devRef .tc main_arg3))) (aLogit (V (Proc.devRef .tc main_v0)) (V (Proc.devRef .tc main_arg2)) (V (Proc.devRef .tc main_arg1))))) (extf .f32 (V (Proc.devRef .tc main_arg4) : FVec Ideal S4x16384x8 .bf16) bitsLt_bf16_f32)))) aZero := by
  refine (l7_v58 (W7 V)).trans ?_
  rw [w7_v10, show W7 V (Proc.devRef .tc main_v57) = _ from l6_v57 (W6 V), show W7 V (Proc.devRef .tc main_cst_11) = _ from l6_cst_11 (W6 V), w6_v36]
  rfl
theorem w8_v56 : W8 V (Proc.devRef .tc main_v56) = aDz (aLogit (V (Proc.devRef .tc main_v0)) (V (Proc.devRef .tc main_arg2)) (V (Proc.devRef .tc main_arg1))) := by
  show StableHlo.after (hostOps1_7 (F := Ideal)) (W7 V) _ = _
  rw [StableHlo.after_of_writes_sub (r := main_v56) hostOps1_7 _ hostOps1_7_writes (by decide +kernel)]
  exact w7_v56 V
theorem w9_v60 : W9 V (Proc.devRef .tc main_v60) = aDlog (aSel (V (Proc.devRef .tc main_arg3))) (aLogit (V (Proc.devRef .tc main_v0)) (V (Proc.devRef .tc main_arg2)) (V (Proc.devRef .tc main_arg1))) (aDsel (aGate (aPick (aSel (V (Proc.devRef .tc main_arg3))) (aLogit (V (Proc.devRef .tc main_v0)) (V (Proc.devRef .tc main_arg2)) (V (Proc.devRef .tc main_arg1))))) (extf .f32 (V (Proc.devRef .tc main_arg4) : FVec Ideal S4x16384x8 .bf16) bitsLt_bf16_f32)) := by
  refine (l8_v60 (W8 V)).trans ?_
  rw [w8_v56, w8_v58]; rfl
theorem w9_v63 : W9 V (Proc.devRef .tc main_v63) = aDx (aDlog (aSel (V (Proc.devRef .tc main_arg3))) (aLogit (V (Proc.devRef .tc main_v0)) (V (Proc.devRef .tc main_arg2)) (V (Proc.devRef .tc main_arg1))) (aDsel (aGate (aPick (aSel (V (Proc.devRef .tc main_arg3))) (aLogit (V (Proc.devRef .tc main_v0)) (V (Proc.devRef .tc main_arg2)) (V (Proc.devRef .tc main_arg1))))) (extf .f32 (V (Proc.devRef .tc main_arg4) : FVec Ideal S4x16384x8 .bf16) bitsLt_bf16_f32))) (V (Proc.devRef .tc main_arg2)) := by
  refine (l8_v63 (W8 V)).trans ?_
  rw [w8_v56, w8_v58, show W8 V (Proc.devRef .tc main_arg2) = _ from keep V (by decide +kernel) (by decide +kernel) (by decide +kernel) (by decide +kernel) (by decide +kernel) (by decide +kernel) (by decide +kernel) (by decide +kernel)]; rfl
theorem w9_v68 : W9 V (Proc.devRef .tc main_v68) = aDw (V (Proc.devRef .tc main_v0)) (aDlog (aSel (V (Proc.devRef .tc main_arg3))) (aLogit (V (Proc.devRef .tc main_v0)) (V (Proc.devRef .tc main_arg2)) (V (Proc.devRef .tc main_arg1))) (aDsel (aGate (aPick (aSel (V (Proc.devRef .tc main_arg3))) (aLogit (V (Proc.devRef .tc main_v0)) (V (Proc.devRef .tc main_arg2)) (V (Proc.devRef .tc main_arg1))))) (extf .f32 (V (Proc.devRef .tc main_arg4) : FVec Ideal S4x16384x8 .bf16) bitsLt_bf16_f32))) (V (Proc.devRef .tc main_arg1)) := by
  refine (l8_v68 (W8 V)).trans ?_
  rw [w8_v56, w8_v58, show W8 V (Proc.devRef .tc main_v0) = _ from keep V (by decide +kernel) (by decide +kernel) (by decide +kernel) (by decide +kernel) (by decide +kernel) (by decide +kernel) (by decide +kernel) (by decide +kernel), show W8 V (Proc.devRef .tc main_arg1) = _ from keep V (by decide +kernel) (by decide +kernel) (by decide +kernel) (by decide +kernel) (by decide +kernel) (by decide +kernel) (by decide +kernel) (by decide +kernel)]; rfl

end Cert.Ref

end

end
-- ==== Proof.Val.RefMath.lean ====
/- The reference's gradient of one token's logits, written as the mathematics it is. -/

module

public import proofs.«01_k».proof.Proof.Val.Spec

@[expose] public section

noncomputable section

namespace Cert.Ref

open Idealize.ShloMosaic Cert.Val
open scoped BigOperators

/-- A shift where it is a number, and zero elsewhere. -/
def shift (t : EReal) : EReal := if max t (-t) < ⊤ then t else 0
/-- The largest entry. -/
def topn {n : ℕ} (f : Fin n → EReal) : EReal := Finset.univ.fold max ⊥ f
/-- The logarithm of the sum of the entries' exponentials. -/
def lse {n : ℕ} (f : Fin n → EReal) : EReal :=
  Ideal.log (∑ k, Ideal.exp (f k - shift (topn f))) + shift (topn f)
/-- The logit of the expert an identifier names. -/
def lsel (l : Fin 128 → EReal) (id : BitVec 32) : EReal := ∑ e : Fin 128, if id = BitVec.ofNat 32 e.val then l e else 0
/-- A softmax. -/
def soft {n : ℕ} (f : Fin n → EReal) (k : Fin n) : EReal := Ideal.exp (f k - lse f)
/-- The gradient through a softmax. -/
def dsoft {n : ℕ} (g d : Fin n → EReal) (k : Fin n) : EReal := g k * (d k - ∑ j, g j * d j)
/-- The gradient of one token's logits. -/
def rdlog (l : Fin 128 → EReal) (I : Fin 8 → BitVec 32) (G : Fin 8 → EReal) (e : Fin 128) : EReal :=
  C2 * lse l * soft l e + ∑ k, if I k = BitVec.ofNat 32 e.val then dsoft (soft fun j => lsel l (I j)) G k else 0

end Cert.Ref

end

end
-- ==== Proof.Val.RefRead.lean ====
/- The reference's arrays read at an index. -/

module

public import proofs.«01_k».proof.Proof.Val.RefHost
public import proofs.«01_k».proof.Proof.Val.RefMath
public import Idealize.ShloMosaic.Lib.IdealHost
public import Idealize.ShloMosaic.Lib.TwoAxisContraction

@[expose] public section

set_option maxRecDepth 16384

noncomputable section

namespace Cert.Ref

open Idealize.ShloMosaic Idealize.ShloMosaic.ValueIdx Cert.ReferenceIdeal Cert.ReferenceIdeal.Gen
open scoped BigOperators

section Bcast
variable {α : Type}

theorem bc1 (x : S4x16384.Idx → α) (b : Fin 4) (s : Fin 16384) (z : Fin 1) :
    broadcastInDim S4x16384x1 ![0, 1] bcast_S4x16384_S4x16384x1_0_1 x (ix3 b s z) = x (ix2 b s) :=
  broadcastInDim_apply _ _ x _ _ fun a => by fin_cases a <;> rfl
theorem bc128 (x : S4x16384x1.Idx → α) (b : Fin 4) (s : Fin 16384) (e : Fin 128) :
    broadcastInDim S4x16384x128 ![0, 1, 2] bcast_S4x16384x1_S4x16384x128_0_1_2 x (ix3 b s e) = x (ix3 b s (0 : Fin 1)) :=
  broadcastInDim_apply _ _ x _ _ fun a => by fin_cases a <;> rfl
theorem bc8 (x : S4x16384x1.Idx → α) (b : Fin 4) (s : Fin 16384) (e : Fin 8) :
    broadcastInDim S4x16384x8 ![0, 1, 2] bcast_S4x16384x1_S4x16384x8_0_1_2 x (ix3 b s e) = x (ix3 b s (0 : Fin 1)) :=
  broadcastInDim_apply _ _ x _ _ fun a => by fin_cases a <;> rfl
theorem bcK (x : S4x16384x8.Idx → α) (b : Fin 4) (s : Fin 16384) (k : Fin 8) (e : Fin 128) :
    broadcastInDim S4x16384x8x128 ![0, 1, 2, 3] bcast_S4x16384x8x1_S4x16384x8x128_0_1_2_3
      (broadcastInDim S4x16384x8x1 ![0, 1, 2] bcast_S4x16384x8_S4x16384x8x1_0_1_2 x) (ix4 b s k e) = x (ix3 b s k) :=
  (broadcastInDim_apply _ _ _ _ (ix4 b s k (0 : Fin 1)) fun a => by fin_cases a <;> rfl).trans
    (broadcastInDim_apply _ _ x _ _ fun a => by fin_cases a <;> rfl)
theorem bcE (x : S4x16384x128.Idx → α) (b : Fin 4) (s : Fin 16384) (k : Fin 8) (e : Fin 128) :
    broadcastInDim S4x16384x8x128 ![0, 1, 2, 3] bcast_S4x16384x1x128_S4x16384x8x128_0_1_2_3
      (broadcastInDim S4x16384x1x128 ![0, 1, 3] bcast_S4x16384x128_S4x16384x1x128_0_1_3 x) (ix4 b s k e) = x (ix3 b s e) :=
  (broadcastInDim_apply _ _ _ _ (ix4 b s (0 : Fin 1) e) fun a => by fin_cases a <;> rfl).trans
    (broadcastInDim_apply _ _ x _ _ fun a => by fin_cases a <;> rfl)
theorem bcI (x : S128.Idx → α) (b : Fin 4) (s : Fin 16384) (k : Fin 8) (e : Fin 128) :
    broadcastInDim S4x16384x8x128 ![0, 1, 2, 3] bcast_S1x1x1x128_S4x16384x8x128_0_1_2_3
      (broadcastInDim S1x1x1x128 ![3] bcast_S128_S1x1x1x128_3 x) (ix4 b s k e) = x (ix1 e) :=
  (broadcastInDim_apply _ _ _ _ (ix4 (0 : Fin 1) (0 : Fin 1) (0 : Fin 1) e) fun a => by fin_cases a <;> rfl).trans
    (broadcastInDim_apply _ _ x _ _ fun a => by fin_cases a <;> rfl)

end Bcast

theorem f32zero : (FloatOps.ofBits .f32 0x00000000#32 : Ideal .f32) = (0 : EReal) := Ideal.ofBits_zero_f32
theorem f32inf : (FloatOps.ofBits .f32 0x7F800000#32 : Ideal .f32) = (⊤ : EReal) := by
  show Ideal.ofBits .f32 0x7F800000#32 = ⊤
  simp [Ideal.ofBits, Ideal.ieee]
theorem f32ninf : (FloatOps.ofBits .f32 0xFF800000#32 : Ideal .f32) = (⊥ : EReal) := by
  show Ideal.ofBits .f32 0xFF800000#32 = ⊥
  simp [Ideal.ofBits, Ideal.ieee]

section Reduce

theorem sum8 (u : S4x16384x8.Idx → EReal) (b : Fin 4) (s : Fin 16384) :
    Host.reduceAdd (F := Ideal) (φ := .f32) u (constant S_ .f32 0x00000000#32) reducesTo_S4x16384x8_S4x16384_d2 h_S_ (ix2 b s)
      = ∑ k : Fin 8, u (ix3 b s k) := by
  refine (Ideal.hostReduceAdd_single _ (by decide : Shape.Reduces S4x16384x8 [2] S4x16384) u _ _).trans ?_
  refine (congrArg (· + _) f32zero).trans ((zero_add _).trans ?_)
  refine Finset.sum_congr rfl fun k _ => congrArg u ?_
  funext a; fin_cases a <;> rfl
theorem sum128 (u : S4x16384x128.Idx → EReal) (b : Fin 4) (s : Fin 16384) :
    Host.reduceAdd (F := Ideal) (φ := .f32) u (constant S_ .f32 0x00000000#32) reducesTo_S4x16384x128_S4x16384_d2 h_S_ (ix2 b s)
      = ∑ k : Fin 128, u (ix3 b s k) := by
  refine (Ideal.hostReduceAdd_single _ (by decide : Shape.Reduces S4x16384x128 [2] S4x16384) u _ _).trans ?_
  refine (congrArg (· + _) f32zero).trans ((zero_add _).trans ?_)
  refine Finset.sum_congr rfl fun k _ => congrArg u ?_
  funext a; fin_cases a <;> rfl
theorem sumE (u : S4x16384x8x128.Idx → EReal) (b : Fin 4) (s : Fin 16384) (k : Fin 8) :
    Host.reduceAdd (F := Ideal) (φ := .f32) u (constant S_ .f32 0x00000000#32) reducesTo_S4x16384x8x128_S4x16384x8_d3 h_S_ (ix3 b s k)
      = ∑ e : Fin 128, u (ix4 b s k e) := by
  refine (Ideal.hostReduceAdd_single _ (by decide : Shape.Reduces S4x16384x8x128 [3] S4x16384x8) u _ _).trans ?_
  refine (congrArg (· + _) f32zero).trans ((zero_add _).trans ?_)
  refine Finset.sum_congr rfl fun k _ => congrArg u ?_
  funext a; fin_cases a <;> rfl
theorem sumK (u : S4x16384x8x128.Idx → EReal) (b : Fin 4) (s : Fin 16384) (e : Fin 128) :
    Host.reduceAdd (F := Ideal) (φ := .f32) u (constant S_ .f32 0x00000000#32) reducesTo_S4x16384x8x128_S4x16384x128_d2 h_S_ (ix3 b s e)
      = ∑ k : Fin 8, u (ix4 b s k e) := by
  refine (Ideal.hostReduceAdd_single _ (by decide : Shape.Reduces S4x16384x8x128 [2] S4x16384x128) u _ _).trans ?_
  refine (congrArg (· + _) f32zero).trans ((zero_add _).trans ?_)
  refine Finset.sum_congr rfl fun k _ => congrArg u ?_
  funext a; fin_cases a <;> rfl
theorem max8 (u : S4x16384x8.Idx → EReal) (b : Fin 4) (s : Fin 16384) :
    Host.reduce (FloatOps.maximumf (F := Ideal) (φ := .f32)) u (constant S_ .f32 0xFF800000#32) reducesTo_S4x16384x8_S4x16384_d2 h_S_ (ix2 b s)
      = topn fun k : Fin 8 => u (ix3 b s k) := by
  refine (Host.reduce_eq_fold_single _ _ _ _ (by decide : Shape.Reduces S4x16384x8 [2] S4x16384) _ _).trans ?_
  refine (congrArg (fun z => Finset.fold _ z _ _) f32ninf).trans ?_
  refine congrArg (fun f => Finset.fold max ⊥ f Finset.univ) (funext fun k => congrArg u ?_)
  funext a; fin_cases a <;> rfl
theorem max128 (u : S4x16384x128.Idx → EReal) (b : Fin 4) (s : Fin 16384) :
    Host.reduce (FloatOps.maximumf (F := Ideal) (φ := .f32)) u (constant S_ .f32 0xFF800000#32) reducesTo_S4x16384x128_S4x16384_d2 h_S_ (ix2 b s)
      = topn fun k : Fin 128 => u (ix3 b s k) := by
  refine (Host.reduce_eq_fold_single _ _ _ _ (by decide : Shape.Reduces S4x16384x128 [2] S4x16384) _ _).trans ?_
  refine (congrArg (fun z => Finset.fold _ z _ _) f32ninf).trans ?_
  refine congrArg (fun f => Finset.fold max ⊥ f Finset.univ) (funext fun k => congrArg u ?_)
  funext a; fin_cases a <;> rfl

end Reduce

theorem aShift_at (r : FVec Ideal S4x16384x1 .f32) (b : Fin 4) (s : Fin 16384) (z : Fin 1) :
    aShift r (ix3 b s z) = shift (r (ix3 b s z)) := by
  show Scalar.select (BitVec.ofBool (decide (max (r (ix3 b s z)) (-(r (ix3 b s z))) < (FloatOps.ofBits .f32 0x7F800000#32 : Ideal .f32)))) (r (ix3 b s z)) (FloatOps.ofBits .f32 0x00000000#32 : Ideal .f32) = _
  rw [f32inf, f32zero]
  unfold shift
  by_cases h : max (r (ix3 b s z)) (-(r (ix3 b s z))) < ⊤
  · rw [if_pos h, decide_eq_true h]; rfl
  · rw [if_neg h, decide_eq_false h]; rfl

theorem aTop8_at (u : FVec Ideal S4x16384x8 .f32) (b : Fin 4) (s : Fin 16384) (z : Fin 1) :
    aTop8 u (ix3 b s z) = shift (topn fun k : Fin 8 => u (ix3 b s k)) :=
  (aShift_at _ b s z).trans (congrArg shift ((bc1 _ b s z).trans (max8 u b s)))
theorem aTop_at (u : FVec Ideal S4x16384x128 .f32) (b : Fin 4) (s : Fin 16384) (z : Fin 1) :
    aTop u (ix3 b s z) = shift (topn fun k : Fin 128 => u (ix3 b s k)) :=
  (aShift_at _ b s z).trans (congrArg shift ((bc1 _ b s z).trans (max128 u b s)))
theorem logAdd_at (r : FVec Ideal S4x16384 .f32) (t : FVec Ideal S4x16384x1 .f32) (b : Fin 4) (s : Fin 16384) (z : Fin 1) :
    addf (Host.log (broadcastInDim S4x16384x1 ![0, 1] bcast_S4x16384_S4x16384x1_0_1 r)) t (ix3 b s z) = Ideal.log (r (ix2 b s)) + t (ix3 b s z) := by
  rw [← bc1 r b s z]; rfl
theorem aLse8_at (u : FVec Ideal S4x16384x8 .f32) (b : Fin 4) (s : Fin 16384) (z : Fin 1) :
    aLse8 u (ix3 b s z) = lse fun k : Fin 8 => u (ix3 b s k) := by
  have h : Host.reduceAdd (F := Ideal) (Host.exp (subf u (broadcastInDim S4x16384x8 ![0, 1, 2] bcast_S4x16384x1_S4x16384x8_0_1_2 (aTop8 u))))
      (constant S_ .f32 0x00000000#32) reducesTo_S4x16384x8_S4x16384_d2 h_S_ (ix2 b s)
      = ∑ k : Fin 8, Ideal.exp (u (ix3 b s k) - shift (topn fun k : Fin 8 => u (ix3 b s k))) := by
    refine (sum8 _ b s).trans (Finset.sum_congr rfl fun k _ => ?_)
    exact congrArg (fun t : EReal => Ideal.exp (u (ix3 b s k) - t)) ((bc8 _ b s k).trans (aTop8_at u b s 0))
  unfold aLse8 lse
  rw [← h, ← aTop8_at u b s z]
  exact logAdd_at _ (aTop8 u) b s z
theorem aLse_at (u : FVec Ideal S4x16384x128 .f32) (b : Fin 4) (s : Fin 16384) (z : Fin 1) :
    aLse u (ix3 b s z) = lse fun k : Fin 128 => u (ix3 b s k) := by
  have h : Host.reduceAdd (F := Ideal) (Host.exp (subf u (broadcastInDim S4x16384x128 ![0, 1, 2] bcast_S4x16384x1_S4x16384x128_0_1_2 (aTop u))))
      (constant S_ .f32 0x00000000#32) reducesTo_S4x16384x128_S4x16384_d2 h_S_ (ix2 b s)
      = ∑ k : Fin 128, Ideal.exp (u (ix3 b s k) - shift (topn fun k : Fin 128 => u (ix3 b s k))) := by
    refine (sum128 _ b s).trans (Finset.sum_congr rfl fun k _ => ?_)
    exact congrArg (fun t : EReal => Ideal.exp (u (ix3 b s k) - t)) ((bc128 _ b s k).trans (aTop_at u b s 0))
  unfold aLse lse
  rw [← h, ← aTop_at u b s z]
  exact logAdd_at _ (aTop u) b s z
theorem aGate_at (u : FVec Ideal S4x16384x8 .f32) (b : Fin 4) (s : Fin 16384) (k : Fin 8) :
    aGate u (ix3 b s k) = soft (fun k : Fin 8 => u (ix3 b s k)) k :=
  congrArg (fun t : EReal => Ideal.exp (u (ix3 b s k) - t)) ((bc8 _ b s k).trans (aLse8_at u b s 0))
theorem aDsel_at (g dg : FVec Ideal S4x16384x8 .f32) (b : Fin 4) (s : Fin 16384) (k : Fin 8) :
    aDsel g dg (ix3 b s k) = dsoft (fun k : Fin 8 => g (ix3 b s k)) (fun k => dg (ix3 b s k)) k :=
  congrArg (fun t : EReal => g (ix3 b s k) * (dg (ix3 b s k) - t)) ((bc8 _ b s k).trans ((bc1 _ b s 0).trans (sum8 _ b s)))
theorem aDz_at (u : FVec Ideal S4x16384x128 .f32) (b : Fin 4) (s : Fin 16384) (e : Fin 128) :
    aDz u (ix3 b s e) = Cert.Val.C2 * lse (fun k : Fin 128 => u (ix3 b s k)) * soft (fun k : Fin 128 => u (ix3 b s k)) e :=
  congrArg₂ (fun a t : EReal => a * Ideal.exp (u (ix3 b s e) - t))
    ((bc128 _ b s e).trans (congrArg (fun t : EReal => Cert.Val.C2 * t) (aLse_at u b s 0)))
    ((bc128 _ b s e).trans (aLse_at u b s 0))

theorem pick_at (ids : IVec S4x16384x8 32) (y : S4x16384x8x128.Idx → EReal) (b : Fin 4) (s : Fin 16384) (k : Fin 8) (e : Fin 128) :
    select (aSel ids) y aZero (ix4 b s k e) = if ids (ix3 b s k) = BitVec.ofNat 32 e.val then y (ix4 b s k e) else 0 := by
  have h : aSel ids (ix4 b s k e) = BitVec.ofBool (decide (ids (ix3 b s k) = BitVec.ofNat 32 e.val)) :=
    congrArg₂ (fun a c : BitVec 32 => BitVec.ofBool (decide (a = c))) (bcK ids b s k e) (bcI _ b s k e)
  have hz : aZero (ix4 b s k e) = (0 : EReal) := f32zero
  show Scalar.select (aSel ids (ix4 b s k e)) _ (aZero (ix4 b s k e)) = _
  rw [h, hz]
  by_cases hc : ids (ix3 b s k) = BitVec.ofNat 32 e.val
  · rw [if_pos hc, decide_eq_true hc]; rfl
  · rw [if_neg hc, decide_eq_false hc]; rfl

theorem aPick_at (ids : IVec S4x16384x8 32) (l : FVec Ideal S4x16384x128 .f32) (b : Fin 4) (s : Fin 16384) (k : Fin 8) :
    aPick (aSel ids) l (ix3 b s k) = lsel (fun e => l (ix3 b s e)) (ids (ix3 b s k)) := by
  refine (sumE _ b s k).trans (Finset.sum_congr rfl fun e _ => (pick_at ids _ b s k e).trans ?_)
  exact congrArg (fun t : EReal => if ids (ix3 b s k) = BitVec.ofNat 32 e.val then t else 0) (bcE l b s k e)

theorem aDlog_at (ids : IVec S4x16384x8 32) (u : FVec Ideal S4x16384x128 .f32) (dg : FVec Ideal S4x16384x8 .f32)
    (b : Fin 4) (s : Fin 16384) (e : Fin 128) :
    aDlog (aSel ids) u (aDsel (aGate (aPick (aSel ids) u)) dg) (ix3 b s e)
      = rdlog (fun e => u (ix3 b s e)) (fun k => ids (ix3 b s k)) (fun k => dg (ix3 b s k)) e := by
  refine congrArg₂ (fun a c : EReal => a + c) (aDz_at u b s e) ((sumK _ b s e).trans (Finset.sum_congr rfl fun k _ => (pick_at ids _ b s k e).trans ?_))
  refine congrArg (fun t : EReal => if ids (ix3 b s k) = BitVec.ofNat 32 e.val then t else 0) ((bcK _ b s k e).trans ((aDsel_at _ dg b s k).trans ?_))
  refine congrArg (fun g => dsoft g (fun k => dg (ix3 b s k)) k) (funext fun j => (aGate_at _ b s j).trans ?_)
  exact congrArg (fun f => soft f j) (funext fun j => aPick_at ids u b s j)

/-! ## The three products -/

theorem aLogit_at (x : FVec Ideal S4x16384x4096 .bf16) (w : FVec Ideal S4096x128 .bf16) (sc : FVec Ideal S4x16384 .f32)
    (b : Fin 4) (s : Fin 16384) (e : Fin 128) :
    aLogit x w sc (ix3 b s e) = (∑ d : Fin 4096, x (ix3 b s d) * w (ix2 d e)) * sc (ix2 b s) := by
  refine congrArg₂ (fun a c : EReal => a * c) ?_ ((bc128 _ b s e).trans (bc1 sc b s 0))
  refine (Ideal.dotGeneral_apply _ none .single x w _).trans ?_
  refine (Equiv.sum_comp (contrEquiv1 dot_S4x16384x4096_S4096x128_S4x16384x128_2_0_01_1_n_n 4096 rfl rfl).symm _).symm.trans ?_
  refine Finset.sum_congr rfl fun d _ => congrArg₂ (fun a c : EReal => a * c) (congrArg x ?_) (congrArg w ?_)
  · funext a; fin_cases a <;> rfl
  · funext a; fin_cases a <;> rfl

theorem aDx_at (dl : FVec Ideal S4x16384x128 .f32) (w : FVec Ideal S4096x128 .bf16) (b : Fin 4) (s : Fin 16384) (d : Fin 4096) :
    aDx dl w (ix3 b s d) = ∑ e : Fin 128, dl (ix3 b s e) * w (ix2 d e) := by
  refine (Ideal.dotGeneral_apply _ none .single (φ₁ := .bf16) dl w _).trans ?_
  refine (Equiv.sum_comp (contrEquiv1 dot_S4x16384x128_S4096x128_S4x16384x4096_2_1_01_0_n_n 128 rfl rfl).symm _).symm.trans ?_
  refine Finset.sum_congr rfl fun e _ => congrArg₂ (fun a c : EReal => a * c) (congrArg dl ?_) (congrArg w ?_)
  · funext a; fin_cases a <;> rfl
  · funext a; fin_cases a <;> rfl

theorem aDw_at (x : FVec Ideal S4x16384x4096 .bf16) (dl : FVec Ideal S4x16384x128 .f32) (sc : FVec Ideal S4x16384 .f32) (d : Fin 4096) (e : Fin 128) :
    aDw x dl sc (ix2 d e) = ∑ b : Fin 4, ∑ s : Fin 16384, x (ix3 b s d) * (dl (ix3 b s e) * sc (ix2 b s)) := by
  refine (Ideal.dotGeneral_apply _ none .single x _ _).trans ?_
  refine (sum_contr2 dot_S4x16384x4096_S4x16384x128_S4096x128_01_01_2_2_n_n 4 16384 rfl rfl rfl _).trans ?_
  refine Finset.sum_congr rfl fun b _ => Finset.sum_congr rfl fun s _ => congrArg₂ (fun a c : EReal => a * c) (congrArg x ?_) ?_
  · funext a; fin_cases a <;> rfl
  · refine Eq.trans (congrArg _ (?_ : _ = ix3 b s e)) (congrArg (fun t : EReal => dl (ix3 b s e) * t) ((bc128 _ b s e).trans (bc1 sc b s 0)))
    funext a; fin_cases a <;> rfl

end Cert.Ref

end

end
-- ==== Proof.Val.Softmax.lean ====
/- The kernel's gradient of one token's logits is the reference's: a softmax over the chosen experts is a softmax over all
   experts with the others at minus infinity, and dividing by a sum is subtracting its logarithm in the exponent. -/

module

public import proofs.«01_k».proof.Proof.Val.RefMath

@[expose] public section

noncomputable section

namespace Cert.Ref

open Idealize.ShloMosaic Cert.Val
open scoped BigOperators

variable {n : ℕ}

theorem le_topn (f : Fin n → EReal) (k : Fin n) : f k ≤ topn f := Finset.le_sup (f := f) (Finset.mem_univ k)
theorem topn_mem [NeZero n] (f : Fin n → EReal) : ∃ k, topn f = f k := by
  obtain ⟨k, -, h⟩ := Finset.exists_mem_eq_sup Finset.univ ⟨(0 : Fin n), Finset.mem_univ _⟩ f
  exact ⟨k, h⟩

theorem ereal_cases (x : EReal) : x = ⊥ ∨ x = ⊤ ∨ ∃ r : ℝ, x = (r : EReal) := by
  induction x with
  | bot => exact Or.inl rfl
  | top => exact Or.inr (Or.inl rfl)
  | coe r => exact Or.inr (Or.inr ⟨r, rfl⟩)

theorem exp_coe (r : ℝ) : Ideal.exp (r : EReal) = (Real.exp r : EReal) := rfl
theorem exp_nonneg (x : EReal) : 0 ≤ Ideal.exp x := by
  induction x with
  | bot => exact le_rfl
  | top => exact le_top
  | coe r => exact EReal.coe_nonneg.2 (Real.exp_pos r).le
theorem sub_top' (x : EReal) : x - ⊤ = ⊥ := by rw [sub_eq_add_neg, EReal.neg_top, EReal.add_bot]
theorem bot_sub' (x : EReal) : ⊥ - x = ⊥ := by rw [sub_eq_add_neg, EReal.bot_add]

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Either every shifted exponential and every softmax is zero, or the shift is the largest entry and the softmax is
    the shifted exponential over their sum, which is not zero. -/
theorem soft_cases [NeZero n] (u : Fin n → EReal) :
    (∀ k, Ideal.exp (u k - topn u) = 0 ∧ soft u k = 0) ∨
    (shift (topn u) = topn u ∧ (∑ k, Ideal.exp (u k - topn u)) ≠ 0 ∧
      ∀ k, Ideal.exp (u k - topn u) * (∑ k, Ideal.exp (u k - topn u))⁻¹ = soft u k) := by
  obtain ⟨m, hm⟩ := topn_mem u
  rcases ereal_cases (topn u) with h | h | ⟨t, h⟩
  · -- every entry is minus infinity
    left
    have hb : ∀ k, u k = ⊥ := fun k => le_bot_iff.1 ((le_topn u k).trans_eq h)
    intro k
    refine ⟨?_, ?_⟩
    · rw [hb k]; exact congrArg Ideal.exp (bot_sub' _)
    · unfold soft; rw [hb k, bot_sub']; rfl
  · left
    intro k
    refine ⟨by rw [h]; exact congrArg Ideal.exp (sub_top' _), ?_⟩
    have hs : shift (topn u) = 0 := by
      rw [h]; unfold shift
      exact if_neg (by simp)
    have hS : (∑ k, Ideal.exp (u k - 0)) = ⊤ := by
      have hx : Ideal.exp (u m - 0) = ⊤ := by
        rw [← hm, h, sub_zero]; rfl
      exact top_le_iff.1 (hx.symm.le.trans (Finset.single_le_sum (f := fun k => Ideal.exp (u k - 0)) (fun k _ => exp_nonneg _) (Finset.mem_univ m)))
    unfold soft lse
    rw [hs, hS, add_zero, show Ideal.log ⊤ = ⊤ from rfl, sub_top']; rfl
  · right
    have hs : shift (t : EReal) = t := by
      unfold shift
      exact if_pos (max_lt (EReal.coe_lt_top _) (by rw [← EReal.coe_neg]; exact EReal.coe_lt_top _))
    have hp : ∀ k, ∃ p : ℝ, Ideal.exp (u k - t) = p ∧ 0 ≤ p := by
      intro k
      rcases ereal_cases (u k) with hk | hk | ⟨r, hk⟩
      · exact ⟨0, by rw [hk]; exact congrArg Ideal.exp (bot_sub' _), le_rfl⟩
      · exact absurd ((le_topn u k).trans_eq h) (by rw [hk]; simp)
      · exact ⟨Real.exp (r - t), by rw [hk]; rfl, (Real.exp_pos _).le⟩
    choose p hp hp0 using hp
    have hS : (∑ k, Ideal.exp (u k - t)) = ((∑ k, p k : ℝ) : EReal) := by
      rw [coe_sum]; exact Finset.sum_congr rfl fun k _ => hp k
    have hpm : p m = 1 := by
      have := hp m
      rw [← hm, h, ← EReal.coe_sub, sub_self, exp_coe, Real.exp_zero] at this
      exact (EReal.coe_eq_coe_iff.1 this).symm
    have hpos : 0 < ∑ k, p k :=
      lt_of_lt_of_le (by rw [hpm]; exact one_pos) (Finset.single_le_sum (f := p) (fun k _ => hp0 k) (Finset.mem_univ m))
    rw [h]
    refine ⟨hs, ?_, fun k => ?_⟩
    · rw [hS]; exact fun h0 => hpos.ne' (EReal.coe_eq_zero.1 h0)
    · unfold soft lse
      rw [h, hs, hS, hp k]
      have hlog : Ideal.log ((∑ k, p k : ℝ) : EReal) = (Real.log (∑ k, p k) : EReal) := if_neg (not_le.2 hpos)
      rw [hlog]
      rcases ereal_cases (u k) with hk | hk | ⟨r, hk⟩
      · have h1 : p k = 0 := by
          have := hp k
          rw [hk] at this
          exact (EReal.coe_eq_zero.1 (this.symm.trans (congrArg Ideal.exp (bot_sub' _))))
        rw [h1, hk]
        refine Eq.trans ?_ (congrArg Ideal.exp (bot_sub' _)).symm
        rw [EReal.coe_zero, zero_mul]; rfl
      · exact absurd ((le_topn u k).trans_eq h) (by rw [hk]; simp)
      · have h1 : p k = Real.exp (r - t) := by
          have := hp k
          rw [hk] at this
          exact EReal.coe_eq_coe_iff.1 this.symm
        rw [h1, hk]
        rw [← EReal.coe_add, ← EReal.coe_sub, exp_coe, ← EReal.coe_inv, ← EReal.coe_mul]
        congr 1
        rw [show r - (Real.log (∑ k, p k) + t) = (r - t) - Real.log (∑ k, p k) by ring, Real.exp_sub (r - t), Real.exp_log hpos, div_eq_mul_inv]

theorem div_of_ne (x y : EReal) (h : y ≠ 0) : Ideal.div x y = x * y⁻¹ := if_neg h

/-- A shifted exponential over the sum of them is the softmax. -/
theorem soft_eq [NeZero n] (u : Fin n → EReal) (k : Fin n) :
    Ideal.exp (u k - topn u) * Ideal.div 1 (∑ k, Ideal.exp (u k - topn u)) = soft u k := by
  rcases soft_cases u with h | ⟨-, h0, h⟩
  · rw [(h k).1, (h k).2, zero_mul]
  · rw [div_of_ne _ _ h0, one_mul, h k]

/-- The z-loss's part. -/
theorem zloss_eq (l : Fin 128 → EReal) (e : Fin 128) :
    Ideal.div (C2 * (top l + Ideal.log (∑ k, pex l k))) (∑ k, pex l k) * pex l e = C2 * lse l * soft l e := by
  rcases soft_cases l with h | ⟨ht, h0, h⟩
  · rw [(h e).2, show pex l e = 0 from (h e).1, mul_zero, mul_zero]
  · have hl : lse l = top l + Ideal.log (∑ k, pex l k) := by
      unfold lse; rw [ht, add_comm]; rfl
    rw [hl, ← h e, div_of_ne _ (∑ k, pex l k) h0, mul_assoc, mul_comm (_⁻¹)]
    rfl

/-! ## The chosen experts -/

variable {l : Fin 128 → EReal} {I : Fin 8 → BitVec 32} {G : Fin 8 → EReal} {ι : Fin 8 → Fin 128}

theorem id_iff (hI : ∀ k, I k = BitVec.ofNat 32 (ι k).val) (k : Fin 8) (e : Fin 128) : I k = BitVec.ofNat 32 e.val ↔ ι k = e := by
  rw [hI k]
  constructor
  · intro h
    have h2 := congrArg BitVec.toNat h
    rw [BitVec.toNat_ofNat, BitVec.toNat_ofNat, Nat.mod_eq_of_lt (by have := (ι k).isLt; omega), Nat.mod_eq_of_lt (by have := e.isLt; omega)] at h2
    exact Fin.ext h2
  · rintro rfl; rfl

theorem put_eq (e : Fin 128) (id : BitVec 32) (g prev : EReal) : put e id g prev = if id = BitVec.ofNat 32 e.val then g else prev := rfl

theorem scat_hit (hI : ∀ k, I k = BitVec.ofNat 32 (ι k).val) (hι : Function.Injective ι) (k : Fin 8) : scat I G (ι k) = G k := by
  have h : ∀ j, (I j = BitVec.ofNat 32 (ι k).val) = (j = k) := fun j => propext ((id_iff hI j (ι k)).trans hι.eq_iff)
  unfold scat
  simp only [put_eq, h]
  fin_cases k <;> rfl

theorem scat_miss (hI : ∀ k, I k = BitVec.ofNat 32 (ι k).val) (e : Fin 128) (he : ∀ k, ι k ≠ e) : scat I G e = NS := by
  have h : ∀ j, (I j = BitVec.ofNat 32 e.val) = False := fun j => eq_false fun h => he j ((id_iff hI j e).1 h)
  unfold scat
  simp only [put_eq, h, if_false]

theorem lsel_eq (hI : ∀ k, I k = BitVec.ofNat 32 (ι k).val) (k : Fin 8) : lsel l (I k) = l (ι k) := by
  unfold lsel
  simp only [id_iff hI]
  rw [Finset.sum_ite_eq Finset.univ (ι k) l, if_pos (Finset.mem_univ _)]

/-- A sum over the experts of what is zero off the chosen ones is the sum over those. -/
theorem sum_chosen (hι : Function.Injective ι) (f : Fin 128 → EReal) (h0 : ∀ e, (∀ k, ι k ≠ e) → f e = 0) : ∑ e, f e = ∑ k, f (ι k) := by
  classical
  rw [← Finset.sum_image (s := Finset.univ) (f := f) (g := ι) (fun a _ b _ h => hι h)]
  refine (Finset.sum_subset (Finset.subset_univ _) fun e _ he => h0 e fun k hk => he ?_).symm
  exact Finset.mem_image.2 ⟨k, Finset.mem_univ _, hk⟩

section Chosen
variable (hI : ∀ k, I k = BitVec.ofNat 32 (ι k).val) (hι : Function.Injective ι) (hG : ∀ k, G k ≠ NS)
include hI hι hG

theorem chosen_hit (k : Fin 8) : chosen l (scat I G) (ι k) = l (ι k) := by
  unfold chosen; rw [scat_hit hI hι k, if_pos (hG k)]
omit hι hG in
theorem chosen_miss (e : Fin 128) (he : ∀ k, ι k ≠ e) : chosen l (scat I G) e = ⊥ := by
  unfold chosen; rw [scat_miss hI e he, if_neg (not_not.2 rfl)]
theorem top_chosen : top (chosen l (scat I G)) = topn fun k => l (ι k) := by
  refine le_antisymm ?_ ?_
  · refine Finset.sup_le (f := chosen l (scat I G)) fun e _ => ?_
    by_cases h : ∃ k, ι k = e
    · obtain ⟨k, rfl⟩ := h
      rw [chosen_hit hI hι hG]; exact le_topn (fun k => l (ι k)) k
    · rw [chosen_miss hI e fun k hk => h ⟨k, hk⟩]; exact bot_le
  · refine Finset.sup_le (f := fun k => l (ι k)) fun k _ => ?_
    rw [← chosen_hit (l := l) hI hι hG k]; exact le_topn (chosen l (scat I G)) (ι k)
theorem pex_hit (k : Fin 8) : pex (chosen l (scat I G)) (ι k) = Ideal.exp (l (ι k) - topn fun k => l (ι k)) := by
  unfold pex; rw [top_chosen hI hι hG, chosen_hit hI hι hG]
omit hι hG in
theorem pex_miss (e : Fin 128) (he : ∀ k, ι k ≠ e) : pex (chosen l (scat I G)) e = 0 := by
  unfold pex; rw [chosen_miss hI e he, bot_sub']; rfl
theorem gate_hit (k : Fin 8) : gate l (scat I G) (ι k) = soft (fun k => l (ι k)) k := by
  unfold gate
  rw [sum_chosen hι _ (pex_miss hI), pex_hit hI hι hG, Finset.sum_congr rfl fun k _ => pex_hit hI hι hG k]
  exact soft_eq (fun k => l (ι k)) k
omit hι hG in
theorem gate_miss (e : Fin 128) (he : ∀ k, ι k ≠ e) : gate l (scat I G) e = 0 := by
  unfold gate; rw [pex_miss hI e he, zero_mul]

/-- The kernel's gradient of a token's logits is the reference's, where the token's identifiers name distinct experts and
    none of its gates' gradients is the mark of an expert not chosen. -/
theorem dlogit_eq (e : Fin 128) : dlogit l (scat I G) e = rdlog l I G e := by
  unfold dlogit rdlog
  rw [zloss_eq]
  refine congrArg (fun t : EReal => C2 * lse l * soft l e + t) ?_
  have hs : ∑ k, gate l (scat I G) k * scat I G k = ∑ k, soft (fun k => l (ι k)) k * G k := by
    rw [sum_chosen hι _ fun e he => by rw [gate_miss hI e he, zero_mul]]
    exact Finset.sum_congr rfl fun k _ => by rw [gate_hit hI hι hG, scat_hit hI hι]
  rw [hs, show (fun j => lsel l (I j)) = fun j => l (ι j) from funext fun j => lsel_eq hI j]
  by_cases h : ∃ k, ι k = e
  · obtain ⟨k, rfl⟩ := h
    rw [gate_hit hI hι hG, scat_hit hI hι]
    simp only [id_iff hI, hι.eq_iff]
    rw [Finset.sum_ite_eq' Finset.univ k, if_pos (Finset.mem_univ _)]
    rfl
  · have he : ∀ k, ι k ≠ e := fun k hk => h ⟨k, hk⟩
    rw [gate_miss hI e he, zero_mul]
    exact (Finset.sum_eq_zero fun k _ => if_neg fun h => he k ((id_iff hI k e).1 h)).symm

end Chosen

end Cert.Ref

end

end
-- ==== Proof.Val.RefRun.lean ====
/- The reference run: its three results are the arrays of its host program at the arguments, the codes widened. -/

module

public import proofs.«01_k».proof.Proof.Val.RefRead
public import proofs.«01_k».proof.Proof.Val.Softmax
public import Idealize.ShloMosaic.Lib.Pipeline.ValueKit.Geometry

@[expose] public section

set_option maxRecDepth 16384

noncomputable section

namespace Cert.Ref

open Idealize.ShloMosaic Idealize.ShloMosaic.TcCoe Idealize.ShloMosaic.ValueIdx Idealize.SL.Sem Cert.ReferenceIdeal Cert.ReferenceIdeal.Gen Cert.Val
open scoped BigOperators

variable (m : (ℓ : Loc nD τ sig) → Buf (Elt Ideal) ℓ) (ρ : Dev nD → PrngReg) (c : Dev nD)

/-- The reference's arguments. -/
def rargs : Args where
  x := m ((c.tc : Thread nD τ).loc main_arg0)
  sc := m ((c.tc : Thread nD τ).loc main_arg1)
  w := m ((c.tc : Thread nD τ).loc main_arg2)
  ids := m ((c.tc : Thread nD τ).loc main_arg3)
  dg := m ((c.tc : Thread nD τ).loc main_arg4)

/-- What the host program finds: the arguments, and the array the widening call leaves. -/
def Vin : Valuation τ sig (Elt Ideal) := Pipeline.withArrays spec0 c (V0 m c) fun w => (dats m 0 c).arrAt w cfg0.N

theorem ridx0 : ∀ t : Fin cfg0.N, win0_0.index t (0 : Fin 3) = 0 ∧ win0_0.index t (1 : Fin 3) = 0 ∧ win0_0.index t (2 : Fin 3) = 0 :=
  (by decide +kernel : ∀ t : Fin grid0.N, _)
theorem ridx1 : ∀ t : Fin cfg0.N, win0_1.index t (0 : Fin 3) = 0 ∧ win0_1.index t (1 : Fin 3) = 0 ∧ win0_1.index t (2 : Fin 3) = 0 :=
  (by decide +kernel : ∀ t : Fin grid0.N, _)

/-- The one block of the codes is the codes. -/
theorem codes_at (t : Fin cfg0.N) : (iblk m c 0 t : S4x16384x4096.Idx → EReal) = (rargs m c).x := by
  obtain ⟨e0, e1, e2⟩ := ridx0 t
  funext y
  refine Eq.trans ?_ (congrFun (V_main_arg0 m c) _)
  show V m c main_arg0 (((cfg0.win 0).blk t).view.emb y) = _
  refine congrArg (V m c main_arg0) ?_
  funext a; apply Fin.ext
  match a with
  | ⟨0, _⟩ => show win0_0.index t (0 : Fin 3) * 4 + 1 * (y 0).val = (y 0).val; omega
  | ⟨1, _⟩ => show win0_0.index t (1 : Fin 3) * 16384 + 1 * (y 1).val = (y 1).val; omega
  | ⟨2, _⟩ => show win0_0.index t (2 : Fin 3) * 4096 + 1 * (y 2).val = (y 2).val; omega

theorem off_zero : (![0, 0, 0] : Fin S4x16384x4096.rank → ℕ) = fun _ => 0 := by
  funext a
  match a with
  | ⟨0, _⟩ => rfl
  | ⟨1, _⟩ => rfl
  | ⟨2, _⟩ => rfl

/-- The widening leaves what it reads. -/
theorem widened (x : S4x16384x4096.Idx → EReal) : (out0_1 (F := Ideal) x : S4x16384x4096.Idx → EReal) = x := by
  unfold out0_1
  refine (View.canon_unit_zero off_zero _ _).trans ?_
  exact View.ld_unit_zero (Val := Elt Ideal) (e := .fp8e4m3) off_zero _ x

/-- The array the widening call leaves is the codes. -/
theorem arr_v0 : (dats m 0 c).arrAt 1 cfg0.N = (rargs m c).x := by
  refine (dats m 0 c).arrAt_eq_of_covers 1 _ (by decide +kernel) fun t _ y => ?_
  obtain ⟨e0, e1, e2⟩ := ridx1 t
  have h : ((dats m 0 c).after 1 t : S4x16384x4096.Idx → EReal) = (rargs m c).x :=
    (after0_1 m c t).trans ((widened _).trans (codes_at m c t))
  refine (congrFun h _).trans (congrArg (rargs m c).x ?_)
  funext a; apply Fin.ext
  match a with
  | ⟨0, _⟩ => show (y 0).val = win0_1.index t (0 : Fin 3) * 4 + 1 * (y 0).val; omega
  | ⟨1, _⟩ => show (y 1).val = win0_1.index t (1 : Fin 3) * 16384 + 1 * (y 1).val; omega
  | ⟨2, _⟩ => show (y 2).val = win0_1.index t (2 : Fin 3) * 4096 + 1 * (y 2).val; omega

theorem vin_v0 : Vin m c (Proc.devRef .tc main_v0) = (rargs m c).x :=
  (Pipeline.withArrays_arr spec0 (by decide) c (V0 m c) _ 1).trans (arr_v0 m c)
theorem vin_arg1 : Vin m c (Proc.devRef .tc main_arg1) = (rargs m c).sc :=
  (Pipeline.withArrays_of_ne _ c (V0 m c) _ main_arg1 (by exact (by decide : ∀ w, Pipeline.arrRef spec0 w ≠ main_arg1))).trans (V_main_arg1 m c)
theorem vin_arg2 : Vin m c (Proc.devRef .tc main_arg2) = (rargs m c).w :=
  (Pipeline.withArrays_of_ne _ c (V0 m c) _ main_arg2 (by exact (by decide : ∀ w, Pipeline.arrRef spec0 w ≠ main_arg2))).trans (V_main_arg2 m c)
theorem vin_arg3 : Vin m c (Proc.devRef .tc main_arg3) = (rargs m c).ids :=
  (Pipeline.withArrays_of_ne _ c (V0 m c) _ main_arg3 (by exact (by decide : ∀ w, Pipeline.arrRef spec0 w ≠ main_arg3))).trans (V_main_arg3 m c)
theorem vin_arg4 : Vin m c (Proc.devRef .tc main_arg4) = (rargs m c).dg :=
  (Pipeline.withArrays_of_ne _ c (V0 m c) _ main_arg4 (by exact (by decide : ∀ w, Pipeline.arrRef spec0 w ≠ main_arg4))).trans (V_main_arg4 m c)

/-- The logits' gradient as an array of the arguments. -/
def rDlog (A : Args) : FVec Ideal S4x16384x128 .f32 :=
  aDlog (aSel A.ids) (aLogit A.x A.w A.sc) (aDsel (aGate (aPick (aSel A.ids) (aLogit A.x A.w A.sc))) A.dg)

theorem end_v60 : W9 (Vin m c) (Proc.devRef .tc main_v60) = rDlog (rargs m c) := by
  rw [w9_v60, vin_v0, vin_arg1, vin_arg2, vin_arg3, vin_arg4]; rfl
theorem end_v63 : W9 (Vin m c) (Proc.devRef .tc main_v63) = aDx (rDlog (rargs m c)) (rargs m c).w := by
  rw [w9_v63, vin_v0, vin_arg1, vin_arg2, vin_arg3, vin_arg4]; rfl
theorem end_v68 : W9 (Vin m c) (Proc.devRef .tc main_v68) = aDw (rargs m c).x (rDlog (rargs m c)) (rargs m c).sc := by
  rw [w9_v68, vin_v0, vin_arg1, vin_arg2, vin_arg3, vin_arg4]; rfl

/-- A buffer of the reference that no window stages ends as the host program leaves it. -/
theorem tail_at (r : Ref sig .tc) :
    Pipeline.afterTail₀ cfgs (dats m) 0 (V0 m) [hostOps1, hostOps1_1, hostOps1_2, hostOps1_3, hostOps1_4, hostOps1_5, hostOps1_6, hostOps1_7, hostOps1_8] c r
      = W9 (Vin m c) (Proc.devRef .tc r) := by
  unfold Pipeline.afterTail₀
  exact congrFun (after_all (Vin m c)) _

/-- The reference run, read. -/
theorem run : θ_run defs (onTc (τ := τ) (main (F := Ideal))) ⟨m, fun _ => 0, ρ⟩ fun r => ∀ c : Dev nD,
      r.2.mem ((c.tc : Thread nD τ).loc main_v63) = aDx (rDlog (rargs m c)) (rargs m c).w
      ∧ r.2.mem ((c.tc : Thread nD τ).loc main_v68) = aDw (rargs m c).x (rDlog (rargs m c)) (rargs m c).sc
      ∧ r.2.mem ((c.tc : Thread nD τ).loc main_v60) = rDlog (rargs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨
    ((h.1 c).2 main_v63 (Pipeline.mem_restRefs_of main_v63 (by decide) (by decide))).trans ((tail_at m c main_v63).trans (end_v63 m c)),
    ((h.1 c).2 main_v68 (Pipeline.mem_restRefs_of main_v68 (by decide) (by decide))).trans ((tail_at m c main_v68).trans (end_v68 m c)),
    ((h.1 c).2 main_v60 (Pipeline.mem_restRefs_of main_v60 (by decide) (by decide))).trans ((tail_at m c main_v60).trans (end_v60 m c)),
    h.2 c⟩) (θ_run_and (run_main m ρ) (unchanged m ρ))

/-! ## By index -/

/-- What the identifiers and the gates' gradients of every token are like where the kernel and the reference agree. -/
def Good (A : Args) : Prop := ∀ b s, ∃ ι : Fin 8 → Fin 128, (∀ k, A.ids (ix3 b s k) = BitVec.ofNat 32 (ι k).val) ∧ Function.Injective ι
  ∧ ∀ k, A.dg (ix3 b s k) ≠ NS

variable {A : Args} (hA : Good A)
include hA

theorem rDlog_at (b : Fin 4) (s : Fin 16384) (e : Fin 128) : (rDlog A : S4x16384x128.Idx → EReal) (ix3 b s e) = A.dlog b s e := by
  obtain ⟨ι, hI, hι, hG⟩ := hA b s
  have hl : (fun e => (aLogit A.x A.w A.sc : S4x16384x128.Idx → EReal) (ix3 b s e)) = A.logit b s := by
    funext e
    refine (aLogit_at _ _ _ b s e).trans (congrArg (fun t : EReal => t * A.sc (ix2 b s)) ?_)
    exact Finset.sum_congr rfl fun d _ => mul_comm _ _
  refine (aDlog_at _ _ _ b s e).trans ?_
  rw [hl]
  exact (dlogit_eq hI hι hG e).symm

theorem rDx_at (b : Fin 4) (s : Fin 16384) (d : Fin 4096) : (aDx (rDlog A) A.w : S4x16384x4096.Idx → EReal) (ix3 b s d) = A.dx b s d := by
  refine (aDx_at _ _ b s d).trans (Finset.sum_congr rfl fun e _ => ?_)
  rw [rDlog_at hA]

theorem rDw_at (d : Fin 4096) (e : Fin 128) : (aDw A.x (rDlog A) A.sc : S4096x128.Idx → EReal) (ix2 d e) = A.dw d e := by
  refine (aDw_at _ _ _ d e).trans (Finset.sum_congr rfl fun b _ => Finset.sum_congr rfl fun s _ => ?_)
  rw [rDlog_at hA, mul_comm]

end Cert.Ref

end

end
-- ==== Proof.lean ====
module

public import proofs.«01_k».proof.Defs
public import proofs.«01_k».proof.Proof.Gen.Pre_routed
public import proofs.«01_k».proof.Proof.Gen.Kernel.Frame
public import proofs.«01_k».proof.Proof.Gen.KernelIdeal.Frame
public import proofs.«01_k».proof.Proof.Gen.ReferenceIdeal.Frame
public import proofs.«01_k».proof.Proof.RunKernel.Frame
public import proofs.«01_k».proof.Proof.RunKernelIdeal.Frame
public import proofs.«01_k».proof.Proof.RunKernelIdeal.Value
public import proofs.«01_k».proof.Proof.Val.Arrays
public import proofs.«01_k».proof.Proof.Val.Routed
public import proofs.«01_k».proof.Proof.Val.RefRun
public import Idealize.ShloMosaic.Adequacy
public import Idealize.ShloMosaic.Init

@[expose] public section

noncomputable section

namespace Cert.Proof

open Idealize.ShloMosaic Idealize.ShloMosaic.ValueIdx Idealize.SL.Sem Cert.Kernel

/-- Under the precondition every token's experts are distinct and in range, and no gate's gradient is the kernel's mark. -/
theorem good (m : (ℓ : Loc Cert.KernelIdeal.nD Cert.KernelIdeal.τ Cert.KernelIdeal.sig) → Buf (Elt Ideal) ℓ) (c : Dev Cert.KernelIdeal.nD)
    (h : letI := Cert.Pre_routed.Gen.facts; Pre_KernelIdeal_routed m) : Cert.Ref.Good (Cert.Val.kargs m c) :=
  fun b s => Cert.Ref.routed_tok _ _ _ _ _ (h c) b s

/-- The kernel's three results are the reference's. -/
theorem same (m : (ℓ : Loc Cert.KernelIdeal.nD Cert.KernelIdeal.τ Cert.KernelIdeal.sig) → Buf (Elt Ideal) ℓ) (c : Dev Cert.KernelIdeal.nD)
    (h : Cert.Ref.Good (Cert.Val.kargs m c)) :
    (Cert.KernelIdeal.Value.G5 m c : Cert.KernelIdeal.S4x16384x4096.Idx → EReal) = Cert.Ref.aDx (Cert.Ref.rDlog (Cert.Val.kargs m c)) (Cert.Val.kargs m c).w
    ∧ (Cert.KernelIdeal.Value.G6 m c : Cert.KernelIdeal.S4096x128.Idx → EReal) = Cert.Ref.aDw (Cert.Val.kargs m c).x (Cert.Ref.rDlog (Cert.Val.kargs m c)) (Cert.Val.kargs m c).sc
    ∧ (Cert.KernelIdeal.Value.G7 m c : Cert.KernelIdeal.S4x16384x128.Idx → EReal) = Cert.Ref.rDlog (Cert.Val.kargs m c) := by
  refine ⟨funext fun i => ?_, funext fun i => ?_, funext fun i => ?_⟩
  · rw [eq_ix3 i]; exact (Cert.Val.G5_at m c _ _ _).trans (Cert.Ref.rDx_at h _ _ _).symm
  · rw [eq_ix2 i]; exact (Cert.Val.G6_at m c _ _).trans (Cert.Ref.rDw_at h _ _).symm
  · rw [eq_ix3 i]; exact (Cert.Val.G7_at m c _ _ _).trans (Cert.Ref.rDlog_at h _ _ _).symm

theorem value : algebraic_KernelIdeal_ReferenceIdeal_pre_routed (hKernelIdeal := Cert.KernelIdeal.Gen.facts)
    (hReferenceIdeal := Cert.ReferenceIdeal.Gen.facts) (hPre_routed := Cert.Pre_routed.Gen.facts) := by
  intro m g m' g' hpre harg
  have hargs : ∀ c, Cert.Ref.rargs m' c = Cert.Val.kargs m c := fun c => by
    obtain ⟨h0, h1, h2, h3, h4⟩ := harg c
    unfold Cert.Ref.rargs Cert.Val.kargs
    congr 1
  refine ⟨Cert.KernelIdeal.Value.G5 m, Cert.KernelIdeal.Value.G6 m, Cert.KernelIdeal.Value.G7 m, Cert.KernelIdeal.Value.run m g, ?_⟩
  refine (θ_run _ _ _).mono (fun r h c => ?_) (Cert.Ref.run m' g')
  obtain ⟨h63, h68, h60, hk⟩ := h c
  obtain ⟨s5, s6, s7⟩ := same m c (good m c hpre)
  rw [hargs c] at h63 h68 h60
  exact ⟨h63.trans s5.symm, h68.trans s6.symm, h60.trans s7.symm, hk⟩

theorem claim : Cert.Claim :=
  ⟨Cert.Kernel.Gen.facts, Cert.KernelIdeal.Gen.facts, Cert.ReferenceIdeal.Gen.facts, Cert.Pre_routed.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, value⟩

end Cert.Proof

end
